-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S_ : Shape := ⟨0, ![]⟩

class Facts : Prop where
  bitsLt_bf16_f32 : FTy.bits .bf16 < FTy.bits .f32
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel
  bcast_S_S2x16384x8x32 : S_.BroadcastsInDim S2x16384x8x32 (![] : Fin 0 → Fin S2x16384x8x32.rank)
  reducesTo_S2x16384x8x32_S_d0_1_2_3 : S2x16384x8x32.ReducesTo [0, 1, 2, 3] S_
  bcast_S_S2x16384x32 : S_.BroadcastsInDim S2x16384x32 (![] : Fin 0 → Fin S2x16384x32.rank)
  reducesTo_S2x16384x32_S_d0_1_2 : S2x16384x32.ReducesTo [0, 1, 2] S_

variable [Facts]

def fn_part2 {F : FTy → Type} [FloatOps F] (main_v30 : IVec S_ 1) (main_v31 : FVec F S2x16384x8x64 .f32) (main_v33 : IVec S2x16384x8x64 1) (main_cst_11 : FVec F S_ .f32) : IVec S_ 1 :=
  let main_v34 : FVec F S2x16384x8x64 .f32 := broadcastInDim S2x16384x8x64 ![] bcast_S_S2x16384x8x64 main_cst_11
  let main_v35 : IVec S2x16384x8x64 1 := cmpf .ogt main_v31 main_v34
  let main_v36 : IVec S2x16384x8x64 1 := andi main_v33 main_v35
  let main_c_12 : IVec S_ 1 := constantI S_ 1 1#1
  let main_v37 : IVec S_ 1 := (fun x v => Host.reduce IntOp.andi x v reducesTo_S2x16384x8x64_S_d0_1_2_3 h_S_) main_v36 main_c_12
  let main_v38 : IVec S_ 1 := andi main_v30 main_v37
  main_v38

def fn_part1 {F : FTy → Type} [FloatOps F] (main_arg3 : FVec F S2x16384x32 .bf16) (main_arg4 : FVec F S2x16384x8x64 .bf16) (main_v14 : IVec S_ 1) (main_v15 : FVec F S2x16384x8x64 .f32) (main_v16 : FVec F S2x16384x8x64 .f32) : IVec S_ 1 :=
  let main_v17 : IVec S2x16384x8x64 1 := cmpf .olt main_v15 main_v16
  let main_cst_5 : FVec F S_ .f32 := constant S_ .f32 0xFF800000#32
  let main_v18 : FVec F S2x16384x8x64 .f32 := broadcastInDim S2x16384x8x64 ![] bcast_S_S2x16384x8x64 main_cst_5
  let main_v19 : IVec S2x16384x8x64 1 := cmpf .ogt main_v15 main_v18
  let main_v20 : IVec S2x16384x8x64 1 := andi main_v17 main_v19
  let main_c_6 : IVec S_ 1 := constantI S_ 1 1#1
  let main_v21 : IVec S_ 1 := (fun x v => Host.reduce IntOp.andi x v reducesTo_S2x16384x8x64_S_d0_1_2_3 h_S_) main_v20 main_c_6
  let main_v22 : IVec S_ 1 := andi main_v14 main_v21
  let main_v23 : FVec F S2x16384x32 .f32 := (extf .f32 · bitsLt_bf16_f32) main_arg3
  let main_cst_7 : FVec F S_ .f32 := constant S_ .f32 0x7F800000#32
  let main_v24 : FVec F S2x16384x32 .f32 := broadcastInDim S2x16384x32 ![] bcast_S_S2x16384x32 main_cst_7
  let main_v25 : IVec S2x16384x32 1 := cmpf .olt main_v23 main_v24
  let main_cst_8 : FVec F S_ .f32 := constant S_ .f32 0xFF800000#32
  let main_v26 : FVec F S2x16384x32 .f32 := broadcastInDim S2x16384x32 ![] bcast_S_S2x16384x32 main_cst_8
  let main_v27 : IVec S2x16384x32 1 := cmpf .ogt main_v23 main_v26
  let main_v28 : IVec S2x16384x32 1 := andi main_v25 main_v27
  let main_c_9 : IVec S_ 1 := constantI S_ 1 1#1
  let main_v29 : IVec S_ 1 := (fun x v => Host.reduce IntOp.andi x v reducesTo_S2x16384x32_S_d0_1_2 h_S_) main_v28 main_c_9
  let main_v30 : IVec S_ 1 := andi main_v22 main_v29
  let main_v31 : FVec F S2x16384x8x64 .f32 := (extf .f32 · bitsLt_bf16_f32) main_arg4
  let main_cst_10 : FVec F S_ .f32 := constant S_ .f32 0x7F800000#32
  let main_v32 : FVec F S2x16384x8x64 .f32 := broadcastInDim S2x16384x8x64 ![] bcast_S_S2x16384x8x64 main_cst_10
  let main_v33 : IVec S2x16384x8x64 1 := cmpf .olt main_v31 main_v32
  let main_cst_11 : FVec F S_ .f32 := constant S_ .f32 0xFF800000#32
  fn_part2 (F := F) main_v30 main_v31 main_v33 main_cst_11

def fn {F : FTy → Type} [FloatOps F] (main_arg0 : FVec F S2x16384x8x64 .bf16) (main_arg1 : FVec F S2x16384x8x32 .bf16) (main_arg2 : FVec F S2x16384x8x64 .bf16) (main_arg3 : FVec F S2x16384x32 .bf16) (main_arg4 : FVec F S2x16384x8x64 .bf16) : IVec S_ 1 :=
  let main_v0 : FVec F S2x16384x8x64 .f32 := (extf .f32 · bitsLt_bf16_f32) main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_cst_0 : FVec F S_ .f32 := constant S_ .f32 0xFF800000#32
  let main_v3 : FVec F S2x16384x8x64 .f32 := broadcastInDim S2x16384x8x64 ![] bcast_S_S2x16384x8x64 main_cst_0
  let main_v4 : IVec S2x16384x8x64 1 := cmpf .ogt main_v0 main_v3
  let main_v5 : IVec S2x16384x8x64 1 := andi main_v2 main_v4
  let main_c : IVec S_ 1 := constantI S_ 1 1#1
  let main_v6 : IVec S_ 1 := (fun x v => Host.reduce IntOp.andi x v reducesTo_S2x16384x8x64_S_d0_1_2_3 h_S_) main_v5 main_c
  let main_v7 : FVec F S2x16384x8x32 .f32 := (extf .f32 · bitsLt_bf16_f32) main_arg1
  let main_cst_1 : FVec F S_ .f32 := constant S_ .f32 0x7F800000#32
  let main_v8 : FVec F S2x16384x8x32 .f32 := broadcastInDim S2x16384x8x32 ![] bcast_S_S2x16384x8x32 main_cst_1
  let main_v9 : IVec S2x16384x8x32 1 := cmpf .olt main_v7 main_v8
  let main_cst_2 : FVec F S_ .f32 := constant S_ .f32 0xFF800000#32
  let main_v10 : FVec F S2x16384x8x32 .f32 := broadcastInDim S2x16384x8x32 ![] bcast_S_S2x16384x8x32 main_cst_2
  let main_v11 : IVec S2x16384x8x32 1 := cmpf .ogt main_v7 main_v10
  let main_v12 : IVec S2x16384x8x32 1 := andi main_v9 main_v11
  let main_c_3 : IVec S_ 1 := constantI S_ 1 1#1
  let main_v13 : IVec S_ 1 := (fun x v => Host.reduce IntOp.andi x v reducesTo_S2x16384x8x32_S_d0_1_2_3 h_S_) main_v12 main_c_3
  let main_v14 : IVec S_ 1 := andi main_v6 main_v13
  let main_v15 : FVec F S2x16384x8x64 .f32 := (extf .f32 · bitsLt_bf16_f32) main_arg2
  let main_cst_4 : FVec F S_ .f32 := constant S_ .f32 0x7F800000#32
  let main_v16 : FVec F S2x16384x8x64 .f32 := broadcastInDim S2x16384x8x64 ![] bcast_S_S2x16384x8x64 main_cst_4
  fn_part1 (F := F) main_arg3 main_arg4 main_v14 main_v15 main_v16
-- ==== Kernel.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S272 : Shape := ⟨1, ![272]⟩
abbrev S_ : Shape := ⟨0, ![]⟩
abbrev S2x16384x8x128 : Shape := ⟨4, ![2, 16384, 8, 128]⟩
abbrev S2x16384x1024 : Shape := ⟨3, ![2, 16384, 1024]⟩
abbrev S2x16384x1x32 : Shape := ⟨4, ![2, 16384, 1, 32]⟩
abbrev S2x16384x8x1 : Shape := ⟨4, ![2, 16384, 8, 1]⟩
abbrev S2x16384x8x63 : Shape := ⟨4, ![2, 16384, 8, 63]⟩
abbrev S2x1024x16384 : Shape := ⟨3, ![2, 1024, 16384]⟩
abbrev S2x16384x512 : Shape := ⟨3, ![2, 16384, 512]⟩
abbrev S1x1024x1024 : Shape := ⟨3, ![1, 1024, 1024]⟩
abbrev S1 : Shape := ⟨1, ![1]⟩
abbrev S1x512x1024 : Shape := ⟨3, ![1, 512, 1024]⟩
abbrev S1x1024x512 : Shape := ⟨3, ![1, 1024, 512]⟩
abbrev S8x1024 : Shape := ⟨2, ![8, 1024]⟩
abbrev S8x128x1024 : Shape := ⟨3, ![8, 128, 1024]⟩
abbrev S512x256 : Shape := ⟨2, ![512, 256]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S1x256 : Shape := ⟨2, ![1, 256]⟩
abbrev S256 : Shape := ⟨1, ![256]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S1x128x1024 : Shape := ⟨3, ![1, 128, 1024]⟩
abbrev S128x1024 : Shape := ⟨2, ![128, 1024]⟩
abbrev S64x1024 : Shape := ⟨2, ![64, 1024]⟩
abbrev S1x1024 : Shape := ⟨2, ![1, 1024]⟩
abbrev S512x1024 : Shape := ⟨2, ![512, 1024]⟩
abbrev S1024x512 : Shape := ⟨2, ![1024, 512]⟩

abbrev nBuf : Space → Nat
  | .hbm => 30
  | .vmem => 10
  | .smem => 3
  | _ => 0

abbrev bufTy : (tb : Table) → Fin (tcTables nBuf tb) → BufTy
  | .hbm, ⟨0, _⟩ => ⟨S2x16384x8x64, .bf16⟩
  | .hbm, ⟨1, _⟩ => ⟨S2x16384x8x32, .bf16⟩
  | .hbm, ⟨2, _⟩ => ⟨S2x16384x8x64, .bf16⟩
  | .hbm, ⟨3, _⟩ => ⟨S2x16384x32, .bf16⟩
  | .hbm, ⟨4, _⟩ => ⟨S2x16384x8x64, .bf16⟩
  | .hbm, ⟨5, _⟩ => ⟨S_, .bf16⟩
  | .hbm, ⟨6, _⟩ => ⟨S2x16384x8x32, .bf16⟩
  | .hbm, ⟨7, _⟩ => ⟨S2x16384x8x128, .bf16⟩
  | .hbm, ⟨8, _⟩ => ⟨S2x16384x1024, .bf16⟩
  | .hbm, ⟨9, _⟩ => ⟨S2x16384x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x16384x1024, .f32⟩
  | .hbm, ⟨16, _⟩ => ⟨S2x16384x1024, .f32⟩
  | .hbm, ⟨17, _⟩ => ⟨S2x16384x1024, .bf16⟩
  | .hbm, ⟨18, _⟩ => ⟨S2x16384x1x32, .bf16⟩
  | .hbm, ⟨19, _⟩ => ⟨S2x16384x8x32, .bf16⟩
  | .hbm, ⟨20, _⟩ => ⟨S2x16384x8x128, .bf16⟩
  | .hbm, ⟨21, _⟩ => ⟨S2x16384x1024, .bf16⟩
  | .hbm, ⟨22, _⟩ => ⟨S_, .bf16⟩
  | .hbm, ⟨23, _⟩ => ⟨S2x16384x8x1, .bf16⟩
  | .hbm, ⟨24, _⟩ => ⟨S_, .bf16⟩
  | .hbm, ⟨25, _⟩ => ⟨S2x16384x8x63, .bf16⟩
  | .hbm, ⟨26, _⟩ => ⟨S2x16384x8x128, .bf16⟩
  | .hbm, ⟨27, _⟩ => ⟨S2x16384x1024, .bf16⟩
  | .hbm, ⟨28, _⟩ => ⟨S2x1024x16384, .bf16⟩
  | .hbm, ⟨29, _⟩ => ⟨S2x16384x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S8x1024, .f32⟩
  | .local _ .vmem, ⟨9, _⟩ => ⟨S8x128x1024, .f32⟩
  | .local _ .smem, ⟨0, _⟩ => ⟨S272, .i32⟩
  | .local _ .smem, ⟨1, _⟩ => ⟨S272, .i32⟩
  | .local _ .smem, ⟨2, _⟩ => ⟨S272, .i32⟩
  | _, _ => ⟨S2x16384x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 272], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v24 : Index := Scalar.indexCast arg1
  ![v24.toNat]
def k0_off3 (i : grid0.Coords) : Fin 1 → Nat :=
  let arg1 : BitVec 32 := BitVec.ofNat 32 (i 1).val
  let v24 : Index := Scalar.indexCast arg1
  ![v24.toNat]
def k0_cond5 (v1 : BitVec 32) : BitVec 1 :=
  let c2_i32 : BitVec 32 := 2#32
  let v4 : BitVec 32 := Scalar.andi v1 c2_i32
  let c0_i32_0 : BitVec 32 := 0#32
  let v5 : BitVec 1 := Scalar.cmpi .ne v4 c0_i32_0
  let v22 : BitVec 32 := Scalar.extui v5
  let c0_i32_8 : BitVec 32 := 0#32
  let v23 : BitVec 1 := Scalar.cmpi .ne v22 c0_i32_8
  v23

def cc0_transform_0 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S272) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S272) ![v0.toNat] S1.size (k0_off1_inb i)) numel1_S1
  let c0_i32 : BitVec 32 := 0#32
  let c0_i32_0 : BitVec 32 := 0#32
  ![arg0.toNat, c0_i32.toNat, v1.toNat]

def cc0_transform_3 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x8x16384x16384 : Shape := ⟨4, ![2, 8, 16384, 16384]⟩
abbrev S2x16384x16384x8 : Shape := ⟨4, ![2, 16384, 16384, 8]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x8x64, .bf16⟩
  | .hbm, ⟨1, _⟩ => ⟨S2x16384x8x32, .bf16⟩
  | .hbm, ⟨2, _⟩ => ⟨S2x16384x8x64, .bf16⟩
  | .hbm, ⟨3, _⟩ => ⟨S2x16384x32, .bf16⟩
  | .hbm, ⟨4, _⟩ => ⟨S2x16384x8x64, .bf16⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S2x8x16384x16384, .f32⟩
  | .hbm, ⟨30, _⟩ => ⟨S2x8x16384x16384, .bf16⟩
  | .hbm, ⟨31, _⟩ => ⟨S2x16384x16384x8, .f32⟩
  | .hbm, ⟨32, _⟩ => ⟨S2x8x16384x16384, .f32⟩
  | .hbm, ⟨33, _⟩ => ⟨S2x8x16384x16384, .bf16⟩
  | .hbm, ⟨34, _⟩ => ⟨S2x8x16384x16384, .bf16⟩
  | .hbm, ⟨35, _⟩ => ⟨S2x8x16384x16384, .f32⟩
  | .hbm, ⟨36, _⟩ => ⟨S_, .f32⟩
  | .hbm, ⟨37, _⟩ => ⟨S_, .f32⟩
  | .hbm, ⟨38, _⟩ => ⟨S2x8x16384x16384, .f32⟩
  | .hbm, ⟨39, _⟩ => ⟨S2x8x16384x16384, .f32⟩
  | .hbm, ⟨40, _⟩ => ⟨S_, .f32⟩
  | .hbm, ⟨41, _⟩ => ⟨S_, .f32⟩
  | .hbm, ⟨42, _⟩ => ⟨S2x8x16384x16384, .i1⟩
  | .hbm, ⟨43, _⟩ => ⟨S2x8x16384x16384, .f32⟩
  | .hbm, ⟨44, _⟩ => ⟨S2x8x16384x16384, .f32⟩
  | .hbm, ⟨45, _⟩ => ⟨S_, .f32⟩
  | .hbm, ⟨46, _⟩ => ⟨S2x8x16384, .f32⟩
  | .hbm, ⟨47, _⟩ => ⟨S_, .f32⟩
  | .hbm, ⟨48, _⟩ => ⟨S2x8x16384, .f32⟩
  | .hbm, ⟨49, _⟩ => ⟨S2x8x16384, .f32⟩
  | .hbm, ⟨50, _⟩ => ⟨S2x8x16384x1, .f32⟩
  | .hbm, ⟨51, _⟩ => ⟨S2x8x16384x16384, .f32⟩
  | .hbm, ⟨52, _⟩ => ⟨S2x8x16384x16384, .f32⟩
  | .hbm, ⟨53, _⟩ => ⟨S2x8x16384x16384, .f32⟩
  | .hbm, ⟨54, _⟩ => ⟨S_, .f32⟩
  | .hbm, ⟨55, _⟩ => ⟨S2x8x16384, .f32⟩
  | .hbm, ⟨56, _⟩ => ⟨S2x8x16384x1, .f32⟩
  | .hbm, ⟨57, _⟩ => ⟨S2x8x16384x16384, .f32⟩
  | .hbm, ⟨58, _⟩ => ⟨S2x8x16384x16384, .f32⟩
  | .hbm, ⟨59, _⟩ => ⟨S2x8x16384x16384, .bf16⟩
  | .hbm, ⟨60, _⟩ => ⟨S2x8x64x16384, .f32⟩
  | .hbm, ⟨61, _⟩ => ⟨S2x16384x8x64, .f32⟩
  | .hbm, ⟨62, _⟩ => ⟨S2x16384x8x64, .bf16⟩
  | .hbm, ⟨63, _⟩ => ⟨S2x16384x512, .bf16⟩
  | _, _ => ⟨S2x16384x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S32768x1024, .f32⟩
  | .hbm, ⟨6, _⟩ => ⟨S1x1x1024, .f32⟩
  | .hbm, ⟨7, _⟩ => ⟨S1024, .f32⟩
  | .hbm, ⟨8, _⟩ => ⟨S4x2x1024x5632, .bf16⟩
  | .hbm, ⟨9, _⟩ => ⟨S4x2x2816x1024, .bf16⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1x1024 : Shape := ⟨3, ![2, 1, 1024]⟩
abbrev S2x1024 : Shape := ⟨2, ![2, 1024]⟩
abbrev S_ : Shape := ⟨0, ![]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S1x1x1024, .f32⟩
  | .hbm, ⟨16, _⟩ => ⟨S1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S2x16384x1024, .f32⟩
  | .hbm, ⟨32, _⟩ => ⟨S2x16384x1024, .f32⟩
  | .hbm, ⟨33, _⟩ => ⟨S2x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x1x1024, .f32⟩
  | .hbm, ⟨40, _⟩ => ⟨S2x16384x1024, .f32⟩
  | .hbm, ⟨41, _⟩ => ⟨S2x16384x1024, .f32⟩
  | .hbm, ⟨42, _⟩ => ⟨S1x1x1024x5632, .f32⟩
  | .hbm, ⟨43, _⟩ => ⟨S1024x5632, .f32⟩
  | .hbm, ⟨44, _⟩ => ⟨S1x1x2816x1024, .f32⟩
  | .hbm, ⟨45, _⟩ => ⟨S2816x1024, .f32⟩
  | .hbm, ⟨46, _⟩ => ⟨S2x16384x5632, .f32⟩
  | .hbm, ⟨47, _⟩ => ⟨S2x16384x2816, .f32⟩
  | .hbm, ⟨48, _⟩ => ⟨S2x16384x2816, .f32⟩
  | .hbm, ⟨49, _⟩ => ⟨S2x16384x2816, .f32⟩
  | .hbm, ⟨50, _⟩ => ⟨S2x16384x2816, .f32⟩
  | .hbm, ⟨51, _⟩ => ⟨S_, .f32⟩
  | .hbm, ⟨52, _⟩ => ⟨S2x16384x2816, .f32⟩
  | .hbm, ⟨53, _⟩ => ⟨S2x16384x2816, .f32⟩
  | .hbm, ⟨54, _⟩ => ⟨S_, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S2x16384x2816, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S2x1024x1024 : Shape := ⟨3, ![2, 1024, 1024]⟩
abbrev S32768x1024 : Shape := ⟨2, ![32768, 1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 20
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1024, .f32⟩
  | .hbm, ⟨6, _⟩ => ⟨S2x16384x1024, .bf16⟩
  | .hbm, ⟨7, _⟩ => ⟨S2x1024x1024, .f32⟩
  | .hbm, ⟨8, _⟩ => ⟨S32768x1024, .f32⟩
  | .hbm, ⟨9, _⟩ => ⟨S1x1x1024, .f32⟩
  | .hbm, ⟨10, _⟩ => ⟨S1024, .f32⟩
  | .hbm, ⟨11, _⟩ => ⟨S4x2x1024x5632, .bf16⟩
  | .hbm, ⟨12, _⟩ => ⟨S4x2x2816x1024, .bf16⟩
  | .hbm, ⟨13, _⟩ => ⟨S32768x1024, .bf16⟩
  | .hbm, ⟨14, _⟩ => ⟨S1x1024x1024, .f32⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S2x1024x1024 : Shape := ⟨3, ![2, 1024, 1024]⟩
abbrev S2x1x1024 : Shape := ⟨3, ![2, 1, 1024]⟩
abbrev S2x1024 : Shape := ⟨2, ![2, 1024]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1024, .f32⟩
  | .hbm, ⟨6, _⟩ => ⟨S2x16384x1024, .bf16⟩
  | .hbm, ⟨7, _⟩ => ⟨S2x1024x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x16384x1024, .f32⟩
  | .hbm, ⟨18, _⟩ => ⟨S1x1024x1024, .f32⟩
  | .hbm, ⟨19, _⟩ => ⟨S1024x1024, .f32⟩
  | .hbm, ⟨20, _⟩ => ⟨S2x16384x1024, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S1x1x1024, .f32⟩
  | .hbm, ⟨29, _⟩ => ⟨S1024, .f32⟩
  | .hbm, ⟨30, _⟩ => ⟨S2x16384x1024, .f32⟩
  | .hbm, ⟨31, _⟩ => ⟨S_, .f32⟩
  | .hbm, ⟨32, _⟩ => ⟨S2x16384, .f32⟩
  | .hbm, ⟨33, _⟩ => ⟨S2x16384x1, .f32⟩
  | .hbm, ⟨34, _⟩ => ⟨S_, .f32⟩
  | .hbm, ⟨35, _⟩ => ⟨S2x16384x1, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S2x16384x1, .f32⟩
  | .hbm, ⟨41, _⟩ => ⟨S2x16384x1024, .f32⟩
  | .hbm, ⟨42, _⟩ => ⟨S2x16384x1024, .f32⟩
  | .hbm, ⟨43, _⟩ => ⟨S1x1x1024, .f32⟩
  | .hbm, ⟨44, _⟩ => ⟨S2x16384x1024, .f32⟩
  | .hbm, ⟨45, _⟩ => ⟨S2x16384x1024, .f32⟩
  | .hbm, ⟨46, _⟩ => ⟨S2x1x1024, .f32⟩
  | .hbm, ⟨47, _⟩ => ⟨S_, .f32⟩
  | .hbm, ⟨48, _⟩ => ⟨S2x1x1024, .f32⟩
  | .hbm, ⟨49, _⟩ => ⟨S2x1x1024, .f32⟩
  | .hbm, ⟨50, _⟩ => ⟨S2x16384x1024, .f32⟩
  | .hbm, ⟨51, _⟩ => ⟨S2x16384x1024, .f32⟩
  | .hbm, ⟨52, _⟩ => ⟨S2x1x1024, .f32⟩
  | .hbm, ⟨53, _⟩ => ⟨S2x16384x1024, .f32⟩
  | .hbm, ⟨54, _⟩ => ⟨S2x16384x1024, .f32⟩
  | .hbm, ⟨55, _⟩ => ⟨S1x1x1024x5632, .f32⟩
  | .hbm, ⟨56, _⟩ => ⟨S1024x5632, .f32⟩
  | .hbm, ⟨57, _⟩ => ⟨S1x1x2816x1024, .f32⟩
  | .hbm, ⟨58, _⟩ => ⟨S2816x1024, .f32⟩
  | .hbm, ⟨59, _⟩ => ⟨S2x16384x5632, .f32⟩
  | .hbm, ⟨60, _⟩ => ⟨S2x16384x2816, .f32⟩
  | .hbm, ⟨61, _⟩ => ⟨S2x16384x2816, .f32⟩
  | .hbm, ⟨62, _⟩ => ⟨S2x16384x2816, .f32⟩
  | .hbm, ⟨63, _⟩ => ⟨S2x16384x2816, .f32⟩
  | .hbm, ⟨64, _⟩ => ⟨S_, .f32⟩
  | .hbm, ⟨65, _⟩ => ⟨S2x16384x2816, .f32⟩
  | .hbm, ⟨66, _⟩ => ⟨S2x16384x2816, .f32⟩
  | .hbm, ⟨67, _⟩ => ⟨S_, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S2x16384x2816, .f32⟩
  | .hbm, ⟨72, _⟩ => ⟨S2x16384x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S2x16384x1024, .f32⟩
  | .hbm, ⟨77, _⟩ => ⟨S_, .f32⟩
  | .hbm, ⟨78, _⟩ => ⟨S2x16384, .f32⟩
  | .hbm, ⟨79, _⟩ => ⟨S2x16384x1, .f32⟩
  | .hbm, ⟨80, _⟩ => ⟨S_, .f32⟩
  | .hbm, ⟨81, _⟩ => ⟨S2x16384x1, .f32⟩
  | .hbm, ⟨82, _⟩ => ⟨S2x16384x1, .f32⟩
  | .hbm, ⟨83, _⟩ => ⟨S_, .f32⟩
  | .hbm, ⟨84, _⟩ => ⟨S2x16384x1, .f32⟩
  | .hbm, ⟨85, _⟩ => ⟨S2x16384x1, .f32⟩
  | .hbm, ⟨86, _⟩ => ⟨S2x16384x1, .f32⟩
  | .hbm, ⟨87, _⟩ => ⟨S2x16384x1024, .f32⟩
  | .hbm, ⟨88, _⟩ => ⟨S2x16384x1024, .f32⟩
  | .hbm, ⟨89, _⟩ => ⟨S1x1x1024, .f32⟩
  | .hbm, ⟨90, _⟩ => ⟨S2x16384x1024, .f32⟩
  | .hbm, ⟨91, _⟩ => ⟨S2x16384x1024, .f32⟩
  | .hbm, ⟨92, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_cst_5 : Ref sig .tc := ⟨.hbm, 80, rfl⟩
abbrev main_v58 : Ref sig .tc := ⟨.hbm, 81, rfl⟩
abbrev main_v59 : Ref sig .tc := ⟨.hbm, 82, rfl⟩
abbrev main_cst_6 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S32768x1024 : Shape := ⟨2, ![32768, 1024]⟩
abbrev S1x1x1024 : Shape := ⟨3, ![1, 1, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 18
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S2x16384x1024, .bf16⟩
  | .hbm, ⟨6, _⟩ => ⟨S2x1024x1024, .f32⟩
  | .hbm, ⟨7, _⟩ => ⟨S32768x1024, .f32⟩
  | .hbm, ⟨8, _⟩ => ⟨S1x1x1024, .f32⟩
  | .hbm, ⟨9, _⟩ => ⟨S1024, .f32⟩
  | .hbm, ⟨10, _⟩ => ⟨S4x2x1024x5632, .bf16⟩
  | .hbm, ⟨11, _⟩ => ⟨S4x2x2816x1024, .bf16⟩
  | .hbm, ⟨12, _⟩ => ⟨S32768x1024, .bf16⟩
  | .hbm, ⟨13, _⟩ => ⟨S1x1024x1024, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S2x1x1024 : Shape := ⟨3, ![2, 1, 1024]⟩
abbrev S2x1024 : Shape := ⟨2, ![2, 1024]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S2x16384x1024, .bf16⟩
  | .hbm, ⟨6, _⟩ => ⟨S2x1024x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x16384x1024, .f32⟩
  | .hbm, ⟨17, _⟩ => ⟨S1x1024x1024, .f32⟩
  | .hbm, ⟨18, _⟩ => ⟨S1024x1024, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S2x16384x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S1x1x1024, .f32⟩
  | .hbm, ⟨28, _⟩ => ⟨S1024, .f32⟩
  | .hbm, ⟨29, _⟩ => ⟨S2x16384x1024, .f32⟩
  | .hbm, ⟨30, _⟩ => ⟨S_, .f32⟩
  | .hbm, ⟨31, _⟩ => ⟨S2x16384, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S_, .f32⟩
  | .hbm, ⟨37, _⟩ => ⟨S2x16384x1, .f32⟩
  | .hbm, ⟨38, _⟩ => ⟨S2x16384x1, .f32⟩
  | .hbm, ⟨39, _⟩ => ⟨S2x16384x1, .f32⟩
  | .hbm, ⟨40, _⟩ => ⟨S2x16384x1024, .f32⟩
  | .hbm, ⟨41, _⟩ => ⟨S2x16384x1024, .f32⟩
  | .hbm, ⟨42, _⟩ => ⟨S1x1x1024, .f32⟩
  | .hbm, ⟨43, _⟩ => ⟨S2x16384x1024, .f32⟩
  | .hbm, ⟨44, _⟩ => ⟨S2x16384x1024, .f32⟩
  | .hbm, ⟨45, _⟩ => ⟨S2x1x1024, .f32⟩
  | .hbm, ⟨46, _⟩ => ⟨S_, .f32⟩
  | .hbm, ⟨47, _⟩ => ⟨S2x1x1024, .f32⟩
  | .hbm, ⟨48, _⟩ => ⟨S2x1x1024, .f32⟩
  | .hbm, ⟨49, _⟩ => ⟨S2x16384x1024, .f32⟩
  | .hbm, ⟨50, _⟩ => ⟨S2x16384x1024, .f32⟩
  | .hbm, ⟨51, _⟩ => ⟨S2x1x1024, .f32⟩
  | .hbm, ⟨52, _⟩ => ⟨S2x16384x1024, .f32⟩
  | .hbm, ⟨53, _⟩ => ⟨S2x16384x1024, .f32⟩
  | .hbm, ⟨54, _⟩ => ⟨S1x1x1024x5632, .f32⟩
  | .hbm, ⟨55, _⟩ => ⟨S1024x5632, .f32⟩
  | .hbm, ⟨56, _⟩ => ⟨S1x1x2816x1024, .f32⟩
  | .hbm, ⟨57, _⟩ => ⟨S2816x1024, .f32⟩
  | .hbm, ⟨58, _⟩ => ⟨S2x16384x5632, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S2x16384x2816, .f32⟩
  | .hbm, ⟨63, _⟩ => ⟨S_, .f32⟩
  | .hbm, ⟨64, _⟩ => ⟨S2x16384x2816, .f32⟩
  | .hbm, ⟨65, _⟩ => ⟨S2x16384x2816, .f32⟩
  | .hbm, ⟨66, _⟩ => ⟨S_, .f32⟩
  | .hbm, ⟨67, _⟩ => ⟨S2x16384x2816, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S2x16384x1024, .f32⟩
  | .hbm, ⟨72, _⟩ => ⟨S2x16384x1024, .f32⟩
  | .hbm, ⟨73, _⟩ => ⟨S2x16384x1024, .f32⟩
  | .hbm, ⟨74, _⟩ => ⟨S2x16384x1024, .f32⟩
  | .hbm, ⟨75, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x16384x512 : Shape := ⟨3, ![2, 16384, 512]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S32768x1024 : Shape := ⟨2, ![32768, 1024]⟩
abbrev S1x1x1024 : Shape := ⟨3, ![1, 1, 1024]⟩
abbrev S1024 : Shape := ⟨1, ![1024]⟩
abbrev S32768x512 : Shape := ⟨2, ![32768, 512]⟩
abbrev S512x1024 : Shape := ⟨2, ![512, 1024]⟩
abbrev S1x1024 : Shape := ⟨2, ![1, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x512 : Shape := ⟨2, ![1024, 512]⟩
abbrev S1024x2816 : Shape := ⟨2, ![1024, 2816]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 22
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S2x16384x512, .bf16⟩
  | .hbm, ⟨6, _⟩ => ⟨S2x16384x512, .bf16⟩
  | .hbm, ⟨7, _⟩ => ⟨S2x1024x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S32768x1024, .f32⟩
  | .hbm, ⟨12, _⟩ => ⟨S1x1x1024, .f32⟩
  | .hbm, ⟨13, _⟩ => ⟨S1024, .f32⟩
  | .hbm, ⟨14, _⟩ => ⟨S4x2x1024x5632, .bf16⟩
  | .hbm, ⟨15, _⟩ => ⟨S4x2x2816x1024, .bf16⟩
  | .hbm, ⟨16, _⟩ => ⟨S32768x512, .bf16⟩
  | .hbm, ⟨17, _⟩ => ⟨S512x1024, .bf16⟩
  | .hbm, ⟨18, _⟩ => ⟨S32768x512, .bf16⟩
  | .hbm, ⟨19, _⟩ => ⟨S512x1024, .bf16⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x16384x1024 : Shape := ⟨3, ![2, 16384, 1024]⟩
abbrev S2x9x1024 : Shape := ⟨3, ![2, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x16384x512 : Shape := ⟨3, ![2, 16384, 512]⟩
abbrev S2x1024x1024 : Shape := ⟨3, ![2, 1024, 1024]⟩
abbrev S2x1x1024 : Shape := ⟨3, ![2, 1, 1024]⟩
abbrev S2x1024 : Shape := ⟨2, ![2, 1024]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S2x16384x512, .bf16⟩
  | .hbm, ⟨6, _⟩ => ⟨S2x16384x512, .bf16⟩
  | .hbm, ⟨7, _⟩ => ⟨S2x1024x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x16384x512, .f32⟩
  | .hbm, ⟨17, _⟩ => ⟨S2x16384x512, .f32⟩
  | .hbm, ⟨18, _⟩ => ⟨S2x16384x1024, .f32⟩
  | .hbm, ⟨19, _⟩ => ⟨S1x1024x1024, .f32⟩
  | .hbm, ⟨20, _⟩ => ⟨S1024x1024, .f32⟩
  | .hbm, ⟨21, _⟩ => ⟨S2x16384x1024, .f32⟩
  | .hbm, ⟨22, _⟩ => ⟨S2x1x1024, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S1x1x1024, .f32⟩
  | .hbm, ⟨31, _⟩ => ⟨S1024, .f32⟩
  | .hbm, ⟨32, _⟩ => ⟨S2x16384x1024, .f32⟩
  | .hbm, ⟨33, _⟩ => ⟨S_, .f32⟩
  | .hbm, ⟨34, _⟩ => ⟨S2x16384, .f32⟩
  | .hbm, ⟨35, _⟩ => ⟨S2x16384x1, .f32⟩
  | .hbm, ⟨36, _⟩ => ⟨S_, .f32⟩
  | .hbm, ⟨37, _⟩ => ⟨S2x16384x1, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S2x16384x1, .f32⟩
  | .hbm, ⟨43, _⟩ => ⟨S2x16384x1024, .f32⟩
  | .hbm, ⟨44, _⟩ => ⟨S2x16384x1024, .f32⟩
  | .hbm, ⟨45, _⟩ => ⟨S1x1x1024, .f32⟩
  | .hbm, ⟨46, _⟩ => ⟨S2x16384x1024, .f32⟩
  | .hbm, ⟨47, _⟩ => ⟨S2x16384x1024, .f32⟩
  | .hbm, ⟨48, _⟩ => ⟨S2x1x1024, .f32⟩
  | .hbm, ⟨49, _⟩ => ⟨S_, .f32⟩
  | .hbm, ⟨50, _⟩ => ⟨S2x1x1024, .f32⟩
  | .hbm, ⟨51, _⟩ => ⟨S2x1x1024, .f32⟩
  | .hbm, ⟨52, _⟩ => ⟨S2x16384x1024, .f32⟩
  | .hbm, ⟨53, _⟩ => ⟨S2x16384x1024, .f32⟩
  | .hbm, ⟨54, _⟩ => ⟨S2x1x1024, .f32⟩
  | .hbm, ⟨55, _⟩ => ⟨S2x16384x1024, .f32⟩
  | .hbm, ⟨56, _⟩ => ⟨S2x16384x1024, .f32⟩
  | .hbm, ⟨57, _⟩ => ⟨S1x1x1024x5632, .f32⟩
  | .hbm, ⟨58, _⟩ => ⟨S1024x5632, .f32⟩
  | .hbm, ⟨59, _⟩ => ⟨S1x1x2816x1024, .f32⟩
  | .hbm, ⟨60, _⟩ => ⟨S2816x1024, .f32⟩
  | .hbm, ⟨61, _⟩ => ⟨S2x16384x5632, .f32⟩
  | .hbm, ⟨62, _⟩ => ⟨S2x16384x2816, .f32⟩
  | .hbm, ⟨63, _⟩ => ⟨S2x16384x2816, .f32⟩
  | .hbm, ⟨64, _⟩ => ⟨S2x16384x2816, .f32⟩
  | .hbm, ⟨65, _⟩ => ⟨S2x16384x2816, .f32⟩
  | .hbm, ⟨66, _⟩ => ⟨S_, .f32⟩
  | .hbm, ⟨67, _⟩ => ⟨S2x16384x2816, .f32⟩
  | .hbm, ⟨68, _⟩ => ⟨S2x16384x2816, .f32⟩
  | .hbm, ⟨69, _⟩ => ⟨S_, .f32⟩
  | .hbm, ⟨70, _⟩ => ⟨S2x16384x2816, .f32⟩
  | .hbm, ⟨71, _⟩ => ⟨S2x16384x2816, .f32⟩
  | .hbm, ⟨72, _⟩ => ⟨S2x16384x2816, .f32⟩
  | .hbm, ⟨73, _⟩ => ⟨S2x16384x2816, .f32⟩
  | .hbm, ⟨74, _⟩ => ⟨S2x16384x1024, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | .hbm, ⟨78, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Proof.Body.lean ====
/- The kernel body at a grid point, stated as a program of its own: one block product and one step of the running softmax,
   each at a head h and a query block c, run down a list of (h, c) with three products in flight. The printed body is this
   program by unfolding, and this program is run once, at a symbolic (h, c). -/
module

public import proofs.«01_k».proof.Proof.Gen.KernelIdeal.Launch
public import Idealize.ShloMosaic.Lib.VecWindow
public import Idealize.ShloMosaic.Lib.Tactic
public import Idealize.ShloMosaic.Lib.Pipeline.FrameBody

@[expose] public section

set_option maxRecDepth 16384
set_option Elab.async false

noncomputable section

namespace Cert.KernelIdeal.Att

open Cert.KernelIdeal
open Cert.KernelIdeal.Facts₀ Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Offsets -/

theorem inbK (h : Fin 8) : ∀ a, (![0, 0, 128 * h.val] : Fin 3 → ℕ) a + S1x512x128.size a ≤ S1x512x1024.size a := by
  intro a; have := h.isLt; fin_cases a <;> simp [S1x512x128, S1x512x1024] <;> omega
theorem inbQ (h : Fin 8) (c : Fin 4) : ∀ a, (![0, 256 * c.val, 128 * h.val] : Fin 3 → ℕ) a + S1x256x128.size a ≤ S1x1024x1024.size a := by
  intro a; have := h.isLt; have := c.isLt; fin_cases a <;> simp [S1x256x128, S1x1024x1024] <;> omega
theorem inbV (h : Fin 8) : ∀ a, (![0, 128 * h.val, 0] : Fin 3 → ℕ) a + S1x128x512.size a ≤ S1x1024x512.size a := by
  intro a; have := h.isLt; fin_cases a <;> simp [S1x128x512, S1x1024x512] <;> omega
theorem inbM (h : Fin 8) (c : Fin 4) : ∀ a, (![h.val, 256 * c.val] : Fin 2 → ℕ) a + S1x256.size a ≤ S8x1024.size a := by
  intro a; have := h.isLt; have := c.isLt; fin_cases a <;> simp [S1x256, S8x1024] <;> omega
theorem inbA (h : Fin 8) (c : Fin 4) : ∀ a, (![h.val, 0, 256 * c.val] : Fin 3 → ℕ) a + S1x128x256.size a ≤ S8x128x1024.size a := by
  intro a; have := h.isLt; have := c.isLt; fin_cases a <;> simp [S1x128x256, S8x128x1024] <;> omega
theorem inbR (h : Fin 8) : ∀ a, (![h.val, 0, 0] : Fin 3 → ℕ) a + S1x128x1024.size a ≤ S8x128x1024.size a := by
  intro a; have := h.isLt; fin_cases a <;> simp [S1x128x1024, S8x128x1024] <;> omega

/-! ## The pure functions -/

/-- The fill of a masked score. -/
def negV : F .f32 := Named.named κ "mask" 0xF149F2CA#32

/-- The product of the key block at head h with the query block (h, c), of the two loaded windows. -/
def scoreOf (x : Vec F S1x512x128 .bf16) (y : Vec F S1x256x128 .bf16) : FVec F S512x256 .f32 :=
  matmul dot_S512x128_S256x128_S512x256_1_1_0_0_n_n none (shapeCast S512x128 x shapeCasts_S1x512x128_S512x128 : FVec F S512x128 .bf16)
    (shapeCast S256x128 y shapeCasts_S1x256x128_S256x128 : FVec F S256x128 .bf16) (constant S512x256 .f32 0x00000000#32)

def scoreV (i : Fin 8 × Fin 4) (q : Vec F S1x1024x1024 .bf16) (k : Vec F S1x512x1024 .bf16) : FVec F S512x256 .f32 :=
  scoreOf (VecWindow.window k ![0, 0, 128 * i.1.val] S1x512x128.size (inbK i.1))
    (VecWindow.window q ![0, 256 * i.2.val, 128 * i.1.val] S1x256x128.size (inbQ i.1 i.2))

/-- The new running maximum. -/
def maxOf (s : FVec F S512x256 .f32) (m : Vec F S1x256 .f32) : FVec F S1x256 .f32 :=
  maximumf m (shapeCast S1x256 (multiReduction .maximumf [0] S256 s 0xFF800000#32 reduces_S512x256_S256 (.inl rfl) rfl : FVec F S256 .f32) shapeCasts_S256_S1x256 : FVec F S1x256 .f32)

/-- The new accumulator block. -/
def accOf (s : FVec F S512x256 .f32) (m : Vec F S1x256 .f32) (v : Vec F S1x128x512 .bf16) (a : Vec F S1x128x256 .f32) : FVec F S1x128x256 .f32 :=
  shapeCast S1x128x256
    (addf (mulf (broadcastTo S128x256 (exp2 (subf m (maxOf s m)) : FVec F S1x256 .f32) broadcasts_S1x256_S128x256 : FVec F S128x256 .f32)
        (shapeCast S128x256 a shapeCasts_S1x128x256_S128x256 : FVec F S128x256 .f32) : FVec F S128x256 .f32)
      (matmul dot_S128x512_S512x256_S128x256_1_0_0_1_n_n none (shapeCast S128x512 v shapeCasts_S1x128x512_S128x512 : FVec F S128x512 .bf16)
        (truncf .bf16 (exp2 (subf s (broadcastTo S512x256 (maxOf s m) broadcasts_S1x256_S512x256 : FVec F S512x256 .f32) : FVec F S512x256 .f32) : FVec F S512x256 .f32) bitsLt_bf16_f32 : FVec F S512x256 .bf16)
        (constant S128x256 .f32 0x00000000#32) : FVec F S128x256 .f32) : FVec F S128x256 .f32)
    shapeCasts_S128x256_S1x128x256

/-- One step of the two scratch buffers. -/
def stepV (i : Fin 8 × Fin 4) (s : FVec F S512x256 .f32) (v : Vec F S1x1024x512 .bf16) (MA : Vec F S8x1024 .f32 × Vec F S8x128x1024 .f32) :
    Vec F S8x1024 .f32 × Vec F S8x128x1024 .f32 :=
  (VecWindow.put MA.1 ![i.1.val, 256 * i.2.val] S1x256.size
      (shapeCast S1x256 (maxOf s (VecWindow.window MA.1 ![i.1.val, 256 * i.2.val] S1x256.size (inbM i.1 i.2))) shapeCasts_S1x256_S1x256 : FVec F S1x256 .f32),
   VecWindow.put MA.2 ![i.1.val, 0, 256 * i.2.val] S1x128x256.size
      (accOf s (VecWindow.window MA.1 ![i.1.val, 256 * i.2.val] S1x256.size (inbM i.1 i.2))
        (VecWindow.window v ![0, 128 * i.1.val, 0] S1x128x512.size (inbV i.1))
        (VecWindow.window MA.2 ![i.1.val, 0, 256 * i.2.val] S1x128x256.size (inbA i.1 i.2))))

/-- A block of keys folded into the scratch buffers. -/
def foldV (mask : Fin 8 × Fin 4 → FVec F S512x256 .f32 → FVec F S512x256 .f32) (is : List (Fin 8 × Fin 4)) (q : Vec F S1x1024x1024 .bf16)
    (k : Vec F S1x512x1024 .bf16) (v : Vec F S1x1024x512 .bf16) (MA : Vec F S8x1024 .f32 × Vec F S8x128x1024 .f32) :
    Vec F S8x1024 .f32 × Vec F S8x128x1024 .f32 :=
  is.foldl (fun MA i => stepV i (mask i (scoreV i q k)) v MA) MA

/-- The chunk of a position, as the scalar unit computes a floored quotient by 64. -/
def fdS (x : BitVec 32) : BitVec 32 :=
  Scalar.select (Scalar.andi (Scalar.cmpi .ne (Scalar.subi (Scalar.extui (Scalar.cmpi .sgt x 0#32) : BitVec 32) (Scalar.extui (Scalar.cmpi .slt x 0#32) : BitVec 32))
      (Scalar.subi (Scalar.extui (Scalar.cmpi .sgt 64#32 0#32) : BitVec 32) (Scalar.extui (Scalar.cmpi .slt 64#32 0#32) : BitVec 32)))
      (Scalar.cmpi .ne (Scalar.remsi x 64#32) 0#32)) (Scalar.subi (Scalar.divsi x 64#32) 1#32) (Scalar.divsi x 64#32)

/-- The same, of a vector. -/
def fdV (x : IVec S512x256 32) : IVec S512x256 32 :=
  select (andi (cmpi .ne (subi (extui 32 (cmpi .sgt x (broadcast S512x256 0#32) : IVec S512x256 1) natLt_1_32 : IVec S512x256 32) (extui 32 (cmpi .slt x (broadcast S512x256 0#32) : IVec S512x256 1) natLt_1_32 : IVec S512x256 32) : IVec S512x256 32)
      (broadcast S512x256 (Scalar.subi (Scalar.extui (Scalar.cmpi .sgt 64#32 0#32) : BitVec 32) (Scalar.extui (Scalar.cmpi .slt 64#32 0#32) : BitVec 32)) : IVec S512x256 32) : IVec S512x256 1)
      (cmpi .ne (remsi x (broadcast S512x256 64#32) : IVec S512x256 32) (broadcast S512x256 0#32) : IVec S512x256 1) : IVec S512x256 1)
    (subi (divsi x (broadcast S512x256 64#32) : IVec S512x256 32) (broadcast S512x256 1#32) : IVec S512x256 32) (divsi x (broadcast S512x256 64#32) : IVec S512x256 32)

/-- The scores of a block with the keys of later chunks filled. -/
def maskV (qi ki : BitVec 32) (i : Fin 8 × Fin 4) (s : FVec F S512x256 .f32) : FVec F S512x256 .f32 :=
  select (cmpi .sle (addi (broadcast S512x256 (fdS (Scalar.muli ki 512#32)) : IVec S512x256 32) (fdV (iota .tc S512x256 32 [0] iota_S512x256_d0_w32)) : IVec S512x256 32)
      (addi (fdV (iota .tc S512x256 32 [1] iota_S512x256_d1_w32)) (broadcast S512x256 (Scalar.addi (fdS (Scalar.muli qi 1024#32)) (BitVec.ofNat 32 (4 * i.2.val))) : IVec S512x256 32) : IVec S512x256 32) : IVec S512x256 1)
    s (broadcast S512x256 negV)

/-! ## The programs, each with the rest of the program as an argument -/

abbrev PR : Type 1 := Prog (TpuEff nD τ sig (Elt F) Λ₀ .tc) PUnit

section Progs

variable (arg5 : Memref sig .tc .vmem S1x1024x1024 .bf16) (arg6 : Memref sig .tc .vmem S1x512x1024 .bf16) (arg7 : Memref sig .tc .vmem S1x1024x512 .bf16)
  (arg9 : Memref sig .tc .vmem S8x1024 .f32) (arg10 : Memref sig .tc .vmem S8x128x1024 .f32)

def scoreP (i : Fin 8 × Fin 4) (κ : FVec F S512x256 .f32 → PR (F := F)) : PR (F := F) :=
  .op (.load arg6 (Rect.unit (s := S1x512x1024) ![0, 0, 128 * i.1.val] S1x512x128.size (inbK i.1)).toLoadRect (View.loadsAt_vmem h_S1x512x128)) fun x =>
  .op (.load arg5 (Rect.unit (s := S1x1024x1024) ![0, 256 * i.2.val, 128 * i.1.val] S1x256x128.size (inbQ i.1 i.2)).toLoadRect (View.loadsAt_vmem h_S1x256x128)) fun y =>
  κ (scoreOf x y)

def stepP (i : Fin 8 × Fin 4) (s : FVec F S512x256 .f32) (κ : PR (F := F)) : PR (F := F) :=
  .op (.load arg9 (Rect.unit (s := S8x1024) ![i.1.val, 256 * i.2.val] S1x256.size (inbM i.1 i.2)).toLoadRect (View.loadsAt_vmem h_S1x256)) fun m =>
  .op (.load arg9 (Rect.unit (s := S8x1024) ![i.1.val, 256 * i.2.val] S1x256.size (inbM i.1 i.2)).toLoadRect (View.loadsAt_vmem h_S1x256)) fun _ =>
  .op (.store arg9 (Rect.unit (s := S8x1024) ![i.1.val, 256 * i.2.val] S1x256.size (inbM i.1 i.2)) (shapeCast S1x256 (maxOf s m) shapeCasts_S1x256_S1x256 : FVec F S1x256 .f32) Finset.univ (View.stores_vmem_bits_univ h_S1x256 rfl) (.inl rfl)) fun _ =>
  .op (.load arg7 (Rect.unit (s := S1x1024x512) ![0, 128 * i.1.val, 0] S1x128x512.size (inbV i.1)).toLoadRect (View.loadsAt_vmem h_S1x128x512)) fun v =>
  .op (.load arg10 (Rect.unit (s := S8x128x1024) ![i.1.val, 0, 256 * i.2.val] S1x128x256.size (inbA i.1 i.2)).toLoadRect (View.loadsAt_vmem h_S1x128x256)) fun a =>
  .op (.load arg10 (Rect.unit (s := S8x128x1024) ![i.1.val, 0, 256 * i.2.val] S1x128x256.size (inbA i.1 i.2)).toLoadRect (View.loadsAt_vmem h_S1x128x256)) fun _ =>
  .op (.store arg10 (Rect.unit (s := S8x128x1024) ![i.1.val, 0, 256 * i.2.val] S1x128x256.size (inbA i.1 i.2)) (accOf s m v a) Finset.univ (View.stores_vmem_bits_univ h_S1x128x256 rfl) (.inl rfl)) fun _ => κ

def loopP (mask : Fin 8 × Fin 4 → FVec F S512x256 .f32 → FVec F S512x256 .f32) (κ : PR (F := F)) :
    List (Fin 8 × Fin 4) → List (Fin 8 × Fin 4) → List (FVec F S512x256 .f32) → PR (F := F)
  | i :: is, n :: ns, s :: ss => scoreP arg5 arg6 n fun s' => stepP arg7 arg9 arg10 i (mask i s) (loopP mask κ is ns (ss ++ [s']))
  | i :: is, [], s :: ss => stepP arg7 arg9 arg10 i (mask i s) (loopP mask κ is [] ss)
  | _, _, _ => κ

def runP (mask : Fin 8 × Fin 4 → FVec F S512x256 .f32 → FVec F S512x256 .f32) (i₀ i₁ i₂ : Fin 8 × Fin 4) (is : List (Fin 8 × Fin 4)) (κ : PR (F := F)) : PR (F := F) :=
  scoreP arg5 arg6 i₀ fun s₀ => scoreP arg5 arg6 i₁ fun s₁ => scoreP arg5 arg6 i₂ fun s₂ =>
    loopP arg5 arg6 arg7 arg9 arg10 mask κ (i₀ :: i₁ :: i₂ :: is) is [s₀, s₁, s₂]

end Progs

/-- The blocks of a whole tile of queries, head by head, after the first three. -/
def insts0 : List (Fin 8 × Fin 4) :=
  [(0, 3), (1, 0), (1, 1), (1, 2), (1, 3), (2, 0), (2, 1), (2, 2), (2, 3), (3, 0), (3, 1), (3, 2), (3, 3), (4, 0), (4, 1), (4, 2), (4, 3),
   (5, 0), (5, 1), (5, 2), (5, 3), (6, 0), (6, 1), (6, 2), (6, 3), (7, 0), (7, 1), (7, 2), (7, 3)]
/-- The blocks of the second half of a tile, after the first three. -/
def insts1 : List (Fin 8 × Fin 4) :=
  [(1, 3), (2, 2), (2, 3), (3, 2), (3, 3), (4, 2), (4, 3), (5, 2), (5, 3), (6, 2), (6, 3), (7, 2), (7, 3)]

def initP (arg9 : Memref sig .tc .vmem S8x1024 .f32) (arg10 : Memref sig .tc .vmem S8x128x1024 .f32) (κ : PR (F := F)) : PR (F := F) :=
  .op (.load arg9 (Rect.unit (s := S8x1024) ![0, 0] S8x1024.size inb_S8x1024_S8x1024_0_0).toLoadRect (View.loadsAt_vmem h_S8x1024)) fun _ =>
  .op (.store arg9 (Rect.unit (s := S8x1024) ![0, 0] S8x1024.size inb_S8x1024_S8x1024_0_0) (shapeCast S8x1024 (broadcast S8x1024 negV : FVec F S8x1024 .f32) shapeCasts_S8x1024_S8x1024 : FVec F S8x1024 .f32) Finset.univ (View.stores_vmem_bits_univ h_S8x1024 rfl) (.inl rfl)) fun _ =>
  .op (.load arg10 (Rect.unit (s := S8x128x1024) ![0, 0, 0] S8x128x1024.size inb_S8x128x1024_S8x128x1024_0_0_0).toLoadRect (View.loadsAt_vmem h_S8x128x1024)) fun _ =>
  .op (.store arg10 (Rect.unit (s := S8x128x1024) ![0, 0, 0] S8x128x1024.size inb_S8x128x1024_S8x128x1024_0_0_0) (shapeCast S8x128x1024 (broadcast S8x128x1024 (Scalar.ofBits .f32 0x00000000#32 : F .f32) : FVec F S8x128x1024 .f32) shapeCasts_S8x128x1024_S8x128x1024 : FVec F S8x128x1024 .f32) Finset.univ (View.stores_vmem_bits_univ h_S8x128x1024 rfl) (.inl rfl)) fun _ => κ

/-- One head of the output, of its accumulator. -/
def headOf (a : Vec F S1x128x1024 .f32) : FVec F S64x1024 .f32 :=
  divf (extractStridedSlice S64x1024 ![0, 0] (shapeCast S128x1024 a shapeCasts_S1x128x1024_S128x1024 : FVec F S128x1024 .f32) slices_S128x1024_o0_0_S64x1024 : FVec F S64x1024 .f32)
    (broadcastTo S64x1024 (extractStridedSlice S1x1024 ![64, 0] (shapeCast S128x1024 a shapeCasts_S1x128x1024_S128x1024 : FVec F S128x1024 .f32) slices_S128x1024_o64_0_S1x1024 : FVec F S1x1024 .f32) broadcasts_S1x1024_S64x1024 : FVec F S64x1024 .f32)

def outOf (a0 a1 a2 a3 a4 a5 a6 a7 : Vec F S1x128x1024 .f32) : FVec F S1x1024x512 .bf16 :=
  shapeCast S1x1024x512 (truncf .bf16 (transpose S1024x512 [1, 0]
    (concatenate S512x1024 0 [⟨S64x1024, headOf a0⟩, ⟨S64x1024, headOf a1⟩, ⟨S64x1024, headOf a2⟩, ⟨S64x1024, headOf a3⟩, ⟨S64x1024, headOf a4⟩, ⟨S64x1024, headOf a5⟩, ⟨S64x1024, headOf a6⟩, ⟨S64x1024, headOf a7⟩]
      concatenates_S64x1024_S64x1024_S64x1024_S64x1024_S64x1024_S64x1024_S64x1024_S64x1024_S512x1024_d0 : FVec F S512x1024 .f32) transposes_S512x1024_p1_0_S1024x512 : FVec F S1024x512 .f32) bitsLt_bf16_f32 : FVec F S1024x512 .bf16) shapeCasts_S1024x512_S1x1024x512

abbrev rowW (A : Vec F S8x128x1024 .f32) (h : Fin 8) : Vec F S1x128x1024 .f32 := VecWindow.window A ![h.val, 0, 0] S1x128x1024.size (inbR h)

def outV (A : Vec F S8x128x1024 .f32) : FVec F S1x1024x512 .bf16 :=
  outOf (rowW A 0) (rowW A 1) (rowW A 2) (rowW A 3) (rowW A 4) (rowW A 5) (rowW A 6) (rowW A 7)

abbrev rowR (h : Fin 8) : Rect S8x128x1024 := Rect.unit (s := S8x128x1024) ![h.val, 0, 0] S1x128x1024.size (inbR h)

def lastP (arg8 : Memref sig .tc .vmem S1x1024x512 .bf16) (harg8 : arg8.IsWhole) (arg10 : Memref sig .tc .vmem S8x128x1024 .f32) (κ : PR (F := F)) : PR (F := F) :=
  .op (.load arg10 (rowR 0).toLoadRect (View.loadsAt_vmem h_S1x128x1024)) fun a0 => .op (.load arg10 (rowR 1).toLoadRect (View.loadsAt_vmem h_S1x128x1024)) fun a1 =>
  .op (.load arg10 (rowR 2).toLoadRect (View.loadsAt_vmem h_S1x128x1024)) fun a2 => .op (.load arg10 (rowR 3).toLoadRect (View.loadsAt_vmem h_S1x128x1024)) fun a3 =>
  .op (.load arg10 (rowR 4).toLoadRect (View.loadsAt_vmem h_S1x128x1024)) fun a4 => .op (.load arg10 (rowR 5).toLoadRect (View.loadsAt_vmem h_S1x128x1024)) fun a5 =>
  .op (.load arg10 (rowR 6).toLoadRect (View.loadsAt_vmem h_S1x128x1024)) fun a6 => .op (.load arg10 (rowR 7).toLoadRect (View.loadsAt_vmem h_S1x128x1024)) fun a7 =>
  .op (.load arg8 (Rect.unit (s := S1x1024x512) ![0, 0, 0] S1x1024x512.size inb_S1x1024x512_S1x1024x512_0_0_0).toLoadRect (View.loadsAt_vmem h_S1x1024x512)) fun _ =>
  .op (.store arg8 (Rect.unit (s := S1x1024x512) ![0, 0, 0] S1x1024x512.size inb_S1x1024x512_S1x1024x512_0_0_0) (outOf a0 a1 a2 a3 a4 a5 a6 a7) Finset.univ
    (View.stores_vmem h_S1x1024x512 (harg8.storeExact_slice rfl _ packedbf16_S1x1024x512_S1x1024x512_0_0_0) (fun _ => rfl)) (.inl rfl)) fun _ => κ

/-! ## The branches' conditions -/

def firstC (w : BitVec 32) : BitVec 1 := Scalar.cmpi .ne (Scalar.extui (Scalar.cmpi .ne (Scalar.andi w 1#32) 0#32) : BitVec 32) 0#32
def mskC (w : BitVec 32) : BitVec 1 := Scalar.cmpi .ne (Scalar.andi w 4#32) 0#32
def diagC (d : BitVec 32) (w : BitVec 32) : BitVec 1 :=
  Scalar.cmpi .ne (Scalar.extui (Scalar.andi (mskC w) (Scalar.cmpi .eq (Scalar.shrsi w 3#32) d)) : BitVec 32) 0#32
def fullC (w : BitVec 32) : BitVec 1 := Scalar.cmpi .ne (Scalar.extui (Scalar.xori (mskC w) 1#1) : BitVec 32) 0#32

/-- The body. -/
def bodyP (i : grid0.Coords) (arg2 arg3 arg4 : Memref sig .tc .smem S272 .i32)
    (arg5 : Memref sig .tc .vmem S1x1024x1024 .bf16) (arg6 : Memref sig .tc .vmem S1x512x1024 .bf16) (arg7 : Memref sig .tc .vmem S1x1024x512 .bf16)
    (arg8 : Memref sig .tc .vmem S1x1024x512 .bf16) (harg8 : arg8.IsWhole)
    (arg9 : Memref sig .tc .vmem S8x1024 .f32) (arg10 : Memref sig .tc .vmem S8x128x1024 .f32) : PR (F := F) :=
  (smemLoad arg4 (Rect.unit (s := S272) (k0_off1 i) S1.size (k0_off1_inb i)) numel1_S1 rfl).bind fun w =>
  have j4 : PR (F := F) := if k0_cond5 w = 1#1 then lastP arg8 harg8 arg10 (.ret ⟨⟩) else .ret ⟨⟩
  have j3 : PR (F := F) := if fullC w = 1#1 then runP arg5 arg6 arg7 arg9 arg10 (fun _ s => s) (0, 0) (0, 1) (0, 2) insts0 j4 else j4
  have j2 : PR (F := F) := if diagC 1#32 w = 1#1 then
    ((smemLoad arg2 (Rect.unit (s := S272) (k0_off2 i) S1.size (k0_off2_inb i)) numel1_S1 rfl).bind fun qi =>
     (smemLoad arg3 (Rect.unit (s := S272) (k0_off2 i) S1.size (k0_off2_inb i)) numel1_S1 rfl).bind fun ki =>
     runP arg5 arg6 arg7 arg9 arg10 (maskV qi ki) (0, 2) (0, 3) (1, 2) insts1 j3) else j3
  have j1 : PR (F := F) := if diagC 0#32 w = 1#1 then
    ((smemLoad arg2 (Rect.unit (s := S272) (k0_off2 i) S1.size (k0_off2_inb i)) numel1_S1 rfl).bind fun qi =>
     (smemLoad arg3 (Rect.unit (s := S272) (k0_off2 i) S1.size (k0_off2_inb i)) numel1_S1 rfl).bind fun ki =>
     runP arg5 arg6 arg7 arg9 arg10 (maskV qi ki) (0, 0) (0, 1) (0, 2) insts0 j2) else j2
  if firstC w = 1#1 then initP arg9 arg10 j1 else j1

/-- The printed body is this program. -/
theorem body_eq (i : grid0.Coords) (arg2 : Memref sig .tc .smem S272 .i32) (harg2 : arg2.IsWhole) (arg3 : Memref sig .tc .smem S272 .i32) (harg3 : arg3.IsWhole)
    (arg4 : Memref sig .tc .smem S272 .i32) (harg4 : arg4.IsWhole) (arg5 : Memref sig .tc .vmem S1x1024x1024 .bf16) (harg5 : arg5.IsWhole)
    (arg6 : Memref sig .tc .vmem S1x512x1024 .bf16) (harg6 : arg6.IsWhole) (arg7 : Memref sig .tc .vmem S1x1024x512 .bf16) (harg7 : arg7.IsWhole)
    (arg8 : Memref sig .tc .vmem S1x1024x512 .bf16) (harg8 : arg8.IsWhole) (arg9 : Memref sig .tc .vmem S8x1024 .f32) (harg9 : arg9.IsWhole)
    (arg10 : Memref sig .tc .vmem S8x128x1024 .f32) (harg10 : arg10.IsWhole) :
    cc0__mla_attn_kernel (F := F) i arg2 harg2 arg3 harg3 arg4 harg4 arg5 harg5 arg6 harg6 arg7 harg7 arg8 harg8 arg9 harg9 arg10 harg10
      = bodyP i arg2 arg3 arg4 arg5 arg6 arg7 arg8 harg8 arg9 arg10 := by
  sl_kernel_rfl

end Cert.KernelIdeal.Att

end
-- ==== Proof.Run.lean ====
/- The body's run: each program of Body.lean from the operands and scratch buffers held at values, to the same held at
   what the pure functions make of them. -/
module

public import proofs.«01_k».proof.Proof.Body
public import Idealize.ShloMosaic.Lib.Pipeline.Kit
public import Idealize.ShloMosaic.Lib.Ring
public import Idealize.ShloMosaic.Lib.Exec

@[expose] public section

set_option maxRecDepth 16384
set_option Elab.async false

noncomputable section

namespace Cert.KernelIdeal.Att

open Cert.KernelIdeal
open Cert.KernelIdeal.Facts₀ Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

abbrev WP (c : Dev nD) (p : PR (F := F)) (Q : PUnit.{1} → sProp 𝕄) : sProp 𝕄 :=
  wp frame (wpE (defs₀ (F := F)) Variants.none (c : Thread nD τ) none) Set.univ p Q

/-- A load of a window of a memref held at a value. -/
theorem load_owns {Q : PUnit.{1} → sProp 𝕄} (c : Dev nD) {sp : CoreSpace} {s : Shape} {e : EltTy} (m : Memref sig .tc sp s e) (q : PosShare TreeShare) (x : s.Idx → Elt F e)
    {off size : Fin s.rank → ℕ} (inb : ∀ a, off a + size a ≤ s.size a) {hl : m.view.LoadsAt (Rect.unit off size inb).toLoadRect}
    (k : ((Rect.unit off size inb).shape.Idx → Elt F e) → PR (F := F)) :
    iprop(owns (c : Thread nD τ) m q x ∗ (owns (c : Thread nD τ) m q x -∗ WP c (k (VecWindow.window x off size inb)) Q))
      ⊢ WP c (.op (.load m (Rect.unit off size inb).toLoadRect hl) k) Q := by
  unfold owns
  iintro ⟨⟨%f, %hf, H⟩, Hk⟩
  subst hf
  iapply (wp_load (defs := defs₀ (F := F)) Variants.none (c : Thread nD τ) none Set.univ (m := m) (r := (Rect.unit off size inb).toLoadRect) (hl := hl) (k := k) (S := m.view.set) (q := q) (f := f) (by
      intro y hy; exact View.setOn_subset_set _ _ hy)) $$ H
  iintro H
  iapply Hk
  iexists f
  isplitr
  · ipureintro; rfl
  · iexact H

/-- An unmasked store of a window. -/
theorem store_owns {Q : PUnit.{1} → sProp 𝕄} (c : Dev nD) {sp : CoreSpace} {s : Shape} {e : EltTy} (m : Memref sig .tc sp s e) (x : s.Idx → Elt F e)
    {off size : Fin s.rank → ℕ} (inb : ∀ a, off a + size a ≤ s.size a) (w : (Rect.unit off size inb).shape.Idx → Elt F e)
    {hx : (m.access (Rect.unit off size inb)).Stores Finset.univ} {hm : Finset.univ = Finset.univ ∨ ∀ a, (Rect.unit off size inb).stride a = 1}
    (k : PUnit → PR (F := F)) :
    iprop(owns (c : Thread nD τ) m fullShare x ∗ (owns (c : Thread nD τ) m fullShare (VecWindow.put x off size w) -∗ WP c (k ⟨⟩) Q))
      ⊢ WP c (.op (.store m (Rect.unit off size inb) w Finset.univ hx hm) k) Q := by
  unfold owns
  iintro ⟨⟨%f, %hf, H⟩, Hk⟩
  subst hf
  iapply (wp_store_writes₀ (defs := defs₀ (F := F)) Variants.none (c : Thread nD τ) none Set.univ (m := m) (r := Rect.unit off size inb) (w := w) (hx := hx) (hm := hm) (k := k) (S := m.view.set) (f := f) (by
      exact View.set_slice_subset _ _)) $$ H
  iintro H
  iapply Hk
  iexists (m.view.writes (Elt F) f [⟨Rect.unit off size inb, w⟩])
  isplitr
  · ipureintro
    rw [View.read_writes_cons_put m.view f inb w [] rfl, View.writes_nil]
  · iexact H

/-- An unmasked store of a whole memref. -/
theorem put_full {α : Type} {s : Shape} (x : s.Idx → α) {off : Fin s.rank → ℕ} (inb : ∀ a, off a + s.size a ≤ s.size a) (w : s.Idx → α) :
    VecWindow.put x off s.size w = w := by
  funext y
  have h : ∀ a, off a ≤ (y a).val ∧ (y a).val < off a + s.size a := fun a => by
    have := inb a; have := (y a).isLt; omega
  show (if h : _ then _ else _) = _
  rw [dif_pos h]
  exact congrArg w (funext fun a => Fin.ext (by
    show (y a).val - off a = (y a).val
    have := inb a; omega))

theorem store_full_owns {Q : PUnit.{1} → sProp 𝕄} (c : Dev nD) {sp : CoreSpace} {s : Shape} {e : EltTy} (m : Memref sig .tc sp s e) (x : s.Idx → Elt F e)
    {off : Fin s.rank → ℕ} (inb : ∀ a, off a + s.size a ≤ s.size a) (w : s.Idx → Elt F e)
    {hx : (m.access (Rect.unit off s.size inb)).Stores Finset.univ} {hm : Finset.univ = Finset.univ ∨ ∀ a, (Rect.unit off s.size inb).stride a = 1}
    (k : PUnit → PR (F := F)) :
    iprop(owns (c : Thread nD τ) m fullShare x ∗ (owns (c : Thread nD τ) m fullShare w -∗ WP c (k ⟨⟩) Q))
      ⊢ WP c (.op (.store m (Rect.unit off s.size inb) w Finset.univ hx hm) k) Q := by
  have h := store_owns (Q := Q) c m x inb w (hx := hx) (hm := hm) k
  rw [put_full x inb w] at h
  exact h

/-- The word a table holds at a point. -/
def wordAt (T : S272.Idx → Elt F .i32) (off : Fin 1 → ℕ) (inb : ∀ a, off a + S1.size a ≤ S272.size a) : Elt F .i32 :=
  VecWindow.window T off S1.size inb (Shape.Idx.first (show 0 < (Rect.unit (s := S272) off S1.size inb).shape.numel by
    rw [show (Rect.unit (s := S272) off S1.size inb).shape.numel = 1 from numel1_S1]; exact Nat.one_pos))

theorem word_owns {Q : PUnit.{1} → sProp 𝕄} (c : Dev nD) (m : Memref sig .tc .smem S272 .i32) (q : PosShare TreeShare) (T : S272.Idx → Elt F .i32)
    {off : Fin 1 → ℕ} (inb : ∀ a, off a + S1.size a ≤ S272.size a) (k : Elt F .i32 → PR (F := F)) :
    iprop(owns (c : Thread nD τ) m q T ∗ (owns (c : Thread nD τ) m q T -∗ WP c (k (wordAt T off inb)) Q))
      ⊢ WP c ((smemLoad m (Rect.unit (s := S272) off S1.size inb) numel1_S1 rfl).bind k) Q :=
  load_owns (Q := Q) c m q T inb fun f => k (f _)

section Progs

variable (c : Dev nD) (arg5 : Memref sig .tc .vmem S1x1024x1024 .bf16) (arg6 : Memref sig .tc .vmem S1x512x1024 .bf16) (arg7 : Memref sig .tc .vmem S1x1024x512 .bf16)
  (arg9 : Memref sig .tc .vmem S8x1024 .f32) (arg10 : Memref sig .tc .vmem S8x128x1024 .f32)
  (q : Vec F S1x1024x1024 .bf16) (k : Vec F S1x512x1024 .bf16) (v : Vec F S1x1024x512 .bf16)

/-- The operands and the scratch buffers, held at values. -/
def Held (MA : Vec F S8x1024 .f32 × Vec F S8x128x1024 .f32) : sProp 𝕄 :=
  iprop(owns (c : Thread nD τ) arg5 fullShare q ∗ owns (c : Thread nD τ) arg6 fullShare k ∗ owns (c : Thread nD τ) arg7 fullShare v
    ∗ owns (c : Thread nD τ) arg9 fullShare MA.1 ∗ owns (c : Thread nD τ) arg10 fullShare MA.2)

theorem scoreP_run {Q : PUnit.{1} → sProp 𝕄} (i : Fin 8 × Fin 4) (κ : FVec F S512x256 .f32 → PR (F := F)) (MA : Vec F S8x1024 .f32 × Vec F S8x128x1024 .f32) :
    iprop(Held c arg5 arg6 arg7 arg9 arg10 q k v MA ∗ (Held c arg5 arg6 arg7 arg9 arg10 q k v MA -∗ WP c (κ (scoreV i q k)) Q))
      ⊢ WP c (scoreP arg5 arg6 i κ) Q := by
  unfold Held scoreP
  iintro ⟨⟨H5, H6, H7, H9, H10⟩, Hk⟩
  iapply (load_owns (Q := Q) c arg6 fullShare k (inbK i.1)) $$ [$H6 H5 H7 H9 H10 Hk]
  iintro H6
  iapply (load_owns (Q := Q) c arg5 fullShare q (inbQ i.1 i.2)) $$ [$H5 H6 H7 H9 H10 Hk]
  iintro H5
  iapply Hk
  isplitl [H5]; · iexact H5
  isplitl [H6]; · iexact H6
  isplitl [H7]; · iexact H7
  isplitl [H9]; · iexact H9
  iexact H10

theorem stepP_run {Q : PUnit.{1} → sProp 𝕄} (i : Fin 8 × Fin 4) (s : FVec F S512x256 .f32) (κ : PR (F := F)) (MA : Vec F S8x1024 .f32 × Vec F S8x128x1024 .f32) :
    iprop(Held c arg5 arg6 arg7 arg9 arg10 q k v MA ∗ (Held c arg5 arg6 arg7 arg9 arg10 q k v (stepV i s v MA) -∗ WP c κ Q))
      ⊢ WP c (stepP arg7 arg9 arg10 i s κ) Q := by
  unfold Held stepP
  iintro ⟨⟨H5, H6, H7, H9, H10⟩, Hk⟩
  iapply (load_owns (Q := Q) c arg9 fullShare MA.1 (inbM i.1 i.2)) $$ [$H9 H5 H6 H7 H10 Hk]
  iintro H9
  iapply (load_owns (Q := Q) c arg9 fullShare MA.1 (inbM i.1 i.2)) $$ [$H9 H5 H6 H7 H10 Hk]
  iintro H9
  iapply (store_owns (Q := Q) c arg9 MA.1 (inbM i.1 i.2)) $$ [$H9 H5 H6 H7 H10 Hk]
  iintro H9
  iapply (load_owns (Q := Q) c arg7 fullShare v (inbV i.1)) $$ [$H7 H5 H6 H9 H10 Hk]
  iintro H7
  iapply (load_owns (Q := Q) c arg10 fullShare MA.2 (inbA i.1 i.2)) $$ [$H10 H5 H6 H7 H9 Hk]
  iintro H10
  iapply (load_owns (Q := Q) c arg10 fullShare MA.2 (inbA i.1 i.2)) $$ [$H10 H5 H6 H7 H9 Hk]
  iintro H10
  iapply (store_owns (Q := Q) c arg10 MA.2 (inbA i.1 i.2)) $$ [$H10 H5 H6 H7 H9 Hk]
  iintro H10
  iapply Hk
  isplitl [H5]; · iexact H5
  isplitl [H6]; · iexact H6
  isplitl [H7]; · iexact H7
  isplitl [H9]; · iexact H9
  iexact H10

theorem loopP_run {Q : PUnit.{1} → sProp 𝕄} (mask : Fin 8 × Fin 4 → FVec F S512x256 .f32 → FVec F S512x256 .f32) (κ : PR (F := F)) :
    ∀ (is ns : List (Fin 8 × Fin 4)) (ss : List (FVec F S512x256 .f32)) (MA : Vec F S8x1024 .f32 × Vec F S8x128x1024 .f32),
      is.map (fun i => scoreV i q k) = ss ++ ns.map (fun i => scoreV i q k) → (is ≠ [] → ss ≠ []) →
      iprop(Held c arg5 arg6 arg7 arg9 arg10 q k v MA ∗ (Held c arg5 arg6 arg7 arg9 arg10 q k v (foldV mask is q k v MA) -∗ WP c κ Q))
        ⊢ WP c (loopP arg5 arg6 arg7 arg9 arg10 mask κ is ns ss) Q
  | [], ns, ss, MA, _, _ => by
    unfold loopP foldV
    iintro ⟨H, Hk⟩
    iapply Hk; iexact H
  | i :: is, ns, [], MA, _, h => absurd rfl (h (List.cons_ne_nil _ _))
  | i :: is, [], s :: ss, MA, h, _ => by
    simp only [List.map_cons, List.map_nil, List.append_nil, List.cons.injEq] at h
    have ih := loopP_run (Q := Q) mask κ is [] ss (stepV i (mask i s) v MA) (by simpa using h.2) (fun hn hs => hn (by
      have := h.2; rw [hs] at this; simpa using this))
    obtain ⟨rfl, h2⟩ := h
    unfold loopP
    iintro ⟨H, Hk⟩
    iapply (stepP_run (Q := Q) c arg5 arg6 arg7 arg9 arg10 q k v i) $$ [$H Hk]
    iintro H
    iapply ih $$ [$H Hk]
    iexact Hk
  | i :: is, n :: ns, s :: ss, MA, h, _ => by
    simp only [List.map_cons, List.cons_append, List.cons.injEq] at h
    have ih := loopP_run (Q := Q) mask κ is ns (ss ++ [scoreV n q k]) (stepV i (mask i s) v MA) (by simpa using h.2) (fun _ hs => by simp at hs)
    obtain ⟨rfl, h2⟩ := h
    unfold loopP
    iintro ⟨H, Hk⟩
    iapply (scoreP_run (Q := Q) c arg5 arg6 arg7 arg9 arg10 q k v n) $$ [$H Hk]
    iintro H
    iapply (stepP_run (Q := Q) c arg5 arg6 arg7 arg9 arg10 q k v i) $$ [$H Hk]
    iintro H
    iapply ih $$ [$H Hk]
    iexact Hk

theorem runP_run {Q : PUnit.{1} → sProp 𝕄} (mask : Fin 8 × Fin 4 → FVec F S512x256 .f32 → FVec F S512x256 .f32) (i₀ i₁ i₂ : Fin 8 × Fin 4) (is : List (Fin 8 × Fin 4)) (κ : PR (F := F))
    (MA : Vec F S8x1024 .f32 × Vec F S8x128x1024 .f32) :
    iprop(Held c arg5 arg6 arg7 arg9 arg10 q k v MA ∗ (Held c arg5 arg6 arg7 arg9 arg10 q k v (foldV mask (i₀ :: i₁ :: i₂ :: is) q k v MA) -∗ WP c κ Q))
      ⊢ WP c (runP arg5 arg6 arg7 arg9 arg10 mask i₀ i₁ i₂ is κ) Q := by
  have h := loopP_run (Q := Q) c arg5 arg6 arg7 arg9 arg10 q k v mask κ (i₀ :: i₁ :: i₂ :: is) is [scoreV i₀ q k, scoreV i₁ q k, scoreV i₂ q k] MA rfl
    (fun _ => List.cons_ne_nil _ _)
  unfold runP
  iintro ⟨H, Hk⟩
  iapply (scoreP_run (Q := Q) c arg5 arg6 arg7 arg9 arg10 q k v i₀) $$ [$H Hk]
  iintro H
  iapply (scoreP_run (Q := Q) c arg5 arg6 arg7 arg9 arg10 q k v i₁) $$ [$H Hk]
  iintro H
  iapply (scoreP_run (Q := Q) c arg5 arg6 arg7 arg9 arg10 q k v i₂) $$ [$H Hk]
  iintro H
  iapply h $$ [$H Hk]
  iexact Hk

/-- The scratch buffers as the first point of a tile sets them. -/
def initV : Vec F S8x1024 .f32 × Vec F S8x128x1024 .f32 :=
  (shapeCast S8x1024 (broadcast S8x1024 negV : FVec F S8x1024 .f32) shapeCasts_S8x1024_S8x1024,
   shapeCast S8x128x1024 (broadcast S8x128x1024 (Scalar.ofBits .f32 0x00000000#32 : F .f32) : FVec F S8x128x1024 .f32) shapeCasts_S8x128x1024_S8x128x1024)

theorem initP_run {Q : PUnit.{1} → sProp 𝕄} (κ : PR (F := F)) (MA : Vec F S8x1024 .f32 × Vec F S8x128x1024 .f32) :
    iprop(Held c arg5 arg6 arg7 arg9 arg10 q k v MA ∗ (Held c arg5 arg6 arg7 arg9 arg10 q k v initV -∗ WP c κ Q))
      ⊢ WP c (initP arg9 arg10 κ) Q := by
  unfold Held initP
  iintro ⟨⟨H5, H6, H7, H9, H10⟩, Hk⟩
  iapply (load_owns (Q := Q) c arg9 fullShare MA.1 inb_S8x1024_S8x1024_0_0) $$ [$H9 H5 H6 H7 H10 Hk]
  iintro H9
  iapply (store_full_owns (Q := Q) c arg9 MA.1 inb_S8x1024_S8x1024_0_0) $$ [$H9 H5 H6 H7 H10 Hk]
  iintro H9
  iapply (load_owns (Q := Q) c arg10 fullShare MA.2 inb_S8x128x1024_S8x128x1024_0_0_0) $$ [$H10 H5 H6 H7 H9 Hk]
  iintro H10
  iapply (store_full_owns (Q := Q) c arg10 MA.2 inb_S8x128x1024_S8x128x1024_0_0_0) $$ [$H10 H5 H6 H7 H9 Hk]
  iintro H10
  iapply Hk
  isplitl [H5]; · iexact H5
  isplitl [H6]; · iexact H6
  isplitl [H7]; · iexact H7
  isplitl [H9]; · iexact H9
  iexact H10

theorem lastP_run {Q : PUnit.{1} → sProp 𝕄} (arg8 : Memref sig .tc .vmem S1x1024x512 .bf16) (harg8 : arg8.IsWhole) (κ : PR (F := F)) (A : Vec F S8x128x1024 .f32) (y : Vec F S1x1024x512 .bf16) :
    iprop(owns (c : Thread nD τ) arg10 fullShare A ∗ owns (c : Thread nD τ) arg8 fullShare y
        ∗ (owns (c : Thread nD τ) arg10 fullShare A -∗ owns (c : Thread nD τ) arg8 fullShare (outV A) -∗ WP c κ Q))
      ⊢ WP c (lastP arg8 harg8 arg10 κ) Q := by
  unfold lastP
  iintro ⟨H10, H8, Hk⟩
  iapply (load_owns (Q := Q) c arg10 fullShare A (inbR 0)) $$ [$H10 H8 Hk]; iintro H10
  iapply (load_owns (Q := Q) c arg10 fullShare A (inbR 1)) $$ [$H10 H8 Hk]; iintro H10
  iapply (load_owns (Q := Q) c arg10 fullShare A (inbR 2)) $$ [$H10 H8 Hk]; iintro H10
  iapply (load_owns (Q := Q) c arg10 fullShare A (inbR 3)) $$ [$H10 H8 Hk]; iintro H10
  iapply (load_owns (Q := Q) c arg10 fullShare A (inbR 4)) $$ [$H10 H8 Hk]; iintro H10
  iapply (load_owns (Q := Q) c arg10 fullShare A (inbR 5)) $$ [$H10 H8 Hk]; iintro H10
  iapply (load_owns (Q := Q) c arg10 fullShare A (inbR 6)) $$ [$H10 H8 Hk]; iintro H10
  iapply (load_owns (Q := Q) c arg10 fullShare A (inbR 7)) $$ [$H10 H8 Hk]; iintro H10
  iapply (load_owns (Q := Q) c arg8 fullShare y inb_S1x1024x512_S1x1024x512_0_0_0) $$ [$H8 H10 Hk]; iintro H8
  iapply (store_full_owns (Q := Q) c arg8 y inb_S1x1024x512_S1x1024x512_0_0_0) $$ [$H8 H10 Hk]; iintro H8
  iapply Hk $$ [$H10] [$H8]

end Progs

/-! ## A point -/

/-- What a point makes of the scratch buffers, at the table words it reads. -/
def pointV (w qi ki : BitVec 32) (q : Vec F S1x1024x1024 .bf16) (k : Vec F S1x512x1024 .bf16) (v : Vec F S1x1024x512 .bf16)
    (MA : Vec F S8x1024 .f32 × Vec F S8x128x1024 .f32) : Vec F S8x1024 .f32 × Vec F S8x128x1024 .f32 :=
  have m1 := if firstC w = 1#1 then initV else MA
  have m2 := if diagC 0#32 w = 1#1 then foldV (maskV qi ki) ((0, 0) :: (0, 1) :: (0, 2) :: insts0) q k v m1 else m1
  have m3 := if diagC 1#32 w = 1#1 then foldV (maskV qi ki) ((0, 2) :: (0, 3) :: (1, 2) :: insts1) q k v m2 else m2
  if fullC w = 1#1 then foldV (fun _ s => s) ((0, 0) :: (0, 1) :: (0, 2) :: insts0) q k v m3 else m3

section Point

variable (c : Dev nD) (arg2 arg3 arg4 : Memref sig .tc .smem S272 .i32)
    (arg5 : Memref sig .tc .vmem S1x1024x1024 .bf16) (arg6 : Memref sig .tc .vmem S1x512x1024 .bf16) (arg7 : Memref sig .tc .vmem S1x1024x512 .bf16)
    (arg8 : Memref sig .tc .vmem S1x1024x512 .bf16) (harg8 : arg8.IsWhole)
    (arg9 : Memref sig .tc .vmem S8x1024 .f32) (arg10 : Memref sig .tc .vmem S8x128x1024 .f32)
    (p2 p3 p4 : PosShare TreeShare) (T2 T3 T4 : S272.Idx → Elt F .i32)

/-- The three tables, at their shares. -/
def Tabs : sProp 𝕄 :=
  iprop(owns (c : Thread nD τ) arg2 p2 T2 ∗ owns (c : Thread nD τ) arg3 p3 T3 ∗ owns (c : Thread nD τ) arg4 p4 T4)

variable (q : Vec F S1x1024x1024 .bf16) (k : Vec F S1x512x1024 .bf16) (v : Vec F S1x1024x512 .bf16) (y : Vec F S1x1024x512 .bf16)

/-- From the scratch buffers at MA, with what follows a point that leaves them at MA'. -/
def At (w : BitVec 32) (Q : PUnit.{1} → sProp 𝕄) (MA MA' : Vec F S8x1024 .f32 × Vec F S8x128x1024 .f32) : sProp 𝕄 :=
  iprop(Tabs c arg2 arg3 arg4 p2 p3 p4 T2 T3 T4 ∗ Held c arg5 arg6 arg7 arg9 arg10 q k v MA ∗ owns (c : Thread nD τ) arg8 fullShare y
    ∗ (Tabs c arg2 arg3 arg4 p2 p3 p4 T2 T3 T4 -∗ Held c arg5 arg6 arg7 arg9 arg10 q k v MA'
      -∗ owns (c : Thread nD τ) arg8 fullShare (if k0_cond5 w = 1#1 then outV MA'.2 else y) -∗ Q ⟨⟩))

theorem last_run (w : BitVec 32) {Q : PUnit.{1} → sProp 𝕄} (MA : Vec F S8x1024 .f32 × Vec F S8x128x1024 .f32) :
    At c arg2 arg3 arg4 arg5 arg6 arg7 arg8 arg9 arg10 p2 p3 p4 T2 T3 T4 q k v y w Q MA MA
      ⊢ WP c (if k0_cond5 w = 1#1 then lastP arg8 harg8 arg10 (.ret ⟨⟩) else .ret ⟨⟩) Q := by
  unfold At
  split
  · next h =>
    unfold Held
    iintro ⟨T, ⟨H5, H6, H7, H9, H10⟩, H8, Hk⟩
    iapply (lastP_run (Q := Q) c arg10 arg8 harg8 (.ret ⟨⟩) MA.2 y)
    isplitl [H10]; · iexact H10
    isplitl [H8]; · iexact H8
    iintro H10; iintro H8
    unfold WP
    rw [wp_ret]
    imodintro
    iapply Hk $$ [$T] [H5 H6 H7 H9 H10] [$H8]
    isplitl [H5]; · iexact H5
    isplitl [H6]; · iexact H6
    isplitl [H7]; · iexact H7
    isplitl [H9]; · iexact H9
    iexact H10
  · next h =>
    iintro ⟨T, H, H8, Hk⟩
    unfold WP
    rw [wp_ret]
    imodintro
    iapply Hk $$ [$T] [$H] [$H8]

/-- A branch that folds a block without reading a table. -/
theorem full_run (w b : BitVec 32) {Q : PUnit.{1} → sProp 𝕄} (MA MA' : Vec F S8x1024 .f32 × Vec F S8x128x1024 .f32)
    (mask : Fin 8 × Fin 4 → FVec F S512x256 .f32 → FVec F S512x256 .f32) (i₀ i₁ i₂ : Fin 8 × Fin 4) (is : List (Fin 8 × Fin 4)) (κ : PR (F := F))
    (h : At c arg2 arg3 arg4 arg5 arg6 arg7 arg8 arg9 arg10 p2 p3 p4 T2 T3 T4 q k v y w Q (foldV mask (i₀ :: i₁ :: i₂ :: is) q k v MA) MA' ⊢ WP c κ Q) :
    At c arg2 arg3 arg4 arg5 arg6 arg7 arg8 arg9 arg10 p2 p3 p4 T2 T3 T4 q k v y w Q MA MA'
      ⊢ WP c (runP arg5 arg6 arg7 arg9 arg10 mask i₀ i₁ i₂ is κ) Q := by
  unfold At at h ⊢
  iintro ⟨T, H, H8, Hk⟩
  iapply (runP_run (Q := Q) c arg5 arg6 arg7 arg9 arg10 q k v mask i₀ i₁ i₂ is κ MA)
  isplitl [H]; · iexact H
  iintro H
  iapply h
  isplitl [T]; · iexact T
  isplitl [H]; · iexact H
  isplitl [H8]; · iexact H8
  iexact Hk

/-- The branch that sets the scratch buffers. -/
theorem init_run (w : BitVec 32) {Q : PUnit.{1} → sProp 𝕄} (MA MA' : Vec F S8x1024 .f32 × Vec F S8x128x1024 .f32) (κ : PR (F := F))
    (h : At c arg2 arg3 arg4 arg5 arg6 arg7 arg8 arg9 arg10 p2 p3 p4 T2 T3 T4 q k v y w Q initV MA' ⊢ WP c κ Q) :
    At c arg2 arg3 arg4 arg5 arg6 arg7 arg8 arg9 arg10 p2 p3 p4 T2 T3 T4 q k v y w Q MA MA' ⊢ WP c (initP arg9 arg10 κ) Q := by
  unfold At at h ⊢
  iintro ⟨T, H, H8, Hk⟩
  iapply (initP_run (Q := Q) c arg5 arg6 arg7 arg9 arg10 q k v κ MA)
  isplitl [H]; · iexact H
  iintro H
  iapply h
  isplitl [T]; · iexact T
  isplitl [H]; · iexact H
  isplitl [H8]; · iexact H8
  iexact Hk

/-- A branch that folds a block under the mask of the two words it reads. -/
theorem diag_run (i : grid0.Coords) (w qi ki : BitVec 32) {Q : PUnit.{1} → sProp 𝕄} (MA MA' : Vec F S8x1024 .f32 × Vec F S8x128x1024 .f32)
    (hqi : wordAt T2 (k0_off2 i) (k0_off2_inb i) = qi) (hki : wordAt T3 (k0_off2 i) (k0_off2_inb i) = ki)
    (i₀ i₁ i₂ : Fin 8 × Fin 4) (is : List (Fin 8 × Fin 4)) (κ : PR (F := F))
    (h : At c arg2 arg3 arg4 arg5 arg6 arg7 arg8 arg9 arg10 p2 p3 p4 T2 T3 T4 q k v y w Q (foldV (maskV qi ki) (i₀ :: i₁ :: i₂ :: is) q k v MA) MA' ⊢ WP c κ Q) :
    At c arg2 arg3 arg4 arg5 arg6 arg7 arg8 arg9 arg10 p2 p3 p4 T2 T3 T4 q k v y w Q MA MA'
      ⊢ WP c ((smemLoad arg2 (Rect.unit (s := S272) (k0_off2 i) S1.size (k0_off2_inb i)) numel1_S1 rfl).bind fun qi =>
          (smemLoad arg3 (Rect.unit (s := S272) (k0_off2 i) S1.size (k0_off2_inb i)) numel1_S1 rfl).bind fun ki =>
          runP arg5 arg6 arg7 arg9 arg10 (maskV qi ki) i₀ i₁ i₂ is κ) Q := by
  have h' := full_run c arg2 arg3 arg4 arg5 arg6 arg7 arg8 arg9 arg10 p2 p3 p4 T2 T3 T4 q k v y w w MA MA' (maskV qi ki) i₀ i₁ i₂ is κ h
  unfold At Tabs at h' ⊢
  iintro ⟨⟨H2, H3, H4⟩, H, H8, Hk⟩
  iapply (word_owns (Q := Q) c arg2 p2 T2 (k0_off2_inb i))
  isplitl [H2]; · iexact H2
  iintro H2
  iapply (word_owns (Q := Q) c arg3 p3 T3 (k0_off2_inb i))
  isplitl [H3]; · iexact H3
  iintro H3
  rw [hqi, hki]
  iapply h'
  isplitl [H2 H3 H4]
  · isplitl [H2]; · iexact H2
    isplitl [H3]; · iexact H3
    iexact H4
  isplitl [H]; · iexact H
  isplitl [H8]; · iexact H8
  iexact Hk

theorem body_run (i : grid0.Coords) (w qi ki : BitVec 32) {Q : PUnit.{1} → sProp 𝕄} (MA : Vec F S8x1024 .f32 × Vec F S8x128x1024 .f32)
    (hw : wordAt T4 (k0_off1 i) (k0_off1_inb i) = w) (hqi : wordAt T2 (k0_off2 i) (k0_off2_inb i) = qi) (hki : wordAt T3 (k0_off2 i) (k0_off2_inb i) = ki) :
    At c arg2 arg3 arg4 arg5 arg6 arg7 arg8 arg9 arg10 p2 p3 p4 T2 T3 T4 q k v y w Q MA (pointV w qi ki q k v MA)
      ⊢ WP c (bodyP i arg2 arg3 arg4 arg5 arg6 arg7 arg8 harg8 arg9 arg10) Q := by
  have key : At c arg2 arg3 arg4 arg5 arg6 arg7 arg8 arg9 arg10 p2 p3 p4 T2 T3 T4 q k v y w Q MA (pointV w qi ki q k v MA) ⊢
      WP c ((fun w =>
        have j4 : PR (F := F) := if k0_cond5 w = 1#1 then lastP arg8 harg8 arg10 (.ret ⟨⟩) else .ret ⟨⟩
        have j3 : PR (F := F) := if fullC w = 1#1 then runP arg5 arg6 arg7 arg9 arg10 (fun _ s => s) (0, 0) (0, 1) (0, 2) insts0 j4 else j4
        have j2 : PR (F := F) := if diagC 1#32 w = 1#1 then
          ((smemLoad arg2 (Rect.unit (s := S272) (k0_off2 i) S1.size (k0_off2_inb i)) numel1_S1 rfl).bind fun qi =>
           (smemLoad arg3 (Rect.unit (s := S272) (k0_off2 i) S1.size (k0_off2_inb i)) numel1_S1 rfl).bind fun ki =>
           runP arg5 arg6 arg7 arg9 arg10 (maskV qi ki) (0, 2) (0, 3) (1, 2) insts1 j3) else j3
        have j1 : PR (F := F) := if diagC 0#32 w = 1#1 then
          ((smemLoad arg2 (Rect.unit (s := S272) (k0_off2 i) S1.size (k0_off2_inb i)) numel1_S1 rfl).bind fun qi =>
           (smemLoad arg3 (Rect.unit (s := S272) (k0_off2 i) S1.size (k0_off2_inb i)) numel1_S1 rfl).bind fun ki =>
           runP arg5 arg6 arg7 arg9 arg10 (maskV qi ki) (0, 0) (0, 1) (0, 2) insts0 j2) else j2
        (if firstC w = 1#1 then initP arg9 arg10 j1 else j1 : PR (F := F))) w) Q := by
    beta_reduce
    dsimp only
    unfold pointV
    dsimp only
    have h4 := fun m => last_run c arg2 arg3 arg4 arg5 arg6 arg7 arg8 harg8 arg9 arg10 p2 p3 p4 T2 T3 T4 q k v y w (Q := Q) m
    generalize (if k0_cond5 w = 1#1 then lastP arg8 harg8 arg10 (.ret ⟨⟩) else .ret ⟨⟩ : PR (F := F)) = j4 at h4 ⊢
    have h3 : ∀ m, At c arg2 arg3 arg4 arg5 arg6 arg7 arg8 arg9 arg10 p2 p3 p4 T2 T3 T4 q k v y w Q m (if fullC w = 1#1 then foldV (fun _ s => s) ((0, 0) :: (0, 1) :: (0, 2) :: insts0) q k v m else m) ⊢
        WP c (if fullC w = 1#1 then runP arg5 arg6 arg7 arg9 arg10 (fun _ s => s) (0, 0) (0, 1) (0, 2) insts0 j4 else j4) Q := fun m => by
      by_cases h : fullC w = 1#1
      · rw [if_pos h, if_pos h]; exact full_run c arg2 arg3 arg4 arg5 arg6 arg7 arg8 arg9 arg10 p2 p3 p4 T2 T3 T4 q k v y w w m _ _ _ _ _ _ _ (h4 _)
      · rw [if_neg h, if_neg h]; exact h4 m
    generalize (if fullC w = 1#1 then runP arg5 arg6 arg7 arg9 arg10 (fun _ s => s) (0, 0) (0, 1) (0, 2) insts0 j4 else j4 : PR (F := F)) = j3 at h3 ⊢
    by_cases hd1 : diagC 1#32 w = 1#1
    · simp only [if_pos hd1]
      have h2 := fun m => diag_run c arg2 arg3 arg4 arg5 arg6 arg7 arg8 arg9 arg10 p2 p3 p4 T2 T3 T4 q k v y i w qi ki m _ hqi hki (0, 2) (0, 3) (1, 2) insts1 j3 (h3 _)
      generalize ((smemLoad arg2 (Rect.unit (s := S272) (k0_off2 i) S1.size (k0_off2_inb i)) numel1_S1 rfl).bind fun qi =>
           (smemLoad arg3 (Rect.unit (s := S272) (k0_off2 i) S1.size (k0_off2_inb i)) numel1_S1 rfl).bind fun ki =>
           runP arg5 arg6 arg7 arg9 arg10 (maskV qi ki) (0, 2) (0, 3) (1, 2) insts1 j3) = j2 at h2 ⊢
      by_cases hd0 : diagC 0#32 w = 1#1
      · simp only [if_pos hd0]
        by_cases hf : firstC w = 1#1
        · simp only [if_pos hf]
          exact init_run c arg2 arg3 arg4 arg5 arg6 arg7 arg8 arg9 arg10 p2 p3 p4 T2 T3 T4 q k v y w MA _ _ (diag_run c arg2 arg3 arg4 arg5 arg6 arg7 arg8 arg9 arg10 p2 p3 p4 T2 T3 T4 q k v y i w qi ki _ _ hqi hki (0, 0) (0, 1) (0, 2) insts0 j2 (h2 _))
        · simp only [if_neg hf]
          exact diag_run c arg2 arg3 arg4 arg5 arg6 arg7 arg8 arg9 arg10 p2 p3 p4 T2 T3 T4 q k v y i w qi ki _ _ hqi hki (0, 0) (0, 1) (0, 2) insts0 j2 (h2 _)
      · simp only [if_neg hd0]
        by_cases hf : firstC w = 1#1
        · simp only [if_pos hf]
          exact init_run c arg2 arg3 arg4 arg5 arg6 arg7 arg8 arg9 arg10 p2 p3 p4 T2 T3 T4 q k v y w MA _ _ (h2 _)
        · simp only [if_neg hf]
          exact h2 _
    · simp only [if_neg hd1]
      by_cases hd0 : diagC 0#32 w = 1#1
      · simp only [if_pos hd0]
        by_cases hf : firstC w = 1#1
        · simp only [if_pos hf]
          exact init_run c arg2 arg3 arg4 arg5 arg6 arg7 arg8 arg9 arg10 p2 p3 p4 T2 T3 T4 q k v y w MA _ _ (diag_run c arg2 arg3 arg4 arg5 arg6 arg7 arg8 arg9 arg10 p2 p3 p4 T2 T3 T4 q k v y i w qi ki _ _ hqi hki (0, 0) (0, 1) (0, 2) insts0 j3 (h3 _))
        · simp only [if_neg hf]
          exact diag_run c arg2 arg3 arg4 arg5 arg6 arg7 arg8 arg9 arg10 p2 p3 p4 T2 T3 T4 q k v y i w qi ki _ _ hqi hki (0, 0) (0, 1) (0, 2) insts0 j3 (h3 _)
      · simp only [if_neg hd0]
        by_cases hf : firstC w = 1#1
        · simp only [if_pos hf]
          exact init_run c arg2 arg3 arg4 arg5 arg6 arg7 arg8 arg9 arg10 p2 p3 p4 T2 T3 T4 q k v y w MA _ _ (h3 _)
        · simp only [if_neg hf]
          exact h3 _
  unfold bodyP
  refine BIBase.Entails.trans ?_ (word_owns (Q := Q) c arg4 p4 T4 (k0_off1_inb i) _)
  rw [hw]
  unfold At Tabs at key ⊢
  iintro ⟨⟨H2, H3, H4⟩, H, H8, Hk⟩
  isplitl [H4]; · iexact H4
  iintro H4
  iapply key
  isplitl [H2 H3 H4]
  · isplitl [H2]; · iexact H2
    isplitl [H3]; · iexact H3
    iexact H4
  isplitl [H]; · iexact H
  isplitl [H8]; · iexact H8
  iexact Hk

end Point

end Cert.KernelIdeal.Att

end
-- ==== Proof.Sched.lean ====
/- The launch's tables: the words a point reads, the blocks it takes, and where the output's block is written back. -/
module

public import proofs.«01_k».proof.Proof.Run
public import Idealize.ShloMosaic.Lib.Pipeline.TableIdle
public import Idealize.ShloMosaic.Lib.Affine

@[expose] public section

set_option maxRecDepth 16384
set_option Elab.async false

noncomputable section

namespace Cert.KernelIdeal.Att

open Cert.KernelIdeal
open Cert.KernelIdeal.Facts₀ Cert.KernelIdeal.Facts
open Idealize.ShloMosaic
open Idealize.ShloMosaic.TcCoe Idealize.ShloMosaic.Tactic

variable {F : FTy → Type} [FloatOps F] [Named F]

/-- The tables. -/
def tbl0 : S272.Idx → BitVec 32 := fun i => lit0 (S272.rowMajor i)
def tbl1 : S272.Idx → BitVec 32 := fun i => lit1 (S272.rowMajor i)
def tbl2 : S272.Idx → BitVec 32 := fun i => lit2 (S272.rowMajor i)

def pfN : pre0.Contents (Elt F) := fun | ⟨0, _⟩ => tbl0 | ⟨1, _⟩ => tbl1 | ⟨2, _⟩ => tbl2 | ⟨_ + 3, h⟩ => absurd h (by simp)

/-- The block tile, key block and flags of a point. -/
def qiW (i : grid0.Coords) : BitVec 32 := lit0 (i 1)
def kiW (i : grid0.Coords) : BitVec 32 := lit1 (i 1)
def flW (i : grid0.Coords) : BitVec 32 := lit2 (i 1)

theorem rowMajor_off (i : grid0.Coords) (y : S272.Idx) (h : (y 0).val = (BitVec.ofNat 32 (i 1).val).toNat) : S272.rowMajor y = (i 1 : Fin 272) := by
  have hi : (i 1).val < 272 := (i 1).isLt
  apply Fin.ext
  have : (S272.rowMajor y).val = (y 0).val := by
    exact Shape.rowMajor_val_one y
  rw [this, h, BitVec.toNat_ofNat]
  omega

theorem word0 (i : grid0.Coords) : wordAt (F := F) tbl0 (k0_off2 i) (k0_off2_inb i) = qiW i := by
  exact congrArg lit0 (rowMajor_off i _ rfl)
theorem word1 (i : grid0.Coords) : wordAt (F := F) tbl1 (k0_off2 i) (k0_off2_inb i) = kiW i := by
  exact congrArg lit1 (rowMajor_off i _ rfl)
theorem word2 (i : grid0.Coords) : wordAt (F := F) tbl2 (k0_off1 i) (k0_off1_inb i) = flW i := by
  exact congrArg lit2 (rowMajor_off i _ rfl)

theorem coord0 (i : grid0.Coords) : (BitVec.ofNat 32 (i 0).val).toNat = (i 0).val := by
  have hi : (i 0).val < 2 := (i 0).isLt
  rw [BitVec.toNat_ofNat]; omega

theorem ix_0 (i : grid0.Coords) : cc0_transform_0 (F := F) k0_off1_inb numel1_S1 pfN i = ![(i 0).val, (qiW i).toNat, 0] := by
  exact congrArg₂ (fun a (b : BitVec 32) => ![a, b.toNat, 0]) (coord0 i) (congrArg lit0 (rowMajor_off i _ rfl))
theorem ix_1 (i : grid0.Coords) : cc0_transform_1 (F := F) k0_off1_inb numel1_S1 pfN i = ![(i 0).val, (kiW i).toNat, 0] := by
  exact congrArg₂ (fun a (b : BitVec 32) => ![a, b.toNat, 0]) (coord0 i) (congrArg lit1 (rowMajor_off i _ rfl))
theorem ix_2 (i : grid0.Coords) : cc0_transform_2 (F := F) k0_off1_inb numel1_S1 pfN i = ![(i 0).val, 0, (kiW i).toNat] := by
  exact congrArg₂ (fun a (b : BitVec 32) => ![a, 0, b.toNat]) (coord0 i) (congrArg lit1 (rowMajor_off i _ rfl))
theorem ix_3 (i : grid0.Coords) : cc0_transform_3 (F := F) k0_off1_inb numel1_S1 pfN i = ![(i 0).val, (qiW i).toNat, 0] := by
  exact congrArg₂ (fun a (b : BitVec 32) => ![a, b.toNat, 0]) (coord0 i) (congrArg lit0 (rowMajor_off i _ rfl))

theorem idle_3 (i : grid0.Coords) : idle0 (F := F) pfN 3 i = !(k0_cond5 (flW i) == 1#1) := by
  have h : Pipeline.Prefetch.Contents.atD (pfN (F := F)) 2 (k0_off1 i) = flW i := by
    unfold Pipeline.Prefetch.Contents.atD
    rw [dif_pos (fun a => match a with | ⟨0, _⟩ => k0_off1_inb i 0)]
    exact congrArg lit2 (rowMajor_off i _ rfl)
  exact congrArg (fun w => !(k0_cond5 w == 1#1)) h

theorem tab_lt : ∀ p : Fin 272, (lit0 p).toNat < 16 ∧ (lit1 p).toNat < 32 := by decide +kernel

theorem fits3 {x y z b0 b1 b2 s0 s1 s2 : ℕ} (hx : (x + 1) * b0 ≤ s0) (hy : (y + 1) * b1 ≤ s1) (hz : (z + 1) * b2 ≤ s2) :
    ∀ a : Fin 3, ((![x, y, z] : Fin 3 → ℕ) a + 1) * (![b0, b1, b2] : Fin 3 → ℕ) a ≤ (![s0, s1, s2] : Fin 3 → ℕ) a := fun a =>
  match a with
  | ⟨0, _⟩ => hx
  | ⟨1, _⟩ => hy
  | ⟨2, _⟩ => hz

theorem qi_lt (i : grid0.Coords) : (qiW i).toNat < 16 := (tab_lt (i 1)).1
theorem ki_lt (i : grid0.Coords) : (kiW i).toNat < 32 := (tab_lt (i 1)).2

theorem ok_pfN : ok0 (F := F) pfN := by
  refine ⟨fun i => ?_, fun i => ?_, fun i => ?_, fun i => ?_⟩ <;>
    have h0 : (i 0).val < 2 := (i 0).isLt <;> have hq := qi_lt i <;> have hk := ki_lt i
  · exact ⟨by rw [ix_0 i]; exact fits3 (by omega) (by omega) (by omega), .inr (Affine.block_words_dvd (s := S2x16384x1024) (p := EltTy.packing .bf16) (by decide) (by decide))⟩
  · exact ⟨by rw [ix_1 i]; exact fits3 (by omega) (by omega) (by omega), .inr (Affine.block_words_dvd (s := S2x16384x1024) (p := EltTy.packing .bf16) (by decide) (by decide))⟩
  · exact ⟨by rw [ix_2 i]; exact fits3 (by omega) (by omega) (by omega), .inr (Affine.block_words_dvd (s := S2x1024x16384) (p := EltTy.packing .bf16) (by decide) (by decide))⟩
  · exact ⟨by rw [ix_3 i]; exact fits3 (by omega) (by omega) (by omega), .inr (Affine.block_words_dvd (s := S2x16384x512) (p := EltTy.packing .bf16) (by decide) (by decide))⟩

/-- The tables' contents are admissible. -/
def adm : (pcfg0 (F := F)).Adm := ⟨pfN, ok_pfN⟩

def ixO (i : grid0.Coords) : Fin 3 → ℕ := ![(i 0).val, (qiW i).toNat, 0]

theorem flush_tab : ∀ t : Fin grid0.N, Pipeline.Window.flushOf grid0 true ixO t = (k0_cond5 (flW (grid0.coords t)) == 1#1) := by decide +kernel

end Cert.KernelIdeal.Att

end
-- ==== Proof.Region.lean ====
/- The attention's region: what the pipeline's buffers hold point by point, and @main's run. -/
module

public import proofs.«01_k».proof.Proof.Sched
public import proofs.«01_k».proof.Proof.Gen.KernelIdeal.Launch
public import Idealize.ShloMosaic.Lib.Pipeline.Quiescent
public import Idealize.ShloMosaic.Lib.Pipeline.Kit
public import Idealize.ShloMosaic.Lib.Pipeline.Frame
public import Idealize.ShloMosaic.Lib.Pipeline.FrameBody

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

abbrev cfgA : Pipeline.Cfg sig Λ₀ := cfg0 (F := F) adm
abbrev pcs : Fin 1 → Pipeline.Cfg sig Λ₀ := Pipeline.pin (pcfgs (F := F)) fun _ => adm
abbrev crd (t : Fin (cfgA (F := F)).N) : grid0.Coords := (cfgA (F := F)).grid.coords t

abbrev st0 (t : Fin (cfgA (F := F)).N) : Memref sig .tc .vmem S1x1024x1024 .bf16 := spec0_0.stage ((cfgA (F := F)).slots t (0 : Fin 4))
abbrev st1 (t : Fin (cfgA (F := F)).N) : Memref sig .tc .vmem S1x512x1024 .bf16 := spec0_1.stage ((cfgA (F := F)).slots t (1 : Fin 4))
abbrev st2 (t : Fin (cfgA (F := F)).N) : Memref sig .tc .vmem S1x1024x512 .bf16 := spec0_2.stage ((cfgA (F := F)).slots t (2 : Fin 4))
abbrev st3 (t : Fin (cfgA (F := F)).N) : Memref sig .tc .vmem S1x1024x512 .bf16 := spec0_3.stage ((cfgA (F := F)).slots t (3 : Fin 4))
abbrev wh0 (t : Fin (cfgA (F := F)).N) : (st0 t).IsWhole := hstage0_0 (((cfgA (F := F)).slots t (0 : Fin 4)).cast nbuf0_0)
abbrev wh1 (t : Fin (cfgA (F := F)).N) : (st1 t).IsWhole := hstage0_1 (((cfgA (F := F)).slots t (1 : Fin 4)).cast nbuf0_1)
abbrev wh2 (t : Fin (cfgA (F := F)).N) : (st2 t).IsWhole := hstage0_2 (((cfgA (F := F)).slots t (2 : Fin 4)).cast nbuf0_2)
abbrev wh3 (t : Fin (cfgA (F := F)).N) : (st3 t).IsWhole := hstage0_3 (((cfgA (F := F)).slots t (3 : Fin 4)).cast nbuf0_3)

variable (V : (c : Dev nD) → (b : Ref sig .tc) → Buf (Elt F) ((c.tc : Thread nD τ).loc b))

/-- Window `w`'s block at point `t`, of the array as the region finds it. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef (cfgA (F := F)).spec w))

/-- The scratch buffers after the first `n` points. -/
def trajMA (c : Dev nD) : ℕ → Vec F S8x1024 .f32 × Vec F S8x128x1024 .f32
  | 0 => initV
  | n + 1 => if h : n < (cfgA (F := F)).N then
      pointV (flW (crd ⟨n, h⟩)) (qiW (crd ⟨n, h⟩)) (kiW (crd ⟨n, h⟩)) (iblk V c (0 : Fin 4) ⟨n, h⟩) (iblk V c (1 : Fin 4) ⟨n, h⟩) (iblk V c (2 : Fin 4) ⟨n, h⟩)
        (trajMA c n)
    else trajMA c n

theorem trajMA_succ (c : Dev nD) (t : Fin (cfgA (F := F)).N) : trajMA V c (t.val + 1) =
    pointV (flW (crd t)) (qiW (crd t)) (kiW (crd t)) (iblk V c (0 : Fin 4) t) (iblk V c (1 : Fin 4) t) (iblk V c (2 : Fin 4) t) (trajMA V c t.val) := by
  rw [trajMA, dif_pos t.isLt]

abbrev tb0 : Memref sig .tc .smem S272 .i32 := Memref.whole main_c
abbrev tb1 : Memref sig .tc .smem S272 .i32 := Memref.whole main_c_0
abbrev tb2 : Memref sig .tc .smem S272 .i32 := Memref.whole main_c_1
abbrev sc0 : Memref sig .tc .vmem S8x1024 .f32 := Memref.whole cc0_scratch0
abbrev sc1 : Memref sig .tc .vmem S8x128x1024 .f32 := Memref.whole cc0_scratch1

/-- Before point `n`: the scratch buffers at the trajectory (anything before the first point), the tables. -/
def Phi (c : Dev nD) (n : ℕ) : sProp 𝕄 :=
  iprop((∃ MA : Vec F S8x1024 .f32 × Vec F S8x128x1024 .f32, ⌜n ≠ 0 → MA = trajMA V c n⌝ ∗ owns (c : Thread nD τ) sc0 fullShare MA.1 ∗ owns (c : Thread nD τ) sc1 fullShare MA.2)
    ∗ Tabs c tb0 tb1 tb2 fullShare.right fullShare.right fullShare.right tbl0 tbl1 tbl2 ∗ ∃ r, prngReg c r)

/-- The proof data of the pipeline on core `c`. -/
def dats (_ : Fin 1) (c : Dev nD) : Dat τ (Elt F) Unit ℕ (UR sig nD τ) ℕ (cfgA (F := F)) c where
  A w := V c (Pipeline.arrRef (cfgA (F := F)).spec w)
  after w t := match w with
    | ⟨0, _⟩ => iblk V c (0 : Fin 4) t
    | ⟨1, _⟩ => iblk V c (1 : Fin 4) t
    | ⟨2, _⟩ => iblk V c (2 : Fin 4) t
    | ⟨3, _⟩ => outV (trajMA V c (t.val + 1)).2
  Φ t := Phi V c t.val
  q _ := fullShare
  owed _ := 0

theorem after_0 (c : Dev nD) (t : Fin (cfgA (F := F)).N) : (dats V 0 c).after (0 : Fin 4) t = iblk V c (0 : Fin 4) t := rfl
theorem after_1 (c : Dev nD) (t : Fin (cfgA (F := F)).N) : (dats V 0 c).after (1 : Fin 4) t = iblk V c (1 : Fin 4) t := rfl
theorem after_2 (c : Dev nD) (t : Fin (cfgA (F := F)).N) : (dats V 0 c).after (2 : Fin 4) t = iblk V c (2 : Fin 4) t := rfl
theorem after_3 (c : Dev nD) (t : Fin (cfgA (F := F)).N) : (dats V 0 c).after (3 : Fin 4) t = outV (trajMA V c (t.val + 1)).2 := rfl

theorem before_0 (c : Dev nD) (t : Fin (cfgA (F := F)).N) (d) : (dats V 0 c).before (0 : Fin 4) t d = iblk V c (0 : Fin 4) t :=
  ((dats V 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA (F := F)).N) (d) : (dats V 0 c).before (1 : Fin 4) t d = iblk V c (1 : Fin 4) t :=
  ((dats V 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA (F := F)).N) (d) : (dats V 0 c).before (2 : Fin 4) t d = iblk V c (2 : Fin 4) t :=
  ((dats V 0 c).before_in_eq_fetched (2 : Fin 4) rfl (fun _ => rfl) (fun _ _ _ => rfl) (fun t => by rw [after_2]; unfold Dat.blockOf iblk; rfl) t d).trans
    (by unfold Dat.fetched Dat.blockOf iblk; rfl)

theorem flush_3 (t : Fin (cfgA (F := F)).N) : ((cfgA (F := F)).win (3 : Fin 4)).flush t = (k0_cond5 (flW (crd t)) == 1#1) := by
  have h : (fun i => cc0_transform_3 (F := F) k0_off1_inb numel1_S1 pfN i) = ixO := funext ix_3
  have e : ((cfgA (F := F)).win (3 : Fin 4)).flush t = Pipeline.Window.flushOf grid0 true (fun i => cc0_transform_3 (F := F) k0_off1_inb numel1_S1 pfN i) t := rfl
  rw [e, h]
  exact flush_tab t

theorem idle_at (t : Fin (cfgA (F := F)).N) : (cfgA (F := F)).idle (3 : Fin 4) ((cfgA (F := F)).grid.coords t) = !(k0_cond5 (flW (crd t)) == 1#1) :=
  idle_3 (crd t)

theorem fresh_3 (n : ℕ) (h : n ≤ (cfgA (F := F)).N) : (cfgA (F := F)).fresh (3 : Fin 4) n = true :=
  Pipeline.Cfg.fresh_tab (cfgA (F := F)) (3 : Fin 4) (fun _ => true) rfl
    (fun t => by rw [flush_3, idle_at]; cases (k0_cond5 (flW (crd t)) == 1#1) <;> rfl) n h

theorem before_3 (c : Dev nD) (t : Fin (cfgA (F := F)).N) (d) : (dats V 0 c).before (3 : Fin 4) t d = d := by
  rw [(dats V 0 c).before_out_traj (3 : Fin 4) rfl (fun _ _ => rfl)
    (fun t _ _ h => by rw [fresh_3 t.val (Nat.le_of_lt t.isLt)] at h; exact absurd h.symm Bool.false_ne_true) t.val t rfl d,
    fresh_3 t.val (Nat.le_of_lt t.isLt), if_pos rfl]

theorem first_0 : firstC (flW (grid0.coords ⟨0, by decide⟩)) = 1#1 := by decide +kernel

/-- At the first point the scratch buffers' contents are not read. -/
theorem point_first (w qi ki : BitVec 32) (hw : firstC w = 1#1) (q : Vec F S1x1024x1024 .bf16) (k : Vec F S1x512x1024 .bf16) (v : Vec F S1x1024x512 .bf16)
    (MA MA' : Vec F S8x1024 .f32 × Vec F S8x128x1024 .f32) : pointV w qi ki q k v MA = pointV w qi ki q k v MA' := by
  unfold pointV
  rw [if_pos hw, if_pos hw]

theorem step_eq (c : Dev nD) (t : Fin (cfgA (F := F)).N) (MA : Vec F S8x1024 .f32 × Vec F S8x128x1024 .f32) (h : t.val ≠ 0 → MA = trajMA V c t.val) :
    pointV (flW (crd t)) (qiW (crd t)) (kiW (crd t)) (iblk V c (0 : Fin 4) t) (iblk V c (1 : Fin 4) t) (iblk V c (2 : Fin 4) t) MA = trajMA V c (t.val + 1) := by
  rw [trajMA_succ]
  by_cases h0 : t.val = 0
  · refine point_first _ _ _ ?_ _ _ _ _ _
    rw [show crd t = grid0.coords ⟨0, by decide⟩ from congrArg grid0.coords (Fin.ext h0)]
    exact first_0
  · rw [h h0]

abbrev bodyAt (t : Fin (cfgA (F := F)).N) : Prog (TpuEff nD τ sig (Elt F) Λ₀ .tc) PUnit :=
  cc0__mla_attn_kernel (crd t) (Memref.whole main_c) (Memref.isWhole_whole _) (Memref.whole main_c_0) (Memref.isWhole_whole _) (Memref.whole main_c_1) (Memref.isWhole_whole _)
    (st0 t) (wh0 t) (st1 t) (wh1 t) (st2 t) (wh2 t) (st3 t) (wh3 t) (Memref.whole cc0_scratch0) (Memref.isWhole_whole _) (Memref.whole cc0_scratch1) (Memref.isWhole_whole _)

/-- A point, from its buffers. -/
theorem point_run (c : Dev nD) (t : Fin (cfgA (F := F)).N) (y : Vec F S1x1024x512 .bf16) {Q : PUnit.{1} → sProp 𝕄} :
    iprop(Phi V c t.val ∗ owns (c : Thread nD τ) (st0 t) fullShare (iblk V c (0 : Fin 4) t) ∗ owns (c : Thread nD τ) (st1 t) fullShare (iblk V c (1 : Fin 4) t)
        ∗ owns (c : Thread nD τ) (st2 t) fullShare (iblk V c (2 : Fin 4) t) ∗ owns (c : Thread nD τ) (st3 t) fullShare y
        ∗ (Phi V c (t.val + 1) -∗ owns (c : Thread nD τ) (st0 t) fullShare (iblk V c (0 : Fin 4) t) -∗ owns (c : Thread nD τ) (st1 t) fullShare (iblk V c (1 : Fin 4) t)
          -∗ owns (c : Thread nD τ) (st2 t) fullShare (iblk V c (2 : Fin 4) t)
          -∗ owns (c : Thread nD τ) (st3 t) fullShare (if k0_cond5 (flW (crd t)) = 1#1 then outV (trajMA V c (t.val + 1)).2 else y) -∗ Q ⟨⟩))
      ⊢ WP c (bodyAt t) Q := by
  unfold bodyAt
  rw [body_eq]
  iintro ⟨HP, H0, H1, H2, H3, Hk⟩
  unfold Phi
  icases HP with ⟨⟨%MA, %hMA, HM, HA⟩, HT, HR⟩
  iapply (body_run c tb0 tb1 tb2 (st0 t) (st1 t) (st2 t) (st3 t) (wh3 t) sc0 sc1 fullShare.right fullShare.right fullShare.right tbl0 tbl1 tbl2
    (iblk V c (0 : Fin 4) t) (iblk V c (1 : Fin 4) t) (iblk V c (2 : Fin 4) t) y (crd t) (flW (crd t)) (qiW (crd t)) (kiW (crd t)) (Q := Q) MA (word2 _) (word0 _) (word1 _))
  rw [step_eq V c t MA hMA]
  unfold At Held
  isplitl [HT]; · iexact HT
  isplitl [H0 H1 H2 HM HA]
  · isplitl [H0]; · iexact H0
    isplitl [H1]; · iexact H1
    isplitl [H2]; · iexact H2
    isplitl [HM]; · iexact HM
    iexact HA
  isplitl [H3]; · iexact H3
  iintro HT ⟨H0, H1, H2, HM, HA⟩ H3
  iapply Hk $$ [HT HM HA HR] H0 H1 H2 H3
  isplitl [HM HA]
  · iexists (trajMA V c (t.val + 1))
    isplitr
    · ipureintro; intro _; rfl
    isplitl [HM]; · iexact HM
    iexact HA
  isplitl [HT]; · iexact HT
  iexact HR

theorem at_castSucc {α : Sort _} {N : ℕ} (S : ℕ → α) (t : Fin N) : S (Fin.castSucc t).val = S t.val := rfl
theorem at_succ {α : Sort _} {N : ℕ} (S : ℕ → α) (t : Fin N) : S (Fin.succ t).val = S (t.val + 1) := rfl
theorem Phi_castSucc (c : Dev nD) (t : Fin (cfgA (F := F)).N) : ((dats V 0 c).Φ t.castSucc : sProp 𝕄) = Phi V c t.val := by
  dsimp only [dats]; exact at_castSucc (Phi V c) t
theorem Phi_succ (c : Dev nD) (t : Fin (cfgA (F := F)).N) : ((dats V 0 c).Φ t.succ : sProp 𝕄) = Phi V c (t.val + 1) := by
  dsimp only [dats]; exact at_succ (Phi V c) t

set_option maxHeartbeats 4000000 in
theorem sound_body (c : Dev nD) (t : Fin (cfgA (F := F)).N) :
    iprop((dats V 0 c).Φ t.castSucc ∗ (dats V 0 c).owesAt () t.castSucc
        ∗ (∃ d, owns (c : Thread nD τ) (st0 t) fullShare ((dats V 0 c).before (0 : Fin 4) t d))
        ∗ (∃ d, owns (c : Thread nD τ) (st1 t) fullShare ((dats V 0 c).before (1 : Fin 4) t d))
        ∗ (∃ d, owns (c : Thread nD τ) (st2 t) fullShare ((dats V 0 c).before (2 : Fin 4) t d))
        ∗ (∃ d, owns (c : Thread nD τ) (st3 t) fullShare ((dats V 0 c).before (3 : Fin 4) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats V 0 c).before w t d))
                  | true => owns (c : Thread nD τ) (((cfgA (F := F)).win w).stage ((cfgA (F := F)).slots t w)) fullShare ((dats V 0 c).after w t)
                | false => owns (c : Thread nD τ) (((cfgA (F := F)).win w).stage ((cfgA (F := F)).slots t w)) fullShare ((dats V 0 c).after w t)) := by
  rw [bigSep_W0]
  rewrite [idle_at t]
  simp only [before_0, before_1, before_2, before_3, after_0, after_1, after_2, after_3, flush_3]
  rewrite [Phi_succ, Phi_castSucc,
    show (dats V 0 c).owesAt () t.succ = (dats V 0 c).owesAt () t.castSucc from rfl]
  iintro ⟨HP, Ho, ⟨%d0, H0⟩, ⟨%d1, H1⟩, ⟨%d2, H2⟩, ⟨%d3, H3⟩⟩
  iapply (point_run V c t d3) $$ [HP H0 H1 H2 H3 Ho]
  isplitl [HP]; · iexact HP
  isplitl [H0]; · iexact H0
  isplitl [H1]; · iexact H1
  isplitl [H2]; · iexact H2
  isplitl [H3]; · iexact H3
  iintro HP H0 H1 H2 H3
  isplitl [HP]; · iexact HP
  isplitl [Ho]; · iexact Ho
  isplitl [H0]; · iexact H0
  isplitl [H1]; · iexact H1
  isplitl [H2]; · iexact H2
  by_cases hc : k0_cond5 (flW (crd t)) = 1#1
  · rw [if_pos hc, show (k0_cond5 (flW (crd t)) == 1#1) = true from beq_iff_eq.mpr hc]
    rw [show (!true) = false from rfl]
    iexact H3
  · rw [if_neg hc, show (k0_cond5 (flW (crd t)) == 1#1) = false from beq_eq_false_iff_ne.mpr hc]
    have hf : ((cfgA (F := F)).win (3 : Fin 4)).flush t = false := by rw [flush_3]; exact beq_eq_false_iff_ne.mpr hc
    rw [show (!false) = true from rfl]
    rw [show ((pcfg0 (F := F)).win adm (3 : Fin 4)).flush t = false from hf]
    iexists d3
    iexact H3

theorem body_obligation (c : Dev nD) : BodyObligation (dats V 0 c) (defs₀ (F := F)) Variants.none () Set.univ := fun t => by
  rw [bigSep_W0]
  exact sound_body V c t

theorem share_eq (c : Dev nD) (w : Fin (cfgA (F := F)).W) : (dats V 0 c).share w = fullShare := by unfold Dat.share; split <;> rfl

theorem tabs_eq (c : Dev nD) (q : Fin 3 → PosShare TreeShare) :
    (Pipeline.prefHeld (Ix := Unit) (Name := ℕ) (U := UR sig nD τ) (Lvl := ℕ) pre0 c q (pfN (F := F)) : sProp 𝕄)
      = Tabs c tb0 tb1 tb2 (q 0) (q 1) (q 2) tbl0 tbl1 tbl2 := by
  unfold Pipeline.prefHeld Tabs
  rw [show (Finset.univ : Finset (Fin 3)) = insert (0 : Fin 3) (insert (1 : Fin 3) {(2 : Fin 3)}) from by decide,
    bigSep_insert (by decide), bigSep_insert (by decide), bigSep_singleton]
  rw [owns_whole, owns_whole, owns_whole]
  rfl

theorem enter (c : Dev nD) : iprop(Pipeline.ΦA (cfgA (F := F)).spec c ∗ Pipeline.ΦT (pcfg0 (F := F)).pre (adm (F := F)).1 c) ⊢ ((dats V 0 c).Φ 0 : sProp 𝕄) := by
  rw [show ((dats V 0 c).Φ 0 : sProp 𝕄) = Phi V c 0 from rfl]
  unfold Pipeline.ΦA Pipeline.ΦT Phi
  rw [show (Pipeline.prefHeld (Ix := Unit) (Name := ℕ) (U := UR sig nD τ) (Lvl := ℕ) (pcfg0 (F := F)).pre c (fun _ => fullShare.right) (adm (F := F)).1 : sProp 𝕄)
      = Tabs c tb0 tb1 tb2 fullShare.right fullShare.right fullShare.right tbl0 tbl1 tbl2 from tabs_eq c _,
    show (Pipeline.scopedRest (Ix := Unit) (Name := ℕ) (U := UR sig nD τ) (Lvl := ℕ) (Val := Elt F) (cfgA (F := F)).spec c : sProp 𝕄) = _ from scopedRest0_eq c]
  iintro ⟨⟨⟨⟨%a, HM⟩, ⟨%b, HA⟩⟩, HR⟩, HT⟩
  isplitl [HM HA]
  · iexists (⟨a, b⟩ : Vec F S8x1024 .f32 × Vec F S8x128x1024 .f32)
    rw [owns_whole, owns_whole]
    isplitr
    · ipureintro; intro h; exact absurd rfl h
    isplitl [HM]; · iexact HM
    iexact HA
  isplitl [HT]; · iexact HT
  iexact HR

theorem leave (c : Dev nD) : ((dats V 0 c).Φ (Fin.last (cfgA (F := F)).N) : sProp 𝕄) ⊢ Pipeline.ΦA (cfgA (F := F)).spec c := by
  rw [show ((dats V 0 c).Φ (Fin.last (cfgA (F := F)).N) : sProp 𝕄) = Phi V c (cfgA (F := F)).N from rfl]
  unfold Pipeline.ΦA Phi
  rw [show (Pipeline.scopedRest (Ix := Unit) (Name := ℕ) (U := UR sig nD τ) (Lvl := ℕ) (Val := Elt F) (cfgA (F := F)).spec c : sProp 𝕄) = _ from scopedRest0_eq c]
  simp only [owns_whole]
  iintro ⟨⟨%MA, %hMA, HM, HA⟩, HT, HR⟩
  isplitl [HM HA]
  · isplitl [HM]
    · iexists MA.1; iexact HM
    · iexists MA.2; iexact HA
  iexact HR

variable (m : (ℓ : Loc nD τ sig) → Buf (Elt F) ℓ) (ρ : Dev nD → PrngReg)

/-- The buffers as the region finds them: after the host's operations. -/
def hostV (c : Dev nD) (b : Ref sig .tc) : Buf (Elt F) ((c.tc : Thread nD τ).loc b) :=
  StableHlo.after hostOps0 (fun b => m (c, b)) b

theorem host_fresh : (hostOps0 : List (HloOp τ sig (Elt F))).Forall fun op => op.fresh = ∅ := by
  refine ⟨?_, ?_, ?_, ?_, ?_, ?_, ?_, ?_, ?_, ?_, ?_, ?_, ?_, ?_, ?_, ?_, ?_, ?_, ?_, ?_, ?_, ?_, ?_, ?_, ?_, ?_, ?_⟩ <;> rfl

theorem host_tables (c : Dev nD) (k : Fin 3) : hostV m c (pre0.ref k) = pfN (F := F) k := by
  match k with
  | ⟨0, _⟩ =>
    show hostV m c main_c = tbl0
    unfold hostV hostOps0; after_results; rfl
  | ⟨1, _⟩ =>
    show hostV m c main_c_0 = tbl1
    unfold hostV hostOps0; after_results; rfl
  | ⟨2, _⟩ =>
    show hostV m c main_c_1 = tbl2
    unfold hostV hostOps0; after_results; rfl

theorem host_arg (c : Dev nD) : hostV m c main_arg0 = m (c, main_arg0) ∧ hostV m c main_arg1 = m (c, main_arg1) ∧ hostV m c main_arg2 = m (c, main_arg2)
    ∧ hostV m c main_arg3 = m (c, main_arg3) ∧ hostV m c main_arg4 = m (c, main_arg4) := by
  unfold hostV hostOps0
  refine ⟨?_, ?_, ?_, ?_, ?_⟩ <;> after_results

set_option backward.isDefEq.respectTransparency.types false in
set_option maxHeartbeats 4000000 in
theorem run_main : θ_run defs (onTc (τ := τ) (main (F := F))) (s₀ m ρ)
    (fun r => Pipeline.FramePost (pcs (F := F)) (dats (hostV m)) 0 (hostV m) r ∧ r.2.sem = fun _ => 0) :=
  Pipeline.θ_run_frameP_track (pcfgs (F := F)) (fun _ => adm) (dats (hostV m)) (0 : Fin 1) launch0 defs₀ Variants.none m ρ main
    (hbody := fun c => (body_obligation (hostV m) c).loose) (hshare := fun c w => share_eq (hostV m) c w) (howed := fun _ _ => rfl)
    (V := hostV m) (hmain := Pipeline.hmainP_prefix (pcfgs (F := F)) 0 defs₀ Variants.none m main hostOps0 hostOps0_sub host_fresh main_chain)
    (hA := fun _ _ => rfl) (hpf := fun c k => host_tables m c k) (hin := enter (hostV m)) (hout := leave (hostV m))
    (Q' := fun r => Pipeline.FramePost (pcs (F := F)) (dats (hostV m)) 0 (hostV m) r ∧ r.2.sem = fun _ => 0) (hQ' := fun _ h => h)

/-- The run: the result holds what the write-backs leave, the arguments are unchanged. -/
theorem run_result : θ_run defs (onTc (τ := τ) (main (F := F))) ⟨m, fun _ => 0, ρ⟩
    (fun r => (∀ c : Dev nD, r.2.mem ((c.tc : Thread nD τ).loc main_v19) = (dats (hostV m) 0 c).arrAt (3 : Fin 4) (cfgA (F := F)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun r h => ⟨fun c => by
    obtain ⟨ha, hr⟩ := h.1 c
    obtain ⟨h0, h1, h2, h3, h4⟩ := host_arg m c
    exact ⟨ha (3 : Fin 4), (hr main_arg0 (show main_arg0 ∈ Pipeline.restRefs sig spec0 by decide)).trans h0, (hr main_arg1 (show main_arg1 ∈ Pipeline.restRefs sig spec0 by decide)).trans h1, (hr main_arg2 (show main_arg2 ∈ Pipeline.restRefs sig spec0 by decide)).trans h2,
      (hr main_arg3 (show main_arg3 ∈ Pipeline.restRefs sig spec0 by decide)).trans h3, (hr main_arg4 (show main_arg4 ∈ Pipeline.restRefs sig spec0 by decide)).trans h4⟩, h.2⟩) (run_main m ρ)

end Cert.KernelIdeal.Att

end
-- ==== Proof.Online.lean ====
/- The running softmax over the extended reals: one block of keys at a time, against the sum over all keys so far. -/
module

public import Idealize.ShloMosaic.Lib.Pointwise

@[expose] public section

noncomputable section

namespace Cert.Att

open Idealize.ShloMosaic

theorem coe_sum {ι : Type*} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- The greatest of finitely many values that are real or −∞. -/
theorem fold_max_cases {ι : Type*} [Fintype ι] (f : ι → EReal) (h : ∀ i, f i ≠ ⊤) :
    Finset.univ.fold max ⊥ f ≠ ⊤ ∧ ∀ i, f i ≤ Finset.univ.fold max ⊥ f := by
  have e : Finset.univ.fold max ⊥ f = Finset.univ.sup f := rfl
  rw [e]
  exact ⟨((Finset.sup_lt_iff bot_lt_top).2 fun i _ => lt_top_iff_ne_top.2 (h i)).ne, fun i => Finset.le_sup (Finset.mem_univ i)⟩

theorem real_or_bot (x : EReal) (h : x ≠ ⊤) : x = ⊥ ∨ ∃ r : ℝ, x = r := by
  induction x with
  | bot => exact .inl rfl
  | coe r => exact .inr ⟨r, rfl⟩
  | top => exact absurd rfl h

/-- A key's share of a row's sum: its value at the power of two of its score over the level μ, if the query sees it. -/
def share (P : ℕ → Prop) [DecidablePred P] (σ w : ℕ → ℝ) (μ : ℝ) (s : ℕ) : ℝ := if P s then w s * (2 : ℝ) ^ (σ s - μ) else 0

/-- The state of a query after the first n keys: no key seen, or a real level m and each row's sum at that level. -/
def Inv {R : Type*} (P : ℕ → Prop) [DecidablePred P] (σ : ℕ → ℝ) (w : R → ℕ → ℝ) (n : ℕ) (m : EReal) (a : R → EReal) : Prop :=
  (m = ⊥ ∧ (∀ s < n, ¬P s) ∧ ∀ r, a r = 0) ∨ ∃ μ : ℝ, m = μ ∧ ∀ r, a r = ((∑ s ∈ Finset.range n, share P σ (w r) μ s : ℝ) : EReal)

theorem Inv.start {R : Type*} (P : ℕ → Prop) [DecidablePred P] (σ : ℕ → ℝ) (w : R → ℕ → ℝ) : Inv P σ w 0 ⊥ fun _ => 0 :=
  .inl ⟨rfl, fun _ h => absurd h (Nat.not_lt_zero _), fun _ => rfl⟩

/-- A share at a higher level. -/
theorem share_level (P : ℕ → Prop) [DecidablePred P] (σ w : ℕ → ℝ) (μ μ' : ℝ) (s : ℕ) : (2 : ℝ) ^ (μ - μ') * share P σ w μ s = share P σ w μ' s := by
  unfold share
  split
  · rw [mul_left_comm, ← Real.rpow_add (by norm_num)]; congr 2; ring
  · rw [mul_zero]

/-- What a block of keys adds to a row, at a real level. -/
theorem block_sum {L : ℕ} (P : ℕ → Prop) [DecidablePred P] (σ w : ℕ → ℝ) (n : ℕ) (μ : ℝ) (s v : Fin L → EReal)
    (hs : ∀ k : Fin L, s k = if P (n + k.val) then ((σ (n + k.val) : ℝ) : EReal) else ⊥) (hv : ∀ k : Fin L, v k = ((w (n + k.val) : ℝ) : EReal)) :
    ∑ k : Fin L, v k * Ideal.exp2 (s k - (μ : EReal)) = ((∑ k ∈ Finset.range L, share P σ w μ (n + k) : ℝ) : EReal) := by
  rw [Finset.sum_range, coe_sum]
  refine Finset.sum_congr rfl fun k _ => ?_
  rw [hs, hv, share]
  split
  · rw [← EReal.coe_sub, Ideal.exp2_coe, EReal.coe_mul]; rfl
  · rw [EReal.bot_sub, Ideal.exp2_bot, mul_zero, EReal.coe_zero]

/-- One step of the running softmax keeps the state. -/
theorem Inv.step {R : Type*} {L : ℕ} {P : ℕ → Prop} [DecidablePred P] {σ : ℕ → ℝ} {w : R → ℕ → ℝ} {n : ℕ} {m : EReal} {a : R → EReal} (h : Inv P σ w n m a)
    (s : Fin L → EReal) (v : R → Fin L → EReal)
    (hs : ∀ k : Fin L, s k = if P (n + k.val) then ((σ (n + k.val) : ℝ) : EReal) else ⊥) (hv : ∀ r k, v r k = ((w r (n + k.val) : ℝ) : EReal))
    (M : EReal) (hM : M = max m (Finset.univ.fold max ⊥ s)) (a' : R → EReal)
    (ha : ∀ r, a' r = Ideal.exp2 (m - M) * a r + ∑ k : Fin L, v r k * Ideal.exp2 (s k - M)) : Inv P σ w (n + L) M a' := by
  obtain ⟨ht, hle⟩ := fold_max_cases s fun k => by rw [hs]; split <;> simp
  have hmt : m ≠ ⊤ := by rcases h with ⟨h, _⟩ | ⟨μ, h, _⟩ <;> simp [h]
  have hMt : M ≠ ⊤ := by rw [hM]; exact max_ne_top hmt ht
  rcases real_or_bot M hMt with hb | ⟨μ', hr⟩
  · have hm : m = ⊥ := le_bot_iff.1 ((le_max_left m _).trans (hM.symm.trans hb).le)
    have hsk : ∀ k, s k = ⊥ := fun k => le_bot_iff.1 ((hle k).trans ((le_max_right m _).trans (hM.symm.trans hb).le))
    rcases h with ⟨_, hP, h0⟩ | ⟨μ, h, _⟩
    · refine .inl ⟨hb, fun x hx hx' => ?_, fun r => ?_⟩
      · by_cases hn : x < n
        · exact hP x hn hx'
        · have e := hs ⟨x - n, by omega⟩
          rw [hsk, show n + (x - n) = x by omega, if_pos hx'] at e
          exact EReal.bot_ne_coe _ e
      · rw [ha, h0, mul_zero, zero_add]
        refine Finset.sum_eq_zero fun k _ => ?_
        rw [hsk, hb, EReal.bot_sub, Ideal.exp2_bot, mul_zero]
    · exact absurd (h ▸ hm) (EReal.coe_ne_bot _)
  · refine .inr ⟨μ', hr, fun r => ?_⟩
    rw [ha, hr, block_sum P σ (w r) n μ' s (v r) hs (hv r), Finset.sum_range_add, EReal.coe_add]
    congr 1
    rcases h with ⟨_, hP, h0⟩ | ⟨μ, hμ, h0⟩
    · rw [h0, mul_zero, ← EReal.coe_zero]
      congr 1
      exact (Finset.sum_eq_zero fun x hx => if_neg (hP x (Finset.mem_range.1 hx))).symm
    · rw [h0, hμ, ← EReal.coe_sub, Ideal.exp2_coe, show Real.rpow 2 (μ - μ') = (2 : ℝ) ^ (μ - μ') from rfl, ← EReal.coe_mul, Finset.mul_sum]
      congr 1
      exact Finset.sum_congr rfl fun x _ => share_level P σ (w r) μ μ' x

/-- Keys that the query does not see leave the state. -/
theorem Inv.skip {R : Type*} {P : ℕ → Prop} [DecidablePred P] {σ : ℕ → ℝ} {w : R → ℕ → ℝ} {n : ℕ} {m : EReal} {a : R → EReal} (h : Inv P σ w n m a)
    (n' : ℕ) (hn : n ≤ n') (hP : ∀ s, n ≤ s → s < n' → ¬P s) : Inv P σ w n' m a := by
  rcases h with ⟨hm, h0, ha⟩ | ⟨μ, hm, ha⟩
  · exact .inl ⟨hm, fun s hs => if h : s < n then h0 s h else hP s (by omega) hs, ha⟩
  · refine .inr ⟨μ, hm, fun r => ?_⟩
    rw [ha]
    congr 1
    refine Finset.sum_subset (fun x hx => Finset.mem_range.2 (lt_of_lt_of_le (Finset.mem_range.1 hx) hn)) fun x hx hx' => ?_
    exact if_neg (hP x (by simpa using hx') (Finset.mem_range.1 hx))

/-- The mean of the values under the softmax of the seen scores, a score being the power of two's exponent times log 2. -/
def mean (P : ℕ → Prop) [DecidablePred P] (x w : ℕ → ℝ) (n : ℕ) : ℝ :=
  (∑ s ∈ Finset.range n, if P s then w s * Real.exp (x s) else 0) / ∑ s ∈ Finset.range n, if P s then Real.exp (x s) else 0

theorem share_exp (P : ℕ → Prop) [DecidablePred P] (x w : ℕ → ℝ) (μ : ℝ) (s : ℕ) :
    share P (fun s => x s / Real.log 2) w μ s = (if P s then w s * Real.exp (x s) else 0) * Real.exp (-(Real.log 2 * μ)) := by
  unfold share
  split
  · rw [mul_assoc, ← Real.exp_add, Real.rpow_def_of_pos (by norm_num)]
    congr 2
    have : Real.log 2 ≠ 0 := (Real.log_pos (by norm_num)).ne'
    field_simp
    ring
  · rw [zero_mul]

theorem mass_pos (P : ℕ → Prop) [DecidablePred P] (x : ℕ → ℝ) (n : ℕ) (hn : 0 < n) (h0 : P 0) : 0 < ∑ s ∈ Finset.range n, if P s then Real.exp (x s) else 0 :=
  Finset.sum_pos' (fun s _ => by split <;> positivity) ⟨0, Finset.mem_range.2 hn, by rw [if_pos h0]; positivity⟩

/-- The quotient of a row's sum by the row of ones' sum is the mean. -/
theorem Inv.quotient {R : Type*} {P : ℕ → Prop} [DecidablePred P] {x : ℕ → ℝ} {w : R → ℕ → ℝ} {n : ℕ} {m : EReal} {a : R → EReal}
    (h : Inv P (fun s => x s / Real.log 2) w n m a) (hn : 0 < n) (h0 : P 0) (r r₁ : R) (h1 : ∀ s < n, w r₁ s = 1) :
    Ideal.div (a r) (a r₁) = ((mean P x (w r) n : ℝ) : EReal) := by
  rcases h with ⟨_, hP, _⟩ | ⟨μ, _, ha⟩
  · exact absurd h0 (hP 0 hn)
  · have hz := mass_pos P x n hn h0
    have e1 : ∑ s ∈ Finset.range n, share P (fun s => x s / Real.log 2) (w r₁) μ s = (∑ s ∈ Finset.range n, if P s then Real.exp (x s) else 0) * Real.exp (-(Real.log 2 * μ)) := by
      rw [Finset.sum_mul]
      exact Finset.sum_congr rfl fun s hs => by rw [share_exp, h1 s (Finset.mem_range.1 hs), one_mul]
    have e2 : ∑ s ∈ Finset.range n, share P (fun s => x s / Real.log 2) (w r) μ s = (∑ s ∈ Finset.range n, if P s then w r s * Real.exp (x s) else 0) * Real.exp (-(Real.log 2 * μ)) := by
      rw [Finset.sum_mul]
      exact Finset.sum_congr rfl fun s _ => share_exp P x (w r) μ s
    have hE := Real.exp_pos (-(Real.log 2 * μ))
    rw [ha, ha, e1, e2, Ideal.div_coe (mul_pos hz hE).ne', ← EReal.coe_mul, mean]
    congr 1
    field_simp

/-- The same mean as a softmax over all keys at once takes it: exponentials over the greatest score, each divided by their sum, then
    the weighted sum. -/
theorem softmax_mean {L : ℕ} (P : ℕ → Prop) [DecidablePred P] (x w : ℕ → ℝ) (hn : 0 < L) (h0 : P 0) (s v : Fin L → EReal)
    (hs : ∀ k : Fin L, s k = if P k.val then ((x k.val : ℝ) : EReal) else ⊥) (hv : ∀ k : Fin L, v k = ((w k.val : ℝ) : EReal))
    (M : EReal) (hM : M = max ⊥ (Finset.univ.fold max ⊥ s)) :
    ∑ k : Fin L, v k * Ideal.div (Ideal.exp (s k - M)) (∑ j : Fin L, Ideal.exp (s j - M)) = ((mean P x w L : ℝ) : EReal) := by
  obtain ⟨ht, hle⟩ := fold_max_cases s fun k => by rw [hs]; split <;> simp
  have hMt : M ≠ ⊤ := by rw [hM]; exact max_ne_top (by simp) ht
  rcases real_or_bot M hMt with hb | ⟨μ, hr⟩
  · have e := (hle ⟨0, hn⟩).trans (le_max_right ⊥ _)
    rw [← hM, hb, hs, if_pos h0] at e
    exact absurd (le_bot_iff.1 e) (EReal.coe_ne_bot _)
  · have he : ∀ k : Fin L, Ideal.exp (s k - M) = (((if P k.val then Real.exp (x k.val) else 0) * Real.exp (-μ) : ℝ) : EReal) := fun k => by
      rw [hs, hr]
      split
      · rw [← EReal.coe_sub, Ideal.exp_coe, ← Real.exp_add, sub_eq_add_neg]
      · rw [EReal.bot_sub, Ideal.exp_bot, zero_mul, EReal.coe_zero]
    have hz := mass_pos P x L hn h0
    have hE := Real.exp_pos (-μ)
    have hS : ∑ j : Fin L, Ideal.exp (s j - M) = (((∑ k ∈ Finset.range L, if P k then Real.exp (x k) else 0) * Real.exp (-μ) : ℝ) : EReal) := by
      rw [Finset.sum_mul, Finset.sum_range, coe_sum]
      exact Finset.sum_congr rfl fun k _ => he k
    rw [hS, mean]
    generalize (∑ s ∈ Finset.range L, if P s then Real.exp (x s) else 0) = Z at hz ⊢
    rw [Finset.sum_div, Finset.sum_range, coe_sum]
    refine Finset.sum_congr rfl fun k _ => ?_
    rw [hv, he, Ideal.div_coe (mul_pos hz hE).ne', ← EReal.coe_mul, ← EReal.coe_mul]
    congr 1
    split
    · field_simp
    · simp

/-! ## The attention, on real arrays -/

/-! ## Words of the two programs -/

theorem ofBits_bot : Ideal.ofBits .f32 0xFF800000#32 = ⊥ := by simp [Ideal.ofBits, Ideal.ieee]
theorem ofBits_96 : Ideal.ofBits .f32 0x42C00000#32 = ((96 : ℝ) : EReal) := by simp [Ideal.ofBits, Ideal.ieee, -EReal.coe_mul]; norm_num

/-- Small words compare as the numbers that they are. -/
theorem sle_small (x y : ℕ) (hx : x < 65536) (hy : y < 65536) : IntOp.cmpi .sle (BitVec.ofNat 32 x) (BitVec.ofNat 32 y) = BitVec.ofBool (decide (x ≤ y)) := by
  unfold IntOp.cmpi
  congr 1
  show (BitVec.ofNat 32 x).sle (BitVec.ofNat 32 y) = _
  rw [BitVec.sle_eq_decide, BitVec.toInt_eq_toNat_of_lt (by simp; omega), BitVec.toInt_eq_toNat_of_lt (by simp; omega)]
  simp only [BitVec.toNat_ofNat, Nat.mod_eq_of_lt (show x < 2 ^ 32 by omega), Nat.mod_eq_of_lt (show y < 2 ^ 32 by omega), Nat.cast_le]

/-! ## The attention -/

/-- A query sees the keys of its own chunk of 64 and of those before. -/
abbrev Sees (t s : ℕ) : Prop := s / 64 ≤ t / 64

/-- A position by its number. -/
def pos (n : ℕ) : Fin 16384 := ⟨n % 16384, Nat.mod_lt _ (by norm_num)⟩

theorem pos_val (t : Fin 16384) : pos t.val = t := Fin.ext (Nat.mod_eq_of_lt t.isLt)

section Attention

variable (qn : Fin 2 → Fin 16384 → Fin 8 → Fin 64 → ℝ) (qr : Fin 2 → Fin 16384 → Fin 8 → Fin 32 → ℝ) (kn : Fin 2 → Fin 16384 → Fin 8 → Fin 64 → ℝ)
  (kr : Fin 2 → Fin 16384 → Fin 32 → ℝ) (v : Fin 2 → Fin 16384 → Fin 8 → Fin 64 → ℝ)

/-- The score of a key against a query: the head's product and the rotary one, over the root of 96. -/
def score (b : Fin 2) (h : Fin 8) (t s : ℕ) : ℝ :=
  ((∑ d, kn b (pos s) h d * qn b (pos t) h d) + ∑ d, kr b (pos s) d * qr b (pos t) h d) / Real.sqrt 96

/-- The attention of a query: the mean of the values under the softmax of the scores of the keys that it sees. -/
def att (b : Fin 2) (h : Fin 8) (t : ℕ) (d : Fin 64) : ℝ := mean (Sees t) (score qn qr kn kr b h t) (fun s => v b (pos s) h d) 16384

end Attention

end Cert.Att

end
-- ==== Proof.Point.lean ====
/- The values of the body's steps at one position, and how a list of steps acts on one block of the scratch buffers. -/
module

public import proofs.«01_k».proof.Proof.Run
public import proofs.«01_k».proof.Proof.Online

@[expose] public section

set_option maxRecDepth 16384

noncomputable section

namespace Cert.KernelIdeal.Att

open Cert.KernelIdeal Cert.Att
open Cert.KernelIdeal.Facts₀ Cert.KernelIdeal.Facts
open Idealize.ShloMosaic

/-! ## The block that a step changes -/

section Blocks

variable {F : FTy → Type} [FloatOps F] [Named F]

abbrev St : Type := Vec F S8x1024 .f32 × Vec F S8x128x1024 .f32

abbrev mW (MA : St (F := F)) (i : Fin 8 × Fin 4) : Vec F S1x256 .f32 := VecWindow.window MA.1 ![i.1.val, 256 * i.2.val] S1x256.size (inbM i.1 i.2)
abbrev aW (MA : St (F := F)) (i : Fin 8 × Fin 4) : Vec F S1x128x256 .f32 := VecWindow.window MA.2 ![i.1.val, 0, 256 * i.2.val] S1x128x256.size (inbA i.1 i.2)
abbrev vW (v : Vec F S1x1024x512 .bf16) (h : Fin 8) : Vec F S1x128x512 .bf16 := VecWindow.window v ![0, 128 * h.val, 0] S1x128x512.size (inbV h)

theorem stepV_same (i : Fin 8 × Fin 4) (s : FVec F S512x256 .f32) (v : Vec F S1x1024x512 .bf16) (MA : St (F := F)) :
    mW (stepV i s v MA) i = maxOf s (mW MA i) ∧ aW (stepV i s v MA) i = accOf s (mW MA i) (vW v i.1) (aW MA i) := by
  refine ⟨?_, VecWindow.window_put_same ..⟩
  refine (VecWindow.window_put_same ..).trans ?_
  funext j
  exact congrFun (shapeCast_self _ _) j

theorem stepV_other (i i' : Fin 8 × Fin 4) (hi : i ≠ i') (s : FVec F S512x256 .f32) (v : Vec F S1x1024x512 .bf16) (MA : St (F := F)) :
    mW (stepV i s v MA) i' = mW MA i' ∧ aW (stepV i s v MA) i' = aW MA i' := by
  by_cases h : i.1 = i'.1
  · have hc : i.2.val ≠ i'.2.val := fun e => hi (Prod.ext h (Fin.ext e))
    constructor
    · exact VecWindow.window_put_of_disjoint (s := S8x1024) _ _ _ _ _ _ _ (1 : Fin 2) (by
        show 256 * i'.2.val + 256 ≤ 256 * i.2.val ∨ 256 * i.2.val + 256 ≤ 256 * i'.2.val; omega)
    · exact VecWindow.window_put_of_disjoint (s := S8x128x1024) _ _ _ _ _ _ _ (2 : Fin 3) (by
        show 256 * i'.2.val + 256 ≤ 256 * i.2.val ∨ 256 * i.2.val + 256 ≤ 256 * i'.2.val; omega)
  · have hc : i.1.val ≠ i'.1.val := fun e => h (Fin.ext e)
    constructor
    · exact VecWindow.window_put_of_disjoint (s := S8x1024) _ _ _ _ _ _ _ (0 : Fin 2) (by
        show i'.1.val + 1 ≤ i.1.val ∨ i.1.val + 1 ≤ i'.1.val; omega)
    · exact VecWindow.window_put_of_disjoint (s := S8x128x1024) _ _ _ _ _ _ _ (0 : Fin 3) (by
        show i'.1.val + 1 ≤ i.1.val ∨ i.1.val + 1 ≤ i'.1.val; omega)

variable (mask : Fin 8 × Fin 4 → FVec F S512x256 .f32 → FVec F S512x256 .f32) (q : Vec F S1x1024x1024 .bf16)
  (k : Vec F S1x512x1024 .bf16) (v : Vec F S1x1024x512 .bf16)

theorem foldV_off (is : List (Fin 8 × Fin 4)) (MA : St (F := F)) (i : Fin 8 × Fin 4) (hi : i ∉ is) :
    mW (foldV mask is q k v MA) i = mW MA i ∧ aW (foldV mask is q k v MA) i = aW MA i := by
  induction is generalizing MA with
  | nil => exact ⟨rfl, rfl⟩
  | cons x xs ih =>
    obtain ⟨h1, h2⟩ := stepV_other x i (fun e => hi (e ▸ List.mem_cons_self)) (mask x (scoreV x q k)) v MA
    obtain ⟨h3, h4⟩ := ih (stepV x (mask x (scoreV x q k)) v MA) (fun h => hi (List.mem_cons_of_mem _ h))
    exact ⟨h3.trans h1, h4.trans h2⟩

theorem foldV_on (is : List (Fin 8 × Fin 4)) (hd : is.Nodup) (MA : St (F := F)) (i : Fin 8 × Fin 4) (hi : i ∈ is) :
    mW (foldV mask is q k v MA) i = maxOf (mask i (scoreV i q k)) (mW MA i)
    ∧ aW (foldV mask is q k v MA) i = accOf (mask i (scoreV i q k)) (mW MA i) (vW v i.1) (aW MA i) := by
  induction is generalizing MA with
  | nil => exact absurd hi List.not_mem_nil
  | cons x xs ih =>
    obtain ⟨hx, hxs⟩ := List.nodup_cons.1 hd
    rcases List.mem_cons.1 hi with rfl | h
    · obtain ⟨h3, h4⟩ := foldV_off mask q k v xs (stepV i (mask i (scoreV i q k)) v MA) i hx
      obtain ⟨h1, h2⟩ := stepV_same i (mask i (scoreV i q k)) v MA
      exact ⟨h3.trans h1, h4.trans h2⟩
    · obtain ⟨h1, h2⟩ := stepV_other x i (fun e => hx (e ▸ h)) (mask x (scoreV x q k)) v MA
      obtain ⟨h3, h4⟩ := ih hxs (stepV x (mask x (scoreV x q k)) v MA) h
      rw [h1] at h3
      rw [h1, h2] at h4
      exact ⟨h3, h4⟩

end Blocks

/-! ## At a position, over the extended reals -/

theorem negV_bot : negV (F := Ideal) = ⊥ := by
  have h : κ "mask" = some ⊥ := rfl
  unfold negV
  exact IdealRules.named_const.ideal_named_scalar (φ := .f32) κ "mask" 0xF149F2CA#32 ⊥ h

theorem scoreV_apply (i : Fin 8 × Fin 4) (q : Vec Ideal S1x1024x1024 .bf16) (k : Vec Ideal S1x512x1024 .bf16) (s : Fin 512) (j : Fin 256) :
    scoreV (F := Ideal) i q k (ix2 s j) = ∑ e : Fin 128, k (ix3 0 s ⟨128 * i.1.val + e.val, by omega⟩) * q (ix3 0 ⟨256 * i.2.val + j.val, by omega⟩ ⟨128 * i.1.val + e.val, by omega⟩) := by
  pointwise [scoreV, scoreOf]
  refine Finset.sum_congr rfl fun e _ => ?_
  exact congr (congrArg HMul.hMul (congrArg k (funext fun a => Fin.ext (by fin_cases a <;> simp [Rect.emb_apply]))))
    (congrArg q (funext fun a => Fin.ext (by fin_cases a <;> simp [Rect.emb_apply])))

theorem maxOf_apply (s : FVec Ideal S512x256 .f32) (m : Vec Ideal S1x256 .f32) (j : Fin 256) :
    maxOf (F := Ideal) s m (ix2 0 j) = max (m (ix2 0 j)) (Finset.univ.fold max ⊥ fun x : Fin 512 => s (ix2 x j)) := by
  rw [← ofBits_bot]
  pointwise [maxOf]

theorem accOf_apply (s : FVec Ideal S512x256 .f32) (m : Vec Ideal S1x256 .f32) (v : Vec Ideal S1x128x512 .bf16) (a : Vec Ideal S1x128x256 .f32) (r : Fin 128) (j : Fin 256) :
    accOf (F := Ideal) s m v a (ix3 0 r j) = Ideal.exp2 (m (ix2 0 j) - maxOf s m (ix2 0 j)) * a (ix3 0 r j)
      + ∑ x : Fin 512, v (ix3 0 r x) * Ideal.exp2 (s (ix2 x j) - maxOf s m (ix2 0 j)) := by
  pointwise [accOf]
  rfl

theorem headOf_apply (a : Vec Ideal S1x128x1024 .f32) (d : Fin 64) (t : Fin 1024) :
    headOf (F := Ideal) a (ix2 d t) = Ideal.div (a (ix3 0 ⟨d.val, by omega⟩ t)) (a (ix3 0 64 t)) := by
  pointwise [headOf]

theorem fdV_row (s : Fin 512) (j : Fin 256) : fdV (iota .tc S512x256 32 [0] iota_S512x256_d0_w32) (ix2 s j) = BitVec.ofNat 32 (s.val / 64) := by
  pointwise [fdV]
  clear j
  revert s
  decide +kernel

theorem fdV_col (s : Fin 512) (j : Fin 256) : fdV (iota .tc S512x256 32 [1] iota_S512x256_d1_w32) (ix2 s j) = BitVec.ofNat 32 (j.val / 64) := by
  pointwise [fdV]
  clear s
  revert j
  decide +kernel

theorem fdS_key : ∀ c : Fin 32, fdS (Scalar.muli (BitVec.ofNat 32 c.val) 512#32) = BitVec.ofNat 32 (8 * c.val) := by decide +kernel
theorem fdS_query : ∀ a : Fin 16, fdS (Scalar.muli (BitVec.ofNat 32 a.val) 1024#32) = BitVec.ofNat 32 (16 * a.val) := by decide +kernel

theorem maskV_apply (a : Fin 16) (c : Fin 32) (i : Fin 8 × Fin 4) (s : FVec Ideal S512x256 .f32) (k : Fin 512) (j : Fin 256) :
    maskV (F := Ideal) (BitVec.ofNat 32 a.val) (BitVec.ofNat 32 c.val) i s (ix2 k j)
      = if (512 * c.val + k.val) / 64 ≤ (1024 * a.val + 256 * i.2.val + j.val) / 64 then s (ix2 k j) else ⊥ := by
  have h : maskV (F := Ideal) (BitVec.ofNat 32 a.val) (BitVec.ofNat 32 c.val) i s (ix2 k j)
      = Scalar.select (IntOp.cmpi .sle (fdS (Scalar.muli (BitVec.ofNat 32 c.val) 512#32) + fdV (iota .tc S512x256 32 [0] iota_S512x256_d0_w32) (ix2 k j))
          (fdV (iota .tc S512x256 32 [1] iota_S512x256_d1_w32) (ix2 k j) + (fdS (Scalar.muli (BitVec.ofNat 32 a.val) 1024#32) + BitVec.ofNat 32 (4 * i.2.val)))) (s (ix2 k j)) negV := rfl
  rw [h, fdV_row, fdV_col, fdS_key, fdS_query, negV_bot, ← BitVec.ofNat_add, ← BitVec.ofNat_add, ← BitVec.ofNat_add, sle_small _ _ (by omega) (by omega)]
  unfold Scalar.select
  have e : (8 * c.val + k.val / 64 ≤ j.val / 64 + (16 * a.val + 4 * i.2.val)) ↔ ((512 * c.val + k.val) / 64 ≤ (1024 * a.val + 256 * i.2.val + j.val) / 64) := by omega
  by_cases hh : 8 * c.val + k.val / 64 ≤ j.val / 64 + (16 * a.val + 4 * i.2.val)
  · rw [if_pos (e.1 hh), decide_eq_true hh]; rfl
  · rw [if_neg (fun h => hh (e.2 h)), decide_eq_false hh]; rfl

theorem initV_m (i : Fin 8 × Fin 4) (j : Fin 256) : mW (initV (F := Ideal)) i (ix2 0 j) = ⊥ := by
  rw [← negV_bot]; rfl
theorem initV_a (i : Fin 8 × Fin 4) (r : Fin 128) (j : Fin 256) : aW (initV (F := Ideal)) i (ix3 0 r j) = 0 := by
  rw [← Ideal.ofBits_zero_f32]; rfl

end Cert.KernelIdeal.Att

end
-- ==== Proof.Tile.lean ====
/- A grid point keeps the state of every query of its tile: after block c of the keys, the running softmax of the first 512 (c + 1) keys. -/
module

public import proofs.«01_k».proof.Proof.Point
public import proofs.«01_k».proof.Proof.Sched

@[expose] public section

set_option maxRecDepth 16384

noncomputable section

namespace Cert.KernelIdeal.Att

open Cert.KernelIdeal Cert.Att
open Cert.KernelIdeal.Facts₀ Cert.KernelIdeal.Facts
open Idealize.ShloMosaic

variable (x : Fin 8 → ℕ → ℕ → ℝ) (W : Fin 8 → Fin 128 → ℕ → ℝ)

/-- Every query of tile a is in the state of the first n keys. -/
def Good (a n : ℕ) (MA : St (F := Ideal)) : Prop :=
  ∀ (i : Fin 8 × Fin 4) (j : Fin 256), Inv (Sees (1024 * a + 256 * i.2.val + j.val)) (fun s => x i.1 (1024 * a + 256 * i.2.val + j.val) s / Real.log 2) (W i.1) n
    (mW MA i (ix2 0 j)) (fun r => aW MA i (ix3 0 r j))

theorem good_init (a : ℕ) : Good x W a 0 (initV (F := Ideal)) := fun i j => by
  have h : (fun r => aW (initV (F := Ideal)) i (ix3 0 r j)) = fun _ => 0 := funext fun r => initV_a i r j
  rw [h, initV_m]
  exact Inv.start _ _ _

section Step

variable (a c : ℕ) (q : Vec Ideal S1x1024x1024 .bf16) (k : Vec Ideal S1x512x1024 .bf16) (v : Vec Ideal S1x1024x512 .bf16)

/-- The operands of a point hold the scores and the values of tile a and block c. -/
def Holds : Prop :=
  (∀ (i : Fin 8 × Fin 4) (s : Fin 512) (j : Fin 256), scoreV (F := Ideal) i q k (ix2 s j)
    = ((x i.1 (1024 * a + 256 * i.2.val + j.val) (512 * c + s.val) / Real.log 2 : ℝ) : EReal))
  ∧ ∀ (h : Fin 8) (r : Fin 128) (s : Fin 512), vW v h (ix3 0 r s) = ((W h r (512 * c + s.val) : ℝ) : EReal)

variable (mask : Fin 8 × Fin 4 → FVec Ideal S512x256 .f32 → FVec Ideal S512x256 .f32)

/-- One block of keys, folded into the blocks of a list: those in it step, the others see none of the keys. -/
theorem fold_good (H : Holds x W a c q k v)
    (hm : ∀ (i : Fin 8 × Fin 4) (s : FVec Ideal S512x256 .f32) (e : Fin 512) (j : Fin 256), mask i s (ix2 e j)
      = if Sees (1024 * a + 256 * i.2.val + j.val) (512 * c + e.val) then s (ix2 e j) else ⊥)
    (is : List (Fin 8 × Fin 4)) (hd : is.Nodup) (hn : ∀ i, i ∉ is → ∀ j s : ℕ, j < 256 → 512 * c ≤ s → ¬Sees (1024 * a + 256 * i.2.val + j) s)
    (MA : St (F := Ideal)) (h : Good x W a (512 * c) MA) : Good x W a (512 * (c + 1)) (foldV mask is q k v MA) := fun i j => by
  by_cases hi : i ∈ is
  · obtain ⟨h1, h2⟩ := foldV_on mask q k v is hd MA i hi
    rw [h1, h2]
    refine Inv.step (L := 512) (h i j) (fun e => mask i (scoreV i q k) (ix2 e j)) (fun r e => vW v i.1 (ix3 0 r e)) (fun e => ?_) (fun r e => H.2 i.1 r e) _ ?_ _ fun r => ?_
    · rw [hm, H.1]
    · exact maxOf_apply ..
    · exact accOf_apply ..
  · obtain ⟨h1, h2⟩ := foldV_off mask q k v is MA i hi
    rw [h1, h2]
    exact (h i j).skip _ (by omega) fun s hs _ => hn i hi j.val s j.isLt hs

end Step

theorem all0 : ((0, 0) :: (0, 1) :: (0, 2) :: insts0).Nodup ∧ ∀ i, i ∈ (0, 0) :: (0, 1) :: (0, 2) :: insts0 := by decide
theorem half1 : ((0, 2) :: (0, 3) :: (1, 2) :: insts1).Nodup ∧ ∀ i, i ∉ (0, 2) :: (0, 3) :: (1, 2) :: insts1 → i.2.val < 2 := by decide

/-- The branches that a point takes. -/
structure Branches (w : BitVec 32) (a c : ℕ) : Prop where
  first : firstC w = 1#1 ↔ c = 0
  diag0 : diagC 0#32 w = 1#1 ↔ c = 2 * a
  diag1 : diagC 1#32 w = 1#1 ↔ c = 2 * a + 1
  full : fullC w = 1#1 ↔ c < 2 * a
  last : k0_cond5 w = 1#1 ↔ c = 2 * a + 1
  le : c ≤ 2 * a + 1

theorem branches (p : Fin 272) : Branches (lit2 p) (lit0 p).toNat (lit1 p).toNat := by
  have h : ∀ p : Fin 272, (firstC (lit2 p) = 1#1 ↔ (lit1 p).toNat = 0) ∧ (diagC 0#32 (lit2 p) = 1#1 ↔ (lit1 p).toNat = 2 * (lit0 p).toNat)
      ∧ (diagC 1#32 (lit2 p) = 1#1 ↔ (lit1 p).toNat = 2 * (lit0 p).toNat + 1) ∧ (fullC (lit2 p) = 1#1 ↔ (lit1 p).toNat < 2 * (lit0 p).toNat)
      ∧ (k0_cond5 (lit2 p) = 1#1 ↔ (lit1 p).toNat = 2 * (lit0 p).toNat + 1) ∧ (lit1 p).toNat ≤ 2 * (lit0 p).toNat + 1 := by decide +kernel
  obtain ⟨h1, h2, h3, h4, h5, h6⟩ := h p
  exact ⟨h1, h2, h3, h4, h5, h6⟩

/-- A point, from the state of the blocks before its own (any state, at the first block). -/
theorem point_good (w : BitVec 32) (a : Fin 16) (c : Fin 32) (hb : Branches w a.val c.val) (q : Vec Ideal S1x1024x1024 .bf16) (k : Vec Ideal S1x512x1024 .bf16)
    (v : Vec Ideal S1x1024x512 .bf16) (H : Holds x W a.val c.val q k v) (MA : St (F := Ideal)) (h : c.val ≠ 0 → Good x W a.val (512 * c.val) MA) :
    Good x W a.val (512 * (c.val + 1)) (pointV w (BitVec.ofNat 32 a.val) (BitVec.ofNat 32 c.val) q k v MA) := by
  have h1 : Good x W a.val (512 * c.val) (if firstC w = 1#1 then initV else MA) := by
    by_cases e : c.val = 0
    · rw [if_pos (hb.first.2 e), e]; exact good_init x W a.val
    · rw [if_neg (fun e' => e (hb.first.1 e'))]; exact h e
  have hle := hb.le
  have hmask := fun (i : Fin 8 × Fin 4) (s : FVec Ideal S512x256 .f32) (e : Fin 512) (j : Fin 256) => maskV_apply a c i s e j
  unfold pointV
  dsimp only
  by_cases e0 : c.val = 2 * a.val
  · rw [if_neg (c := fullC w = 1#1) (fun e => by have := hb.full.1 e; omega), if_neg (c := diagC 1#32 w = 1#1) (fun e => by have := hb.diag1.1 e; omega), if_pos (c := diagC 0#32 w = 1#1) (hb.diag0.2 e0)]
    exact fold_good x W _ _ q k v _ H hmask _ all0.1 (fun i hi => absurd (all0.2 i) hi) _ h1
  · by_cases e1 : c.val = 2 * a.val + 1
    · rw [if_neg (c := fullC w = 1#1) (fun e => by have := hb.full.1 e; omega), if_pos (c := diagC 1#32 w = 1#1) (hb.diag1.2 e1), if_neg (c := diagC 0#32 w = 1#1) (fun e => e0 (hb.diag0.1 e))]
      refine fold_good x W _ _ q k v _ H hmask _ half1.1 (fun i hi j s hj hs => ?_) _ h1
      have := half1.2 i hi
      unfold Sees
      omega
    · rw [if_pos (c := fullC w = 1#1) (hb.full.2 (by omega)), if_neg (c := diagC 1#32 w = 1#1) (fun e => e1 (hb.diag1.1 e)), if_neg (c := diagC 0#32 w = 1#1) (fun e => e0 (hb.diag0.1 e))]
      refine fold_good x W _ _ q k v _ H (fun i s e j => (if_pos ?_).symm) _ all0.1 (fun i hi => absurd (all0.2 i) hi) _ h1
      unfold Sees
      have := e.isLt
      omega

end Cert.KernelIdeal.Att

end
-- ==== Proof.Host.lean ====
/- The three operands that the host prepares, at one position: the padded and scaled queries, the padded keys, the values with a row of ones. -/
module

public import proofs.«01_k».proof.Proof.Region
public import proofs.«01_k».proof.Proof.Tile

@[expose] public section

set_option maxRecDepth 16384

noncomputable section

namespace Cert.KernelIdeal.Att

open Cert.KernelIdeal Cert.Att
open Cert.KernelIdeal.Facts₀ Cert.KernelIdeal.Facts
open Idealize.ShloMosaic Idealize.ShloMosaic.TcCoe Idealize.ShloMosaic.StableHlo

/-! ## The operands as functions of the arguments -/

/-- Three pieces joined along the last axis, the heads laid side by side. -/
def packOf (x : FVec Ideal S2x16384x8x64 .bf16) (y z : FVec Ideal S2x16384x8x32 .bf16) : FVec Ideal S2x16384x1024 .bf16 :=
  shapeCast S2x16384x1024 (concatenate S2x16384x8x128 3 [⟨S2x16384x8x64, x⟩, ⟨S2x16384x8x32, y⟩, ⟨S2x16384x8x32, z⟩]
      concatenates_S2x16384x8x64_S2x16384x8x32_S2x16384x8x32_S2x16384x8x128_d3 : FVec Ideal S2x16384x8x128 .bf16) shapeCasts_S2x16384x8x128_S2x16384x1024

def zeros32 : FVec Ideal S2x16384x8x32 .bf16 := broadcastInDim S2x16384x8x32 ![] bcast_S_S2x16384x8x32 (constant S_ .bf16 0x0000#16 : FVec Ideal S_ .bf16)

/-- The scale of the scores' exponents of two. -/
def scaleOf : FVec Ideal S_ .f32 := mulf (Host.sqrt (constant S_ .f32 0x42C00000#32)) (Host.log (constant S_ .f32 0x40000000#32))

def qOf (a0 : FVec Ideal S2x16384x8x64 .bf16) (a1 : FVec Ideal S2x16384x8x32 .bf16) : FVec Ideal S2x16384x1024 .bf16 :=
  truncf .bf16 (Host.divf (extf .f32 (packOf a0 a1 zeros32) bitsLt_bf16_f32)
    (broadcastInDim S2x16384x1024 ![] bcast_S_S2x16384x1024 scaleOf : FVec Ideal S2x16384x1024 .f32)) bitsLt_bf16_f32

/-- One rotary key for all heads. -/
def ropeOf (a3 : FVec Ideal S2x16384x32 .bf16) : FVec Ideal S2x16384x8x32 .bf16 :=
  broadcastInDim S2x16384x8x32 ![0, 1, 2, 3] bcast_S2x16384x1x32_S2x16384x8x32_0_1_2_3 (broadcastInDim S2x16384x1x32 ![0, 1, 3] bcast_S2x16384x32_S2x16384x1x32_0_1_3 a3 : FVec Ideal S2x16384x1x32 .bf16)

def kOf (a2 : FVec Ideal S2x16384x8x64 .bf16) (a3 : FVec Ideal S2x16384x32 .bf16) : FVec Ideal S2x16384x1024 .bf16 := packOf a2 (ropeOf a3) zeros32

def ones1 : FVec Ideal S2x16384x8x1 .bf16 := broadcastInDim S2x16384x8x1 ![] bcast_S_S2x16384x8x1 (constant S_ .bf16 0x3F80#16 : FVec Ideal S_ .bf16)
def zeros63 : FVec Ideal S2x16384x8x63 .bf16 := broadcastInDim S2x16384x8x63 ![] bcast_S_S2x16384x8x63 (constant S_ .bf16 0x0000#16 : FVec Ideal S_ .bf16)

/-- The values, a row of ones and rows of zeros, the heads laid side by side. -/
def packV (x : FVec Ideal S2x16384x8x64 .bf16) (y : FVec Ideal S2x16384x8x1 .bf16) (z : FVec Ideal S2x16384x8x63 .bf16) : FVec Ideal S2x16384x1024 .bf16 :=
  shapeCast S2x16384x1024 (concatenate S2x16384x8x128 3 [⟨S2x16384x8x64, x⟩, ⟨S2x16384x8x1, y⟩, ⟨S2x16384x8x63, z⟩]
      concatenates_S2x16384x8x64_S2x16384x8x1_S2x16384x8x63_S2x16384x8x128_d3 : FVec Ideal S2x16384x8x128 .bf16) shapeCasts_S2x16384x8x128_S2x16384x1024

def vOf (a4 : FVec Ideal S2x16384x8x64 .bf16) : FVec Ideal S2x1024x16384 .bf16 :=
  transpose S2x1024x16384 [0, 2, 1] (packV a4 ones1 zeros63) transposes_S2x16384x1024_S2x1024x16384_0_2_1

variable (m : (ℓ : Loc nD τ sig) → Buf (Elt Ideal) ℓ)

theorem host_q (c : Dev nD) : hostV m c main_v9 = qOf (m (c, main_arg0)) (m (c, main_arg1)) := by
  unfold hostV Cert.KernelIdeal.Gen.hostOps0; after_results; rfl
theorem host_k (c : Dev nD) : hostV m c main_v13 = kOf (m (c, main_arg2)) (m (c, main_arg3)) := by
  unfold hostV Cert.KernelIdeal.Gen.hostOps0; after_results; rfl
theorem host_v (c : Dev nD) : hostV m c main_v18 = vOf (m (c, main_arg4)) := by
  unfold hostV Cert.KernelIdeal.Gen.hostOps0; after_results; rfl

/-! ## At a position -/

/-- Three pieces joined: 64 entries, 32 entries, zeros. -/
def join {α : Type} [Zero α] (A : Fin 64 → α) (B : Fin 32 → α) (e : Fin 128) : α :=
  if h : e.val < 64 then A ⟨e.val, h⟩ else if h : e.val - 64 < 32 then B ⟨e.val - 64, h⟩ else 0

theorem zeros32_apply (i : S2x16384x8x32.Idx) : zeros32 i = 0 := Ideal.ofBits_zero_bf16
theorem zeros63_apply (i : S2x16384x8x63.Idx) : zeros63 i = 0 := Ideal.ofBits_zero_bf16
theorem ones1_apply (i : S2x16384x8x1.Idx) : ones1 i = 1 := Ideal.ofBits_one_bf16

theorem packOf_apply (x : FVec Ideal S2x16384x8x64 .bf16) (y z : FVec Ideal S2x16384x8x32 .bf16) (b : Fin 2) (s : Fin 16384) (h : Fin 8) (e : Fin 128) :
    packOf x y z (ix3 b s ⟨128 * h.val + e.val, by omega⟩) = if h1 : e.val < 64 then x (ix4 b s h ⟨e.val, h1⟩)
      else if h2 : e.val - 64 < 32 then y (ix4 b s h ⟨e.val - 64, h2⟩) else z (ix4 b s h ⟨e.val - 64 - 32, by omega⟩) := by
  pointwise [packOf]

theorem packV_apply (x : FVec Ideal S2x16384x8x64 .bf16) (y : FVec Ideal S2x16384x8x1 .bf16) (z : FVec Ideal S2x16384x8x63 .bf16) (b : Fin 2) (s : Fin 16384) (h : Fin 8) (e : Fin 128) :
    packV x y z (ix3 b s ⟨128 * h.val + e.val, by omega⟩) = if h1 : e.val < 64 then x (ix4 b s h ⟨e.val, h1⟩)
      else if h2 : e.val - 64 < 1 then y (ix4 b s h ⟨e.val - 64, h2⟩) else z (ix4 b s h ⟨e.val - 64 - 1, by omega⟩) := by
  pointwise [packV]

theorem rope_apply (a3 : FVec Ideal S2x16384x32 .bf16) (b : Fin 2) (s : Fin 16384) (h : Fin 8) (d : Fin 32) : ropeOf a3 (ix4 b s h d) = a3 (ix3 b s d) := by
  pointwise [ropeOf]

theorem transpose_at (x : FVec Ideal S2x16384x1024 .bf16) (b : Fin 2) (s : Fin 16384) (r : Fin 1024) :
    transpose S2x1024x16384 [0, 2, 1] x transposes_S2x16384x1024_S2x1024x16384_0_2_1 (ix3 b r s) = x (ix3 b s r) := by
  pointwise

theorem ofBits_2 : Ideal.ofBits .f32 0x40000000#32 = ((2 : ℝ) : EReal) := by simp [Ideal.ofBits, Ideal.ieee, -EReal.coe_mul]; norm_num

theorem scale_apply (i : S_.Idx) : scaleOf i = ((Real.sqrt 96 * Real.log 2 : ℝ) : EReal) := by
  show Ideal.sqrt (Ideal.ofBits .f32 0x42C00000#32) * Ideal.log (Ideal.ofBits .f32 0x40000000#32) = _
  rw [ofBits_96, ofBits_2, Ideal.sqrt_coe, Ideal.log_coe, if_neg (by norm_num), if_neg (by norm_num), EReal.coe_mul]

theorem quotient_at (x : FVec Ideal S2x16384x1024 .bf16) (sc : FVec Ideal S_ .f32) (v : EReal) (hv : ∀ i, sc i = v) (i : S2x16384x1024.Idx) :
    (truncf .bf16 (Host.divf (extf .f32 x bitsLt_bf16_f32) (broadcastInDim S2x16384x1024 ![] bcast_S_S2x16384x1024 sc : FVec Ideal S2x16384x1024 .f32)) bitsLt_bf16_f32 : FVec Ideal S2x16384x1024 .bf16) i
      = Ideal.div (x i) v := congrArg (Ideal.div (x i)) (hv _)

/-! The operands, read. -/

theorem packOf_join (x : FVec Ideal S2x16384x8x64 .bf16) (y : FVec Ideal S2x16384x8x32 .bf16) (b : Fin 2) (s : Fin 16384) (h : Fin 8) (e : Fin 128) :
    packOf x y zeros32 (ix3 b s ⟨128 * h.val + e.val, by omega⟩) = join (fun d => x (ix4 b s h d)) (fun d => y (ix4 b s h d)) e := by
  rw [packOf_apply]
  unfold join
  simp only [zeros32_apply]

theorem kOf_apply (a2 : FVec Ideal S2x16384x8x64 .bf16) (a3 : FVec Ideal S2x16384x32 .bf16) (b : Fin 2) (s : Fin 16384) (h : Fin 8) (e : Fin 128) :
    kOf a2 a3 (ix3 b s ⟨128 * h.val + e.val, by omega⟩) = join (fun d => a2 (ix4 b s h d)) (fun d => a3 (ix3 b s d)) e := by
  unfold kOf
  rw [packOf_join]
  simp only [rope_apply]

theorem qOf_apply (a0 : FVec Ideal S2x16384x8x64 .bf16) (a1 : FVec Ideal S2x16384x8x32 .bf16) (b : Fin 2) (t : Fin 16384) (h : Fin 8) (e : Fin 128) :
    qOf a0 a1 (ix3 b t ⟨128 * h.val + e.val, by omega⟩)
      = Ideal.div (join (fun d => a0 (ix4 b t h d)) (fun d => a1 (ix4 b t h d)) e) ((Real.sqrt 96 * Real.log 2 : ℝ) : EReal) := by
  unfold qOf
  rw [quotient_at _ _ _ scale_apply, packOf_join]

theorem vOf_apply (a4 : FVec Ideal S2x16384x8x64 .bf16) (b : Fin 2) (s : Fin 16384) (h : Fin 8) (r : Fin 128) :
    vOf a4 (ix3 b ⟨128 * h.val + r.val, by omega⟩ s) = if hr : r.val < 64 then a4 (ix4 b s h ⟨r.val, hr⟩) else if r.val = 64 then 1 else 0 := by
  unfold vOf
  rw [transpose_at, packV_apply]
  by_cases h1 : r.val < 64
  · rw [dif_pos h1, dif_pos h1]
  · rw [dif_neg h1, dif_neg h1]
    by_cases h2 : r.val = 64
    · rw [dif_pos (by omega), if_pos h2, ones1_apply]
    · rw [dif_neg (by omega), if_neg h2, zeros63_apply]

/-- A sum over the joined entries. -/
theorem join_sum (A : Fin 64 → ℝ) (B : Fin 32 → ℝ) : ∑ e : Fin 128, join A B e = (∑ d, A d) + ∑ d, B d := by
  have h1 : ∑ e : Fin (64 + 64), join A B e = _ := Fin.sum_univ_add _
  have h2 : ∑ e : Fin (32 + 32), join A B (Fin.natAdd 64 e) = _ := Fin.sum_univ_add _
  refine h1.trans ?_
  refine congr (congrArg HAdd.hAdd (Finset.sum_congr rfl fun d _ => ?_)) (h2.trans ?_)
  · simp [join]
  · rw [show ∑ i : Fin 32, join A B (Fin.natAdd 64 (Fin.natAdd 32 i)) = 0 from Finset.sum_eq_zero fun d _ => by simp [join], add_zero]
    exact Finset.sum_congr rfl fun d _ => by simp [join]

end Cert.KernelIdeal.Att

end
-- ==== Proof.Traj.lean ====
/- The attention's buffers, point by point: the scores and values that a point's blocks hold, and the state that the points leave. -/
module

public import proofs.«01_k».proof.Proof.Host

@[expose] public section

set_option maxRecDepth 16384

noncomputable section

namespace Cert.KernelIdeal.Att

open Cert.KernelIdeal Cert.Att
open Cert.KernelIdeal.Facts₀ Cert.KernelIdeal.Facts
open Idealize.ShloMosaic Idealize.ShloMosaic.TcCoe
open Idealize.ShloMosaic.Pipeline (Dat Cfg Window)

/-! ## The blocks of a point, in their arrays -/

section Blocks

variable (V : (c : Dev nD) → (b : Ref sig .tc) → Buf (Elt Ideal) ((c.tc : Thread nD τ).loc b)) (c : Dev nD) (t : Fin (cfgA (F := Ideal)).N)

theorem iblk_q (y : S1x1024x1024.Idx) (i : S2x16384x1024.Idx) (h0 : (i 0).val = (crd (F := Ideal) t 0).val) (h1 : (i 1).val = 1024 * (qiW (crd (F := Ideal) t)).toNat + (y 1).val)
    (h2 : (i 2).val = (y 2).val) : iblk V c (0 : Fin 4) t y = V c main_v9 i := by
  refine congrArg (V c main_v9) (funext fun a => Fin.ext ?_)
  refine (Window.rect_emb_val ((cfgA (F := Ideal)).win (0 : Fin 4)) t y a).trans ?_
  rw [show ((cfgA (F := Ideal)).win (0 : Fin 4)).index t = _ from ix_0 (crd t)]
  have hy : (y 0).val < 1 := (y 0).isLt
  fin_cases a
  · show (crd (F := Ideal) t 0).val * 1 + (y 0).val = (i 0).val; omega
  · show (qiW (crd (F := Ideal) t)).toNat * 1024 + (y 1).val = (i 1).val; omega
  · show 0 * 1024 + (y 2).val = (i 2).val; omega

theorem iblk_k (y : S1x512x1024.Idx) (i : S2x16384x1024.Idx) (h0 : (i 0).val = (crd (F := Ideal) t 0).val) (h1 : (i 1).val = 512 * (kiW (crd (F := Ideal) t)).toNat + (y 1).val)
    (h2 : (i 2).val = (y 2).val) : iblk V c (1 : Fin 4) t y = V c main_v13 i := by
  refine congrArg (V c main_v13) (funext fun a => Fin.ext ?_)
  refine (Window.rect_emb_val ((cfgA (F := Ideal)).win (1 : Fin 4)) t y a).trans ?_
  rw [show ((cfgA (F := Ideal)).win (1 : Fin 4)).index t = _ from ix_1 (crd t)]
  have hy : (y 0).val < 1 := (y 0).isLt
  fin_cases a
  · show (crd (F := Ideal) t 0).val * 1 + (y 0).val = (i 0).val; omega
  · show (kiW (crd (F := Ideal) t)).toNat * 512 + (y 1).val = (i 1).val; omega
  · show 0 * 1024 + (y 2).val = (i 2).val; omega

theorem iblk_v (y : S1x1024x512.Idx) (i : S2x1024x16384.Idx) (h0 : (i 0).val = (crd (F := Ideal) t 0).val) (h1 : (i 1).val = (y 1).val)
    (h2 : (i 2).val = 512 * (kiW (crd (F := Ideal) t)).toNat + (y 2).val) : iblk V c (2 : Fin 4) t y = V c main_v18 i := by
  refine congrArg (V c main_v18) (funext fun a => Fin.ext ?_)
  refine (Window.rect_emb_val ((cfgA (F := Ideal)).win (2 : Fin 4)) t y a).trans ?_
  rw [show ((cfgA (F := Ideal)).win (2 : Fin 4)).index t = _ from ix_2 (crd t)]
  have hy : (y 0).val < 1 := (y 0).isLt
  fin_cases a
  · show (crd (F := Ideal) t 0).val * 1 + (y 0).val = (i 0).val; omega
  · show 0 * 1024 + (y 1).val = (i 1).val; omega
  · show (kiW (crd (F := Ideal) t)).toNat * 512 + (y 2).val = (i 2).val; omega

/-- Where a point's output block lies. -/
theorem oblk (y : S1x1024x512.Idx) (i : S2x16384x512.Idx) (h0 : (i 0).val = (crd (F := Ideal) t 0).val) (h1 : (i 1).val = 1024 * (qiW (crd (F := Ideal) t)).toNat + (y 1).val)
    (h2 : (i 2).val = (y 2).val) : (((cfgA (F := Ideal)).win (3 : Fin 4)).blk t).view.emb y = i := by
  refine funext fun a => Fin.ext ?_
  refine (Window.rect_emb_val ((cfgA (F := Ideal)).win (3 : Fin 4)) t y a).trans ?_
  rw [show ((cfgA (F := Ideal)).win (3 : Fin 4)).index t = _ from ix_3 (crd t)]
  have hy : (y 0).val < 1 := (y 0).isLt
  fin_cases a
  · show (crd (F := Ideal) t 0).val * 1 + (y 0).val = (i 0).val; omega
  · show (qiW (crd (F := Ideal) t)).toNat * 1024 + (y 1).val = (i 1).val; omega
  · show 0 * 512 + (y 2).val = (i 2).val; omega

end Blocks

/-! ## The points of a tile -/

/-- A point by its batch and its step. -/
def pt (b : Fin 2) (p : Fin 272) : Fin (cfgA (F := Ideal)).N := ⟨272 * b.val + p.val, by show _ < 544; omega⟩

theorem crd_pt : ∀ (b : Fin 2) (p : Fin 272), (grid0.coords ⟨272 * b.val + p.val, by show _ < 544; omega⟩ 0).val = b.val
    ∧ (grid0.coords ⟨272 * b.val + p.val, by show _ < 544; omega⟩ 1).val = p.val := by decide +kernel

theorem crd_pt0 (b : Fin 2) (p : Fin 272) : (crd (F := Ideal) (pt b p) 0).val = b.val := (crd_pt b p).1
theorem crd_pt1 (b : Fin 2) (p : Fin 272) : crd (F := Ideal) (pt b p) 1 = (p : Fin 272) := Fin.ext (crd_pt b p).2
theorem qi_pt (b : Fin 2) (p : Fin 272) : qiW (crd (F := Ideal) (pt b p)) = lit0 p := congrArg lit0 (crd_pt1 b p)
theorem ki_pt (b : Fin 2) (p : Fin 272) : kiW (crd (F := Ideal) (pt b p)) = lit1 p := congrArg lit1 (crd_pt1 b p)
theorem fl_pt (b : Fin 2) (p : Fin 272) : flW (crd (F := Ideal) (pt b p)) = lit2 p := congrArg lit2 (crd_pt1 b p)

/-- A step that is not the first of its tile follows the step with the block before. -/
theorem step_back : ∀ p : Fin 272, (lit1 p).toNat ≠ 0 → ∃ p' : Fin 272, p'.val + 1 = p.val ∧ lit0 p' = lit0 p ∧ (lit1 p').toNat + 1 = (lit1 p).toNat := by
  have h : ∀ p : Fin 272, (lit1 p).toNat ≠ 0 → p.val ≠ 0 ∧ lit0 ⟨p.val - 1, by omega⟩ = lit0 p ∧ (lit1 ⟨p.val - 1, by omega⟩).toNat + 1 = (lit1 p).toNat := by decide +kernel
  intro p hp
  obtain ⟨h0, h1, h2⟩ := h p hp
  exact ⟨⟨p.val - 1, by omega⟩, by show p.val - 1 + 1 = p.val; omega, h1, h2⟩

/-- Each tile has a last step. -/
theorem last_step : ∀ a : Fin 16, ∃ p : Fin 272, (lit0 p).toNat = a.val ∧ (lit1 p).toNat = 2 * a.val + 1 := by
  have h : ∀ a : Fin 16, (lit0 ⟨a.val * (a.val + 1) + 2 * a.val + 1, by have := a.isLt; nlinarith⟩).toNat = a.val
      ∧ (lit1 ⟨a.val * (a.val + 1) + 2 * a.val + 1, by have := a.isLt; nlinarith⟩).toNat = 2 * a.val + 1 := by decide +kernel
  exact fun a => ⟨_, h a⟩

end Cert.KernelIdeal.Att

end
-- ==== Proof.Value.lean ====
/- The attention's result: every entry of the kernel's output is the attention of its query. -/
module

public import proofs.«01_k».proof.Proof.Traj

@[expose] public section

set_option maxRecDepth 16384

noncomputable section

namespace Cert.KernelIdeal.Att

open Cert.KernelIdeal Cert.Att
open Cert.KernelIdeal.Facts₀ Cert.KernelIdeal.Facts
open Idealize.ShloMosaic Idealize.ShloMosaic.TcCoe
open Idealize.ShloMosaic.Pipeline (Dat Cfg Window)

/-! ## A score of real operands -/

theorem join_coe (A : Fin 64 → ℝ) (B : Fin 32 → ℝ) (e : Fin 128) : join (fun d => (A d : EReal)) (fun d => (B d : EReal)) e = ((join A B e : ℝ) : EReal) := by
  unfold join
  split_ifs <;> rfl

theorem join_mul (A A' : Fin 64 → ℝ) (B B' : Fin 32 → ℝ) (e : Fin 128) : join A B e * join A' B' e = join (fun d => A d * A' d) (fun d => B d * B' d) e := by
  unfold join
  split_ifs <;> simp

theorem scale_pos : Real.sqrt 96 * Real.log 2 ≠ 0 :=
  mul_ne_zero (Real.sqrt_pos.2 (by norm_num)).ne' (Real.log_pos (by norm_num)).ne'

/-- The padded product, the scale on the queries. -/
theorem padded_score (A A' : Fin 64 → ℝ) (B B' : Fin 32 → ℝ) :
    ∑ e : Fin 128, join (fun d => (A d : EReal)) (fun d => (B d : EReal)) e
        * Ideal.div (join (fun d => (A' d : EReal)) (fun d => (B' d : EReal)) e) ((Real.sqrt 96 * Real.log 2 : ℝ) : EReal)
      = ((((∑ d, A d * A' d) + ∑ d, B d * B' d) / Real.sqrt 96 / Real.log 2 : ℝ) : EReal) := by
  have h : ∀ e : Fin 128, join (fun d => (A d : EReal)) (fun d => (B d : EReal)) e
        * Ideal.div (join (fun d => (A' d : EReal)) (fun d => (B' d : EReal)) e) ((Real.sqrt 96 * Real.log 2 : ℝ) : EReal)
      = ((join (fun d => A d * A' d) (fun d => B d * B' d) e * (1 / (Real.sqrt 96 * Real.log 2)) : ℝ) : EReal) := fun e => by
    rw [join_coe, join_coe, Ideal.div_coe scale_pos, ← EReal.coe_mul, ← EReal.coe_mul, ← join_mul, mul_assoc]
  rw [Finset.sum_congr rfl fun e _ => h e, ← coe_sum, ← Finset.sum_mul, join_sum, mul_one_div, div_div]

/-! ## The state of the points -/

section Result

variable (m : (ℓ : Loc nD τ sig) → Buf (Elt Ideal) ℓ) (c : Dev nD)
variable (qn : Fin 2 → Fin 16384 → Fin 8 → Fin 64 → ℝ) (qr : Fin 2 → Fin 16384 → Fin 8 → Fin 32 → ℝ) (kn : Fin 2 → Fin 16384 → Fin 8 → Fin 64 → ℝ)
  (kr : Fin 2 → Fin 16384 → Fin 32 → ℝ) (v : Fin 2 → Fin 16384 → Fin 8 → Fin 64 → ℝ)

/-- The arguments are the arrays given. -/
structure Args : Prop where
  qn : ∀ b t h d, (m (c, main_arg0) : FVec Ideal S2x16384x8x64 .bf16) (ix4 b t h d) = ((qn b t h d : ℝ) : EReal)
  qr : ∀ b t h d, (m (c, main_arg1) : FVec Ideal S2x16384x8x32 .bf16) (ix4 b t h d) = ((qr b t h d : ℝ) : EReal)
  kn : ∀ b t h d, (m (c, main_arg2) : FVec Ideal S2x16384x8x64 .bf16) (ix4 b t h d) = ((kn b t h d : ℝ) : EReal)
  kr : ∀ b t d, (m (c, main_arg3) : FVec Ideal S2x16384x32 .bf16) (ix3 b t d) = ((kr b t d : ℝ) : EReal)
  v : ∀ b t h d, (m (c, main_arg4) : FVec Ideal S2x16384x8x64 .bf16) (ix4 b t h d) = ((v b t h d : ℝ) : EReal)

/-- The rows that the values are padded to: the values, a one, zeros. -/
def rows (b : Fin 2) (h : Fin 8) (r : Fin 128) (s : ℕ) : ℝ := if hr : r.val < 64 then v b (pos s) h ⟨r.val, hr⟩ else if r.val = 64 then 1 else 0

variable {m c qn qr kn kr v}

theorem holds_at (H : Args m c qn qr kn kr v) (b : Fin 2) (p : Fin 272) :
    Holds (score qn qr kn kr b) (rows v b) (lit0 p).toNat (lit1 p).toNat (iblk (hostV m) c (0 : Fin 4) (pt b p)) (iblk (hostV m) c (1 : Fin 4) (pt b p)) (iblk (hostV m) c (2 : Fin 4) (pt b p)) := by
  obtain ⟨ha, hc⟩ := tab_lt p
  refine ⟨fun i s j => ?_, fun h r s => ?_⟩
  · have hj := j.isLt; have hi := i.2.isLt; have hs := s.isLt
    have eT : pos (1024 * (lit0 p).toNat + 256 * i.2.val + j.val) = ⟨1024 * (lit0 p).toNat + 256 * i.2.val + j.val, by omega⟩ := pos_val ⟨_, by omega⟩
    have eS : pos (512 * (lit1 p).toNat + s.val) = ⟨512 * (lit1 p).toNat + s.val, by omega⟩ := pos_val ⟨_, by omega⟩
    rw [scoreV_apply]
    unfold score
    rw [eT, eS, ← padded_score]
    refine Finset.sum_congr rfl fun e _ => ?_
    rw [iblk_k (hostV m) c (pt b p) _ (ix3 b ⟨512 * (lit1 p).toNat + s.val, by omega⟩ ⟨128 * i.1.val + e.val, by omega⟩) (crd_pt0 b p).symm (by rw [ki_pt]; rfl) rfl,
      iblk_q (hostV m) c (pt b p) _ (ix3 b ⟨1024 * (lit0 p).toNat + 256 * i.2.val + j.val, by omega⟩ ⟨128 * i.1.val + e.val, by omega⟩) (crd_pt0 b p).symm
        (by rw [qi_pt]; exact Nat.add_assoc ..) rfl, host_k, host_q, kOf_apply, qOf_apply]
    simp only [H.qn, H.qr, H.kn, H.kr]
  · have hs := s.isLt
    have eS : pos (512 * (lit1 p).toNat + s.val) = ⟨512 * (lit1 p).toNat + s.val, by omega⟩ := pos_val ⟨_, by omega⟩
    have e : vW (iblk (hostV m) c (2 : Fin 4) (pt b p)) h (ix3 0 r s) = hostV m c main_v18 (ix3 b ⟨128 * h.val + r.val, by omega⟩ ⟨512 * (lit1 p).toNat + s.val, by omega⟩) := by
      refine iblk_v (hostV m) c (pt b p) _ _ (crd_pt0 b p).symm ?_ ?_
      · show 128 * h.val + r.val = 128 * h.val + 1 * r.val; omega
      · rw [ki_pt]; show 512 * (lit1 p).toNat + s.val = 512 * (lit1 p).toNat + (0 + 1 * s.val); omega
    rw [e, host_v, vOf_apply]
    unfold rows
    rw [eS]
    split_ifs
    · exact H.v ..
    · rfl
    · rfl

/-- After each step of a tile, every query of it is in the state of the keys seen. -/
theorem good_at (H : Args m c qn qr kn kr v) (b : Fin 2) (n : ℕ) : ∀ p : Fin 272, p.val = n →
    Good (score qn qr kn kr b) (rows v b) (lit0 p).toNat (512 * ((lit1 p).toNat + 1)) (trajMA (hostV m) c ((pt b p).val + 1)) := by
  induction n with
  | zero => ?_
  | succ n ih => ?_
  all_goals
    intro p hp
    obtain ⟨ha, hc⟩ := tab_lt p
    rw [trajMA_succ, fl_pt, qi_pt, ki_pt]
    have key := point_good (score qn qr kn kr b) (rows v b) (lit2 p) ⟨(lit0 p).toNat, ha⟩ ⟨(lit1 p).toNat, hc⟩ (branches p) _ _ _ (holds_at H b p) (trajMA (hostV m) c (pt b p).val)
    simp only [BitVec.ofNat_toNat, BitVec.setWidth_eq] at key
    refine key fun h0 => ?_
    obtain ⟨p', h1, h2, h3⟩ := step_back p h0
  · omega
  · have := ih p' (by omega)
    rw [h2, h3] at this
    rw [show (pt b p).val = (pt b p').val + 1 by show 272 * b.val + p.val = 272 * b.val + p'.val + 1; omega]
    exact this

/-! ## The block that a tile leaves -/

theorem rowW_apply (A : Vec Ideal S8x128x1024 .f32) (h : Fin 8) (r : Fin 128) (t : Fin 1024) : rowW A h (ix3 0 r t) = A (ix3 h r t) :=
  congrArg A (funext fun a => Fin.ext (by fin_cases a <;> simp [Rect.emb_apply]))

theorem aW_apply (MA : St (F := Ideal)) (i : Fin 8 × Fin 4) (r : Fin 128) (j : Fin 256) : aW MA i (ix3 0 r j) = MA.2 (ix3 i.1 r ⟨256 * i.2.val + j.val, by omega⟩) :=
  congrArg MA.2 (funext fun a => Fin.ext (by fin_cases a <;> simp [Rect.emb_apply]))

/-- Eight heads of 64 entries each, one after the other. -/
theorem nest (f : Fin 8 → Fin 64 → EReal) (u : ℕ) (hu : u < 512) :
    (if h : u < 64 then f 0 ⟨u, h⟩ else if h : u - 64 < 64 then f 1 ⟨u - 64, h⟩ else if h : u - 64 - 64 < 64 then f 2 ⟨u - 64 - 64, h⟩ else if h : u - 64 - 64 - 64 < 64 then f 3 ⟨u - 64 - 64 - 64, h⟩ else if h : u - 64 - 64 - 64 - 64 < 64 then f 4 ⟨u - 64 - 64 - 64 - 64, h⟩ else if h : u - 64 - 64 - 64 - 64 - 64 < 64 then f 5 ⟨u - 64 - 64 - 64 - 64 - 64, h⟩ else if h : u - 64 - 64 - 64 - 64 - 64 - 64 < 64 then f 6 ⟨u - 64 - 64 - 64 - 64 - 64 - 64, h⟩ else f 7 ⟨u - 64 - 64 - 64 - 64 - 64 - 64 - 64, by omega⟩)
      = f ⟨u / 64, by omega⟩ ⟨u % 64, Nat.mod_lt _ (by norm_num)⟩ := by
  split_ifs
  all_goals exact congrArg₂ f (Fin.ext (by simp only [Fin.isValue, Fin.val_ofNat]; omega)) (Fin.ext (by simp only; omega))

theorem outV_apply (A : Vec Ideal S8x128x1024 .f32) (t : Fin 1024) (u : Fin 512) :
    outV (F := Ideal) A (ix3 0 t u) = Ideal.div (A (ix3 ⟨u.val / 64, by omega⟩ ⟨u.val % 64, by omega⟩ t)) (A (ix3 ⟨u.val / 64, by omega⟩ 64 t)) := by
  have e : outV (F := Ideal) A (ix3 0 t u) = headOf (rowW A ⟨u.val / 64, by omega⟩) (ix2 ⟨u.val % 64, Nat.mod_lt _ (by norm_num)⟩ t) := by
    refine Eq.trans ?_ (nest (fun h d => headOf (rowW A h) (ix2 d t)) u.val u.isLt)
    unfold outV
    pointwise [outOf]
  rw [e, headOf_apply, rowW_apply, rowW_apply]

/-- What a tile's last step writes back. -/
theorem out_at (H : Args m c qn qr kn kr v) (b : Fin 2) (p : Fin 272) (hp : (lit1 p).toNat = 2 * (lit0 p).toNat + 1) (t : Fin 1024) (u : Fin 512) :
    outV (trajMA (hostV m) c ((pt b p).val + 1)).2 (ix3 0 t u)
      = ((att qn qr kn kr v b ⟨u.val / 64, by omega⟩ (1024 * (lit0 p).toNat + t.val) ⟨u.val % 64, Nat.mod_lt _ (by norm_num)⟩ : ℝ) : EReal) := by
  obtain ⟨ha, hc⟩ := tab_lt p
  have ht := t.isLt
  rw [outV_apply]
  generalize hh : (⟨u.val / 64, by omega⟩ : Fin 8) = h
  have hd : u.val % 64 < 64 := Nat.mod_lt _ (by norm_num)
  have hg := good_at H b p.val p rfl (h, ⟨t.val / 256, by omega⟩) ⟨t.val % 256, Nat.mod_lt _ (by norm_num)⟩
  have eT : 1024 * (lit0 p).toNat + 256 * (t.val / 256) + t.val % 256 = 1024 * (lit0 p).toNat + t.val := by omega
  have et : ∀ r : Fin 128, aW (trajMA (hostV m) c ((pt b p).val + 1)) (h, ⟨t.val / 256, by omega⟩) (ix3 0 r ⟨t.val % 256, Nat.mod_lt _ (by norm_num)⟩)
      = (trajMA (hostV m) c ((pt b p).val + 1)).2 (ix3 h r t) := fun r => by
    rw [aW_apply]
    exact congrArg (fun k => (trajMA (hostV m) c ((pt b p).val + 1)).2 (ix3 h r k)) (Fin.ext (by show 256 * (t.val / 256) + t.val % 256 = t.val; omega))
  simp only [et] at hg
  rw [eT] at hg
  have hs := hg.skip 16384 (by omega) fun s h1 _ => by show ¬(s / 64 ≤ _ / 64); omega
  have hq := hs.quotient (by norm_num) (by show 0 / 64 ≤ _; omega) ⟨u.val % 64, by omega⟩ 64 (fun s _ => by simp [rows])
  rw [hq]
  unfold att
  congr 2
  funext s
  simp [rows, hd]

variable (qn qr kn kr v)

/-- The attention, as an array. -/
def attOf : S2x16384x512.Idx → EReal := fun i =>
  ((att qn qr kn kr v (i 0) ⟨(i 2).val / 64, by have : (i 2).val < 512 := (i 2).isLt; omega⟩ (i 1).val ⟨(i 2).val % 64, Nat.mod_lt _ (by norm_num)⟩ : ℝ) : EReal)

variable {qn qr kn kr v}

theorem pt_of (t : Fin (cfgA (F := Ideal)).N) : ∃ b p, t = pt b p := by
  have ht : t.val < 544 := t.isLt
  exact ⟨⟨t.val / 272, by omega⟩, ⟨t.val % 272, Nat.mod_lt _ (by norm_num)⟩, Fin.ext (by show t.val = 272 * (t.val / 272) + t.val % 272; omega)⟩

theorem flush_pt (b : Fin 2) (p : Fin 272) : ((cfgA (F := Ideal)).win (3 : Fin 4)).flush (pt b p) = true ↔ (lit1 p).toNat = 2 * (lit0 p).toNat + 1 := by
  rw [flush_3, fl_pt, beq_iff_eq]
  exact (branches p).last

theorem flushed_at (H : Args m c qn qr kn kr v) (b : Fin 2) (p : Fin 272) (hp : (lit1 p).toNat = 2 * (lit0 p).toNat + 1) (y : S1x1024x512.Idx) :
    outV (trajMA (hostV m) c ((pt b p).val + 1)).2 y = attOf qn qr kn kr v ((((cfgA (F := Ideal)).win (3 : Fin 4)).blk (pt b p)).view.emb y) := by
  obtain ⟨ha, hc⟩ := tab_lt p
  have h0 : (y 0).val < 1 := (y 0).isLt
  have h1 : (y 1).val < 1024 := (y 1).isLt
  have h2 : (y 2).val < 512 := (y 2).isLt
  rw [oblk (pt b p) y (ix3 b ⟨1024 * (lit0 p).toNat + (y 1).val, by omega⟩ ⟨(y 2).val, h2⟩) (crd_pt0 b p).symm (by rw [qi_pt]; rfl) rfl]
  have e : y = ix3 0 ⟨(y 1).val, h1⟩ ⟨(y 2).val, h2⟩ := by
    funext a
    apply Fin.ext
    fin_cases a
    · show (y 0).val = 0; omega
    · rfl
    · rfl
  exact (congrArg (outV (trajMA (hostV m) c ((pt b p).val + 1)).2) e).trans (out_at H b p hp _ _)

theorem covered (i : S2x16384x512.Idx) : ∃ t : Fin (cfgA (F := Ideal)).N, ((cfgA (F := Ideal)).win (3 : Fin 4)).flush t = true
    ∧ ∃ y : S1x1024x512.Idx, (((cfgA (F := Ideal)).win (3 : Fin 4)).blk t).view.emb y = i := by
  have i1 : (i 1).val < 16384 := (i 1).isLt
  have i2 : (i 2).val < 512 := (i 2).isLt
  obtain ⟨p, h0, h1⟩ := last_step ⟨(i 1).val / 1024, by omega⟩
  have h0' : (lit0 p).toNat = (i 1).val / 1024 := h0
  obtain ⟨b, hb⟩ : ∃ b : Fin 2, b.val = (i 0).val := ⟨i 0, rfl⟩
  refine ⟨pt b p, (flush_pt b p).2 (by rw [h0, h1]), ix3 0 ⟨(i 1).val % 1024, Nat.mod_lt _ (by norm_num)⟩ ⟨(i 2).val, i2⟩, ?_⟩
  exact oblk (pt b p) _ i (by rw [crd_pt0, hb]) (by rw [qi_pt, h0']; show (i 1).val = 1024 * ((i 1).val / 1024) + (i 1).val % 1024; omega) rfl

/-- The result array at the end. -/
theorem result_eq (H : Args m c qn qr kn kr v) : (dats (hostV m) 0 c).arrAt (3 : Fin 4) (cfgA (F := Ideal)).N = attOf qn qr kn kr v := by
  refine Dat.arrAt_eq_of_cover (dats (hostV m) 0 c) (3 : Fin 4) (attOf qn qr kn kr v) (fun t ht => ?_) fun i => ?_
  · obtain ⟨b, p, rfl⟩ := pt_of t
    funext y
    exact flushed_at H b p ((flush_pt b p).1 ht) y
  · obtain ⟨t, h, y, hy⟩ := covered i
    exact ⟨t, h, hy ▸ View.emb_mem_set _ y⟩

end Result

end Cert.KernelIdeal.Att

end
-- ==== Proof.Chunk.lean ====
/- The chunk of each position, as the reference computes it: the floor of its number over 64. -/
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal
open Cert.ReferenceIdeal.Facts₀ Cert.ReferenceIdeal.Facts
open Idealize.ShloMosaic Idealize.ShloMosaic.TcCoe

def fill (w : BitVec 32) : IVec S16384 32 := broadcastInDim S16384 ![] bcast_S_S16384 (constantI S_ 32 w : IVec S_ 32)

/-- The chunk of each position. -/
def chunkOf : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32)))) (fill 0#32)))
    (subi (Host.divsi (iotaInDim S16384 32 0) (broadcastInDim S16384 ![] bcast_S_S16384 (id (constantI S_ 32 64#32)))) (fill 1#32))
    (Host.divsi (iotaInDim S16384 32 0) (broadcastInDim S16384 ![] bcast_S_S16384 (id (constantI S_ 32 64#32))))

theorem chunk_apply (i : Fin 16384) : chunkOf (ix1 i) = BitVec.ofNat 32 (i.val / 64) := by
  pointwise [chunkOf, fill]
  revert i
  decide +kernel

end Cert.ReferenceIdeal.Att

end
-- ==== Proof.Ref.lean ====
/- The reference's result: every entry is the attention of its query. -/
module

public import proofs.«01_k».proof.Proof.Online
public import proofs.«01_k».proof.Proof.Chunk
public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.Att
open Cert.ReferenceIdeal.Facts₀ Cert.ReferenceIdeal.Facts
open Idealize.ShloMosaic Idealize.ShloMosaic.TcCoe

/-! ## The reference, stage by stage -/

/-- Which keys a query sees, from the chunks. -/
def seesOf (x : IVec S16384 32) : IVec S16384x16384 1 :=
  cmpi .sle (broadcastInDim S16384x16384 ![0, 1] bcast_S1x16384_S16384x16384_0_1 (broadcastInDim S1x16384 ![1] bcast_S16384_S1x16384_1 x : IVec S1x16384 32))
    (broadcastInDim S16384x16384 ![0, 1] bcast_S16384x1_S16384x16384_0_1 (broadcastInDim S16384x1 ![0] bcast_S16384_S16384x1_0 x : IVec S16384x1 32))

def headDot (a0 a2 : FVec Ideal S2x16384x8x64 .bf16) : FVec Ideal S2x8x16384x16384 .f32 :=
  Host.dotGeneral dot_S2x16384x8x64_S2x16384x8x64_S2x8x16384x16384_3_3_1_1_02_02 none a0 a2

def ropeDot (a3 : FVec Ideal S2x16384x32 .bf16) (a1 : FVec Ideal S2x16384x8x32 .bf16) : FVec Ideal S2x16384x16384x8 .f32 :=
  Host.dotGeneral dot_S2x16384x32_S2x16384x8x32_S2x16384x16384x8_2_3_1_12_0_0 none a3 a1

def turn (x : FVec Ideal S2x16384x16384x8 .f32) : FVec Ideal S2x8x16384x16384 .f32 :=
  transpose S2x8x16384x16384 [0, 3, 2, 1] x transposes_S2x16384x16384x8_S2x8x16384x16384_0_3_2_1

def rootOf : FVec Ideal S_ .f32 := Host.sqrt (constant S_ .f32 0x42C00000#32)

/-- The scores, from the two products. -/
def scoreOf (x y : FVec Ideal S2x8x16384x16384 .f32) : FVec Ideal S2x8x16384x16384 .f32 :=
  Host.divf (extf .f32 (addf (truncf .bf16 x bitsLt_bf16_f32) (truncf .bf16 y bitsLt_bf16_f32)) bitsLt_bf16_f32)
    (broadcastInDim S2x8x16384x16384 ![] bcast_S_S2x8x16384x16384 rootOf : FVec Ideal S2x8x16384x16384 .f32)

/-- The scores of the keys seen. -/
def maskedOf (b : IVec S16384x16384 1) (s : FVec Ideal S2x8x16384x16384 .f32) : FVec Ideal S2x8x16384x16384 .f32 :=
  select (broadcastInDim S2x8x16384x16384 ![2, 3] bcast_S16384x16384_S2x8x16384x16384_2_3 b : IVec S2x8x16384x16384 1) s
    (broadcastInDim S2x8x16384x16384 ![] bcast_S_S2x8x16384x16384 (id (constant S_ .f32 0xFF800000#32 : FVec Ideal S_ .f32)) : FVec Ideal S2x8x16384x16384 .f32)

def rowMax (s : FVec Ideal S2x8x16384x16384 .f32) : FVec Ideal S2x8x16384 .f32 :=
  Host.reduce FloatOps.maximumf s (constant S_ .f32 0xFF800000#32 : FVec Ideal S_ .f32) reducesTo_S2x8x16384x16384_S2x8x16384_d3 h_S_

/-- The greatest score of each query. -/
def topOf (s : FVec Ideal S2x8x16384x16384 .f32) : FVec Ideal S2x8x16384 .f32 :=
  maximumf (broadcastInDim S2x8x16384 ![] bcast_S_S2x8x16384 (constant S_ .f32 0xFF800000#32 : FVec Ideal S_ .f32))
    (rowMax s)

def spread (x : FVec Ideal S2x8x16384 .f32) : FVec Ideal S2x8x16384x16384 .f32 :=
  broadcastInDim S2x8x16384x16384 ![0, 1, 2, 3] bcast_S2x8x16384x1_S2x8x16384x16384_0_1_2_3
    (broadcastInDim S2x8x16384x1 ![0, 1, 2] bcast_S2x8x16384_S2x8x16384x1_0_1_2 x : FVec Ideal S2x8x16384x1 .f32)

def expOf (s : FVec Ideal S2x8x16384x16384 .f32) (top : FVec Ideal S2x8x16384 .f32) : FVec Ideal S2x8x16384x16384 .f32 := Host.exp (subf s (spread top))

def sumOf (e : FVec Ideal S2x8x16384x16384 .f32) : FVec Ideal S2x8x16384 .f32 :=
  Host.reduceAdd e (constant S_ .f32 0x00000000#32 : FVec Ideal S_ .f32) reducesTo_S2x8x16384x16384_S2x8x16384_d3 h_S_

def probOf (e : FVec Ideal S2x8x16384x16384 .f32) (sum : FVec Ideal S2x8x16384 .f32) : FVec Ideal S2x8x16384x16384 .bf16 :=
  truncf .bf16 (Host.divf e (spread sum)) bitsLt_bf16_f32

def valueDot (a4 : FVec Ideal S2x16384x8x64 .bf16) (p : FVec Ideal S2x8x16384x16384 .bf16) : FVec Ideal S2x8x64x16384 .f32 :=
  Host.dotGeneral dot_S2x16384x8x64_S2x8x16384x16384_S2x8x64x16384_1_3_3_2_02_01 none a4 p

def flat (x : FVec Ideal S2x8x64x16384 .f32) : FVec Ideal S2x16384x512 .bf16 :=
  shapeCast S2x16384x512 (truncf .bf16 (transpose S2x16384x8x64 [0, 3, 1, 2] x transposes_S2x8x64x16384_S2x16384x8x64_0_3_1_2 : FVec Ideal S2x16384x8x64 .f32) bitsLt_bf16_f32 : FVec Ideal S2x16384x8x64 .bf16)
    shapeCasts_S2x16384x8x64_S2x16384x512

/-- The scores of the keys seen, from the arguments. -/
def scored (a0 : FVec Ideal S2x16384x8x64 .bf16) (a1 : FVec Ideal S2x16384x8x32 .bf16) (a2 : FVec Ideal S2x16384x8x64 .bf16) (a3 : FVec Ideal S2x16384x32 .bf16) :
    FVec Ideal S2x8x16384x16384 .f32 := maskedOf (seesOf chunkOf) (scoreOf (headDot a0 a2) (turn (ropeDot a3 a1)))

def softOf (s : FVec Ideal S2x8x16384x16384 .f32) : FVec Ideal S2x8x16384x16384 .bf16 := probOf (expOf s (topOf s)) (sumOf (expOf s (topOf s)))

theorem result_stages (m : (ℓ : Loc nD τ sig) → Buf (Elt Ideal) ℓ) (c : Dev nD) :
    Value.res_main_v33 (F := Ideal) m c = flat (valueDot (m (c, main_arg4)) (softOf (scored (m (c, main_arg0)) (m (c, main_arg1)) (m (c, main_arg2)) (m (c, main_arg3))))) := by
  unfold Value.res_main_v33
  rfl

/-! ## Each stage at a position -/

theorem sees_apply (x : IVec S16384 32) (t s : Fin 16384) : seesOf x (ix2 t s) = IntOp.cmpi .sle (x (ix1 s)) (x (ix1 t)) := by
  pointwise [seesOf]

theorem headDot_apply (a0 a2 : FVec Ideal S2x16384x8x64 .bf16) (b : Fin 2) (h : Fin 8) (t s : Fin 16384) :
    headDot a0 a2 (ix4 b h t s) = ∑ d : Fin 64, a0 (ix4 b t h d) * a2 (ix4 b s h d) := by
  pointwise [headDot]

theorem ropeDot_apply (a3 : FVec Ideal S2x16384x32 .bf16) (a1 : FVec Ideal S2x16384x8x32 .bf16) (b : Fin 2) (h : Fin 8) (t s : Fin 16384) :
    ropeDot a3 a1 (ix4 b s t h) = ∑ d : Fin 32, a3 (ix3 b s d) * a1 (ix4 b t h d) := by
  pointwise [ropeDot]

theorem turn_apply (x : FVec Ideal S2x16384x16384x8 .f32) (b : Fin 2) (h : Fin 8) (t s : Fin 16384) : turn x (ix4 b h t s) = x (ix4 b s t h) := by
  pointwise [turn]

theorem masked_apply (m : IVec S16384x16384 1) (s : FVec Ideal S2x8x16384x16384 .f32) (b : Fin 2) (h : Fin 8) (t k : Fin 16384) :
    maskedOf m s (ix4 b h t k) = Scalar.select (m (ix2 t k)) (s (ix4 b h t k)) (Ideal.ofBits .f32 0xFF800000#32) := by
  pointwise [maskedOf]
  rfl

theorem spread_apply (x : FVec Ideal S2x8x16384 .f32) (b : Fin 2) (h : Fin 8) (t s : Fin 16384) : spread x (ix4 b h t s) = x (ix3 b h t) := by
  pointwise [spread]

theorem valueDot_apply (a4 : FVec Ideal S2x16384x8x64 .bf16) (p : FVec Ideal S2x8x16384x16384 .bf16) (b : Fin 2) (h : Fin 8) (d : Fin 64) (t : Fin 16384) :
    valueDot a4 p (ix4 b h d t) = ∑ s : Fin 16384, a4 (ix4 b s h d) * p (ix4 b h t s) := by
  pointwise [valueDot]

theorem sum_apply (e : FVec Ideal S2x8x16384x16384 .f32) (b : Fin 2) (h : Fin 8) (t : Fin 16384) : sumOf e (ix3 b h t) = ∑ s : Fin 16384, e (ix4 b h t s) := by
  pointwise [sumOf]

theorem rowMax_apply (s : FVec Ideal S2x8x16384x16384 .f32) (b : Fin 2) (h : Fin 8) (t : Fin 16384) :
    rowMax s (ix3 b h t) = Finset.univ.fold max (Ideal.ofBits .f32 0xFF800000#32) fun k : Fin 16384 => s (ix4 b h t k) := by
  pointwise [rowMax]

theorem max_at (x y : FVec Ideal S2x8x16384 .f32) (i : S2x8x16384.Idx) : maximumf x y i = max (x i) (y i) := rfl

theorem top_apply (s : FVec Ideal S2x8x16384x16384 .f32) (b : Fin 2) (h : Fin 8) (t : Fin 16384) :
    topOf s (ix3 b h t) = max ⊥ (Finset.univ.fold max ⊥ fun k : Fin 16384 => s (ix4 b h t k)) := by
  have e : topOf s (ix3 b h t) = max (Ideal.ofBits .f32 0xFF800000#32) (rowMax s (ix3 b h t)) := max_at _ _ _
  rw [e, rowMax_apply, ofBits_bot]

theorem root_apply (i : S_.Idx) : rootOf i = ((Real.sqrt 96 : ℝ) : EReal) := by
  show Ideal.sqrt (Ideal.ofBits .f32 0x42C00000#32) = _
  rw [ofBits_96, Ideal.sqrt_coe, if_neg (by norm_num)]

theorem score_apply (x y : FVec Ideal S2x8x16384x16384 .f32) (i : S2x8x16384x16384.Idx) : scoreOf x y i = Ideal.div (x i + y i) ((Real.sqrt 96 : ℝ) : EReal) :=
  congrArg (Ideal.div (x i + y i)) (root_apply _)

theorem exp_apply (s : FVec Ideal S2x8x16384x16384 .f32) (top : FVec Ideal S2x8x16384 .f32) (b : Fin 2) (h : Fin 8) (t k : Fin 16384) :
    expOf s top (ix4 b h t k) = Ideal.exp (s (ix4 b h t k) - top (ix3 b h t)) :=
  congrArg (fun z => Ideal.exp (s (ix4 b h t k) - z)) (spread_apply top b h t k)

theorem prob_apply (e : FVec Ideal S2x8x16384x16384 .f32) (sum : FVec Ideal S2x8x16384 .f32) (b : Fin 2) (h : Fin 8) (t k : Fin 16384) :
    probOf e sum (ix4 b h t k) = Ideal.div (e (ix4 b h t k)) (sum (ix3 b h t)) :=
  congrArg (Ideal.div (e (ix4 b h t k))) (spread_apply sum b h t k)

theorem flat_apply (x : FVec Ideal S2x8x64x16384 .f32) (b : Fin 2) (t : Fin 16384) (u : Fin 512) :
    flat x (ix3 b t u) = x (ix4 b ⟨u.val / 64, by omega⟩ ⟨u.val % 64, by omega⟩ t) := by
  pointwise [flat]

/-! ## The attention of real arguments -/

section Result

variable {a0 : FVec Ideal S2x16384x8x64 .bf16} {a1 : FVec Ideal S2x16384x8x32 .bf16} {a2 : FVec Ideal S2x16384x8x64 .bf16} {a3 : FVec Ideal S2x16384x32 .bf16}
  {a4 : FVec Ideal S2x16384x8x64 .bf16}
variable {qn : Fin 2 → Fin 16384 → Fin 8 → Fin 64 → ℝ} {qr : Fin 2 → Fin 16384 → Fin 8 → Fin 32 → ℝ} {kn : Fin 2 → Fin 16384 → Fin 8 → Fin 64 → ℝ}
  {kr : Fin 2 → Fin 16384 → Fin 32 → ℝ} {v : Fin 2 → Fin 16384 → Fin 8 → Fin 64 → ℝ}

theorem scored_apply (h0 : ∀ b t h d, a0 (ix4 b t h d) = ((qn b t h d : ℝ) : EReal)) (h1 : ∀ b t h d, a1 (ix4 b t h d) = ((qr b t h d : ℝ) : EReal))
    (h2 : ∀ b t h d, a2 (ix4 b t h d) = ((kn b t h d : ℝ) : EReal)) (h3 : ∀ b t d, a3 (ix3 b t d) = ((kr b t d : ℝ) : EReal)) (b : Fin 2) (h : Fin 8) (t k : Fin 16384) :
    scored a0 a1 a2 a3 (ix4 b h t k) = if Sees t.val k.val then ((score qn qr kn kr b h t.val k.val : ℝ) : EReal) else ⊥ := by
  have hs : scoreOf (headDot a0 a2) (turn (ropeDot a3 a1)) (ix4 b h t k) = ((score qn qr kn kr b h t.val k.val : ℝ) : EReal) := by
    rw [score_apply, headDot_apply, turn_apply, ropeDot_apply]
    simp only [h0, h1, h2, h3, ← EReal.coe_mul]
    rw [← coe_sum, ← coe_sum, ← EReal.coe_add, Ideal.div_coe (Real.sqrt_pos.2 (by norm_num)).ne', ← EReal.coe_mul]
    unfold score
    rw [pos_val, pos_val, mul_one_div]
    simp only [mul_comm (kn _ _ _ _)]
  unfold scored
  rw [masked_apply, sees_apply, chunk_apply, chunk_apply, sle_small _ _ (by omega) (by omega), ofBits_bot, hs]
  unfold Scalar.select
  by_cases hh : k.val / 64 ≤ t.val / 64
  · rw [if_pos hh, decide_eq_true hh]; rfl
  · rw [if_neg hh, decide_eq_false hh]; rfl

/-- An entry of the reference's result. -/
theorem result_apply (h0 : ∀ b t h d, a0 (ix4 b t h d) = ((qn b t h d : ℝ) : EReal)) (h1 : ∀ b t h d, a1 (ix4 b t h d) = ((qr b t h d : ℝ) : EReal))
    (h2 : ∀ b t h d, a2 (ix4 b t h d) = ((kn b t h d : ℝ) : EReal)) (h3 : ∀ b t d, a3 (ix3 b t d) = ((kr b t d : ℝ) : EReal))
    (h4 : ∀ b t h d, a4 (ix4 b t h d) = ((v b t h d : ℝ) : EReal)) (b : Fin 2) (t : Fin 16384) (u : Fin 512) :
    flat (valueDot a4 (softOf (scored a0 a1 a2 a3))) (ix3 b t u)
      = ((att qn qr kn kr v b ⟨u.val / 64, by omega⟩ t.val ⟨u.val % 64, Nat.mod_lt _ (by norm_num)⟩ : ℝ) : EReal) := by
  rw [flat_apply, valueDot_apply]
  generalize (⟨u.val / 64, _⟩ : Fin 8) = h
  generalize (⟨u.val % 64, _⟩ : Fin 64) = d
  unfold softOf
  simp only [prob_apply, sum_apply, exp_apply, h4]
  exact softmax_mean (Sees t.val) (score qn qr kn kr b h t.val) (fun s => v b (pos s) h d) (by norm_num) (by show 0 / 64 ≤ _; omega)
    (fun k => scored a0 a1 a2 a3 (ix4 b h t k)) (fun k => ((v b k h d : ℝ) : EReal)) (fun k => scored_apply h0 h1 h2 h3 b h t k) (fun k => by rw [pos_val])
    _ (top_apply _ b h t)

end Result

end Cert.ReferenceIdeal.Att

end
-- ==== Proof.Pre.lean ====
/- The precondition, read: every entry of every argument is a real number. -/
module

public import proofs.«01_k».proof.Pre_finite
public import Idealize.ShloMosaic.Lib.Pointwise

@[expose] public section

set_option maxRecDepth 16384

noncomputable section

namespace Cert.Pre_finite.Att

open Cert.Pre_finite
open Idealize.ShloMosaic

/-- The printed predicate's side conditions. -/
theorem facts : Facts := by
  constructor <;> decide

theorem andi_one (x y : BitVec 1) : IntOp.andi x y = 1#1 ↔ x = 1#1 ∧ y = 1#1 := by
  revert x y; decide

/-- A conjunction over a set holds where each member does. -/
theorem fold_andi {ι : Type*} [DecidableEq ι] (s : Finset ι) (f : ι → BitVec 1) (b : BitVec 1) (h : s.fold IntOp.andi b f = 1#1) : ∀ i ∈ s, f i = 1#1 := by
  induction s using Finset.induction_on with
  | empty => exact fun i hi => absurd hi (Finset.notMem_empty i)
  | insert a s ha ih =>
    rw [Finset.fold_insert ha, andi_one] at h
    intro i hi
    rcases Finset.mem_insert.1 hi with rfl | hi
    · exact h.1
    · exact ih h.2 i hi

theorem all_of_reduce {s : Shape} {axes : List (Fin s.rank)} (x : s.Idx → BitVec 1) (init : S_.Idx → BitVec 1) (h : s.ReducesTo axes S_) (hu : 0 < S_.numel) (j : S_.Idx)
    (H : Host.reduce IntOp.andi x init h hu j = 1#1) (i : s.Idx) : x i = 1#1 := by
  classical
  rw [Host.reduce_eq_fold] at H
  exact fold_andi _ _ _ H i (Finset.mem_filter.2 ⟨Finset.mem_univ _, funext fun a => a.elim0⟩)

/-- A number is compared with the two infinities. -/
def chk {s : Shape} (x : s.Idx → EReal) (i : s.Idx) : BitVec 1 :=
  IntOp.andi (Ideal.cmp .olt (x i) (Ideal.ofBits .f32 0x7F800000#32)) (Ideal.cmp .ogt (x i) (Ideal.ofBits .f32 0xFF800000#32))

theorem chk_real {s : Shape} (x : s.Idx → EReal) (i : s.Idx) (h : chk x i = 1#1) : x i = ((x i).toReal : EReal) := by
  have e1 : Ideal.ofBits .f32 0x7F800000#32 = ⊤ := by simp [Ideal.ofBits, Ideal.ieee]
  have e2 : Ideal.ofBits .f32 0xFF800000#32 = ⊥ := by simp [Ideal.ofBits, Ideal.ieee]
  unfold chk at h
  rw [andi_one, e1, e2] at h
  have h1 : x i ≠ ⊤ := by
    intro e; have := h.1; rw [e] at this; simp [Ideal.cmp] at this
  have h2 : x i ≠ ⊥ := by
    intro e; have := h.2; rw [e] at this; simp [Ideal.cmp] at this
  exact (EReal.coe_toReal h1 h2).symm

theorem real_args [Facts] (a0 : FVec Ideal S2x16384x8x64 .bf16) (a1 : FVec Ideal S2x16384x8x32 .bf16) (a2 : FVec Ideal S2x16384x8x64 .bf16) (a3 : FVec Ideal S2x16384x32 .bf16)
    (a4 : FVec Ideal S2x16384x8x64 .bf16) (h : fn a0 a1 a2 a3 a4 = fun _ => 1#1) :
    (∀ i, a0 i = ((EReal.toReal (a0 i) : ℝ) : EReal)) ∧ (∀ i, a1 i = ((EReal.toReal (a1 i) : ℝ) : EReal)) ∧ (∀ i, a2 i = ((EReal.toReal (a2 i) : ℝ) : EReal))
      ∧ (∀ i, a3 i = ((EReal.toReal (a3 i) : ℝ) : EReal)) ∧ ∀ i, a4 i = ((EReal.toReal (a4 i) : ℝ) : EReal) := by
  have j : S_.Idx := fun a => a.elim0
  unfold fn fn_part1 fn_part2 at h
  have h' : IntOp.andi (IntOp.andi (IntOp.andi (IntOp.andi
      (Host.reduce IntOp.andi (chk (s := S2x16384x8x64) a0) (constantI S_ 1 1#1) Facts.reducesTo_S2x16384x8x64_S_d0_1_2_3 Facts.h_S_ j)
      (Host.reduce IntOp.andi (chk (s := S2x16384x8x32) a1) (constantI S_ 1 1#1) Facts.reducesTo_S2x16384x8x32_S_d0_1_2_3 Facts.h_S_ j))
      (Host.reduce IntOp.andi (chk (s := S2x16384x8x64) a2) (constantI S_ 1 1#1) Facts.reducesTo_S2x16384x8x64_S_d0_1_2_3 Facts.h_S_ j))
      (Host.reduce IntOp.andi (chk (s := S2x16384x32) a3) (constantI S_ 1 1#1) Facts.reducesTo_S2x16384x32_S_d0_1_2 Facts.h_S_ j))
      (Host.reduce IntOp.andi (chk (s := S2x16384x8x64) a4) (constantI S_ 1 1#1) Facts.reducesTo_S2x16384x8x64_S_d0_1_2_3 Facts.h_S_ j) = 1#1 := congrFun h j
  simp only [andi_one] at h'
  obtain ⟨⟨⟨⟨h0, h1⟩, h2⟩, h3⟩, h4⟩ := h'
  exact ⟨fun i => chk_real _ i (all_of_reduce _ _ _ _ j h0 i), fun i => chk_real _ i (all_of_reduce _ _ _ _ j h1 i), fun i => chk_real _ i (all_of_reduce _ _ _ _ j h2 i),
    fun i => chk_real _ i (all_of_reduce _ _ _ _ j h3 i), fun i => chk_real _ i (all_of_reduce _ _ _ _ j h4 i)⟩

end Cert.Pre_finite.Att

end
-- ==== Proof.Row.lean ====
/- The feed-forward step of one row, as a function of the row and the weights. -/
module

public import Idealize.ShloMosaic.Lib.Pointwise
public import proofs.«01_k».proof.Proof.Online

@[expose] public section

noncomputable section

namespace Cert.Ffn

open Idealize.ShloMosaic

/-- The root mean square norm of a row, times the weights. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The norm scaled and shifted. -/
def modulated (x g sc sh : Fin 1024 → EReal) (j : Fin 1024) : EReal := rms x g j * (Ideal.ofBits .f32 0x3F800000#32 + sc j) + sh j

/-- A gate entry through its own logistic, times the other entry. -/
def swish (a b : EReal) : EReal := a * Ideal.logistic a * b

/-- The hidden entry of a column: the first half of the product gates the second. -/
def hiddenAt (h : Fin 1024 → EReal) (wi : Fin 1024 → Fin 5632 → EReal) (f : Fin 2816) : EReal :=
  swish (∑ k, h k * wi k ⟨f.val, by omega⟩) (∑ k, h k * wi k ⟨2816 + f.val, by omega⟩)

/-- A row plus half of its gated feed-forward output. -/
def halfStep (x g sc sh gt : Fin 1024 → EReal) (wi : Fin 1024 → Fin 5632 → EReal) (wo : Fin 2816 → Fin 1024 → EReal) (j : Fin 1024) : EReal :=
  x j + Ideal.ofBits .f32 0x3F000000#32 * gt j * ∑ f, hiddenAt (modulated x g sc sh) wi f * wo f j

/-- A row plus its gated projection. -/
def mixed (x gt o : Fin 1024 → EReal) (w : Fin 1024 → Fin 1024 → EReal) (j : Fin 1024) : EReal := x j + gt j * ∑ k, o k * w k j

/-- Two half rows side by side. -/
def joined (a b : Fin 512 → EReal) (k : Fin 1024) : EReal := if h : k.val < 512 then a ⟨k.val, h⟩ else b ⟨k.val - 512, by omega⟩

/-- A sum over them is the sum over each. -/
theorem sum_joined (a b : Fin 512 → EReal) (w : Fin 1024 → EReal) :
    ∑ k, joined a b k * w k = (∑ k : Fin 512, a k * w ⟨k.val, by omega⟩) + ∑ k : Fin 512, b k * w ⟨512 + k.val, by omega⟩ := by
  refine (Fin.sum_univ_add (fun k : Fin (512 + 512) => joined a b k * w k)).trans ?_
  refine congrArg₂ (· + ·) (Finset.sum_congr rfl fun k _ => congrArg₂ (· * ·) ?_ rfl) (Finset.sum_congr rfl fun k _ => congrArg₂ (· * ·) ?_ rfl)
  · exact dif_pos k.isLt
  · refine (dif_neg (by simp)).trans (congrArg b (Fin.ext ?_))
    show 512 + k.val - 512 = k.val
    omega

end Cert.Ffn

end
-- ==== Proof.Ffn.lean ====
/- The feed-forward half step: what one point leaves in its block of rows. -/
module

public import proofs.«01_k».proof.Proof.Row
public import proofs.«01_k».proof.Proof.Gen.Kernel2Ideal.Value
public import Idealize.ShloMosaic.Lib.Pipeline.ValueKit.Tiles

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic

/-! ## The body's values at a position -/

/-- The modulated norm of a block of rows. -/
theorem pay6_apply (v0 : Vec Ideal S1024x1024 .f32) (v2 v4 : Vec Ideal S1x1x1024 .f32) (v8 : Vec Ideal S1x1024 .f32) (r k : Fin 1024) :
    k0_pay6 v0 v2 v4 v8 (ix2 r k) = modulated (fun k => v0 (ix2 r k)) (fun k => v8 (ix2 0 k)) (fun k => v4 (ix3 0 0 k)) (fun k => v2 (ix3 0 0 k)) k := by
  unfold modulated rms
  pointwise [k0_pay6, k0_pay4]

/-- A chunk of the hidden columns. -/
theorem pay9_apply (h : FVec Ideal S1024x1024 .bf16) (a b : Vec Ideal S1x1x1024x256 .bf16) (r : Fin 1024) (q : Fin 256) :
    k0_pay9 h a b (ix2 r q) = swish (∑ k : Fin 1024, h (ix2 r k) * a (ix4 0 0 k q)) (∑ k : Fin 1024, h (ix2 r k) * b (ix4 0 0 k q)) := by
  unfold swish
  pointwise [k0_pay9]

/-- The rows plus the gated output. -/
theorem pay3_apply (x : FVec Ideal S1024x1024 .f32) (g : FVec Ideal S1x1024 .f32) (a : Vec Ideal S1024x2816 .bf16) (w : Vec Ideal S1x1x2816x1024 .bf16) (r j : Fin 1024) :
    k0_pay3 x g a w (ix2 r j) = x (ix2 r j) + Ideal.ofBits .f32 0x3F000000#32 * g (ix2 0 j) * ∑ f : Fin 2816, a (ix2 r f) * w (ix4 0 0 f j) := by
  pointwise [k0_pay3]

theorem pay5_apply (g : Vec Ideal S1x1x1024 .f32) (j : Fin 1024) : k0_pay5 g (ix2 0 j) = g (ix3 0 0 j) := by pointwise [k0_pay5]

/-! ## The hidden columns, chunk after chunk -/

/-- The hidden entries of a block of rows. -/
def hidV (h : FVec Ideal S1024x1024 .bf16) (w : Vec Ideal S1x1x1024x5632 .bf16) : S1024x2816.Idx → EReal :=
  fun y => hiddenAt (fun k => h (ix2 (y 0) k)) (fun k f => w (ix4 0 0 k f)) (y 1)

/-- A chunk holds the hidden entries of its columns. -/
theorem chunk_eq (h : FVec Ideal S1024x1024 .bf16) (w : Vec Ideal S1x1x1024x5632 .bf16) (o : ℕ)
    (i1 : ∀ a, (![0, o] : Fin 2 → ℕ) a + S1024x256.size a ≤ S1024x2816.size a)
    (i2 : ∀ a, (![0, 0, 0, o] : Fin 4 → ℕ) a + S1x1x1024x256.size a ≤ S1x1x1024x5632.size a)
    (i3 : ∀ a, (![0, 0, 0, 2816 + o] : Fin 4 → ℕ) a + S1x1x1024x256.size a ≤ S1x1x1024x5632.size a) (x : S1024x256.Idx) :
    k0_pay9 h (View.ld w (Rect.unit (s := S1x1x1024x5632) ![0, 0, 0, o] S1x1x1024x256.size i2)) (View.ld w (Rect.unit (s := S1x1x1024x5632) ![0, 0, 0, 2816 + o] S1x1x1024x256.size i3)) x
      = hidV h w ((Rect.unit (s := S1024x2816) ![0, o] S1024x256.size i1).emb x) := by
  have ho : o + 256 ≤ 2816 := i1 1
  obtain ⟨r, q, rfl⟩ : ∃ (r : Fin 1024) (q : Fin 256), x = ix2 r q := ⟨x 0, x 1, funext fun a => by fin_cases a <;> rfl⟩
  have hq := q.isLt
  have e : (Rect.unit (s := S1024x2816) ![0, o] S1024x256.size i1).emb (ix2 r q) = ix2 r ⟨o + q.val, by omega⟩ :=
    funext fun a => Fin.ext (by fin_cases a <;> simp [Rect.emb_apply])
  rw [e, pay9_apply]
  unfold hidV hiddenAt
  refine congrArg₂ swish (Finset.sum_congr rfl fun k _ => congrArg (_ * ·) ?_) (Finset.sum_congr rfl fun k _ => congrArg (_ * ·) ?_)
  all_goals
    refine View.ld_unit_apply_of w _ _ _ _ _ fun a => ?_
    fin_cases a
    · rfl
    · rfl
    · exact (Nat.zero_add _).symm
  · rfl
  · exact (Nat.add_assoc _ _ _).symm

/-- The block that a point leaves, from its input blocks. -/
def blockV (x0 : Vec Ideal S1024x1024 .f32) (x1 : Vec Ideal S1x9x1024 .f32) (x2 : Vec Ideal S1x1024 .f32) (x3 : Vec Ideal S1x1x1024x5632 .bf16) (x4 : Vec Ideal S1x1x2816x1024 .bf16) :
    Vec Ideal S1024x1024 .f32 :=
  k0_pay3 (k0_pay4 x0) (k0_pay5 (View.ld x1 (Rect.unit (s := S1x9x1024) ![0, 2, 0] S1x1x1024.size inb_S1x9x1024_S1x1x1024_0_2_0)))
    (hidV (k0_pay6 x0 (View.ld x1 (Rect.unit (s := S1x9x1024) ![0, 0, 0] S1x1x1024.size inb_S1x9x1024_S1x1x1024_0_0_0))
      (View.ld x1 (Rect.unit (s := S1x9x1024) ![0, 1, 0] S1x1x1024.size inb_S1x9x1024_S1x1x1024_0_1_0)) x2) x3) x4

theorem z2 : (![0, 0] : Fin 2 → ℕ) = fun _ => 0 := funext fun a => by fin_cases a <;> rfl
theorem z4 : (![0, 0, 0, 0] : Fin 4 → ℕ) = fun _ => 0 := funext fun a => by fin_cases a <;> rfl

set_option maxHeartbeats 2000000 in
theorem out_eq (c : Dev nD) (i : grid0.Coords) (arg1 : Memref sig .tc .vmem S1024x1024 .f32) (harg1 : arg1.IsWhole) (arg2 : Memref sig .tc .vmem S1x9x1024 .f32) (harg2 : arg2.IsWhole)
    (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16)
    (harg5 : arg5.IsWhole) (arg6 : Memref sig .tc .vmem S1024x1024 .f32) (harg6 : arg6.IsWhole) (arg7 : Memref sig .tc .vmem S1024x2816 .bf16) (harg7 : arg7.IsWhole)
    (x0 : Vec Ideal S1024x1024 .f32) (x1 : Vec Ideal S1x9x1024 .f32) (x2 : Vec Ideal S1x1024 .f32) (x3 : Vec Ideal S1x1x1024x5632 .bf16) (x4 : Vec Ideal S1x1x2816x1024 .bf16) :
    out0_A_5 c i arg1 harg1 arg2 harg2 arg3 harg3 arg4 harg4 arg5 harg5 arg6 harg6 arg7 harg7 x0 x1 x2 x3 x4 = blockV x0 x1 x2 x3 x4 := by
  unfold out0_A_5 kernelRun0_A
  dsimp only
  sl_unfold_words
  rw [View.read_writes_junk_eq_canon]
  refine (View.canon_unit_zero z2 _ _).trans ?_
  rw [View.readCov_eq_canon']
  simp only [View.readAt_eq_ld, harg1.read_unread, harg2.read_unread, harg3.read_unread, harg4.read_unread, harg5.read_unread]
  unfold blockV
  have l0 : ∀ inb, View.ld x0 (Rect.unit (s := S1024x1024) ![0, 0] S1024x1024.size inb) = x0 := fun inb => View.ld_unit_zero z2 inb x0
  have l2 : ∀ inb, View.ld x2 (Rect.unit (s := S1x1024) ![0, 0] S1x1024.size inb) = x2 := fun inb => View.ld_unit_zero z2 inb x2
  have l4 : ∀ inb, View.ld x4 (Rect.unit (s := S1x1x2816x1024) ![0, 0, 0, 0] ![1, 1, 2816, 1024] inb) = x4 := fun inb => View.ld_unit_zero z4 inb x4
  simp only [l0, l2, l4]
  congr 1
  funext j
  obtain ⟨r, f, rfl⟩ : ∃ (r : Fin 1024) (f : Fin 2816), j = ix2 r f := ⟨j 0, j 1, funext fun a => by fin_cases a <;> rfl⟩
  refine (View.canon_apply_of_pieces (hidV (k0_pay6 x0 (View.ld x1 (Rect.unit (s := S1x9x1024) ![0, 0, 0] S1x1x1024.size inb_S1x9x1024_S1x1x1024_0_0_0))
      (View.ld x1 (Rect.unit (s := S1x9x1024) ![0, 1, 0] S1x1x1024.size inb_S1x9x1024_S1x1x1024_0_1_0)) x2) x3) _ ?_ _ ?_).trans ?_
  · intro p hp
    simp only [List.mem_cons, List.not_mem_nil, or_false] at hp
    rcases hp with rfl | rfl | rfl | rfl | rfl | rfl | rfl | rfl | rfl | rfl | rfl
    · exact chunk_eq _ x3 2560 inb_S1024x2816_S1024x256_0_2560 inb_S1x1x1024x5632_S1x1x1024x256_0_0_0_2560 inb_S1x1x1024x5632_S1x1x1024x256_0_0_0_5376
    · exact chunk_eq _ x3 2304 inb_S1024x2816_S1024x256_0_2304 inb_S1x1x1024x5632_S1x1x1024x256_0_0_0_2304 inb_S1x1x1024x5632_S1x1x1024x256_0_0_0_5120
    · exact chunk_eq _ x3 2048 inb_S1024x2816_S1024x256_0_2048 inb_S1x1x1024x5632_S1x1x1024x256_0_0_0_2048 inb_S1x1x1024x5632_S1x1x1024x256_0_0_0_4864
    · exact chunk_eq _ x3 1792 inb_S1024x2816_S1024x256_0_1792 inb_S1x1x1024x5632_S1x1x1024x256_0_0_0_1792 inb_S1x1x1024x5632_S1x1x1024x256_0_0_0_4608
    · exact chunk_eq _ x3 1536 inb_S1024x2816_S1024x256_0_1536 inb_S1x1x1024x5632_S1x1x1024x256_0_0_0_1536 inb_S1x1x1024x5632_S1x1x1024x256_0_0_0_4352
    · exact chunk_eq _ x3 1280 inb_S1024x2816_S1024x256_0_1280 inb_S1x1x1024x5632_S1x1x1024x256_0_0_0_1280 inb_S1x1x1024x5632_S1x1x1024x256_0_0_0_4096
    · exact chunk_eq _ x3 1024 inb_S1024x2816_S1024x256_0_1024 inb_S1x1x1024x5632_S1x1x1024x256_0_0_0_1024 inb_S1x1x1024x5632_S1x1x1024x256_0_0_0_3840
    · exact chunk_eq _ x3 768 inb_S1024x2816_S1024x256_0_768 inb_S1x1x1024x5632_S1x1x1024x256_0_0_0_768 inb_S1x1x1024x5632_S1x1x1024x256_0_0_0_3584
    · exact chunk_eq _ x3 512 inb_S1024x2816_S1024x256_0_512 inb_S1x1x1024x5632_S1x1x1024x256_0_0_0_512 inb_S1x1x1024x5632_S1x1x1024x256_0_0_0_3328
    · exact chunk_eq _ x3 256 inb_S1024x2816_S1024x256_0_256 inb_S1x1x1024x5632_S1x1x1024x256_0_0_0_256 inb_S1x1x1024x5632_S1x1x1024x256_0_0_0_3072
    · exact chunk_eq _ x3 0 inb_S1024x2816_S1024x256_0_0 inb_S1x1x1024x5632_S1x1x1024x256_0_0_0_0 inb_S1x1x1024x5632_S1x1x1024x256_0_0_0_2816
  · exact View.cover_of_tiledL (s := S1024x2816) _ S1024x256.size (by sl_kernel_rfl) _
  · exact congrArg (hidV _ x3) (funext fun a => Fin.ext (by fin_cases a <;> simp [Rect.emb_apply]))

end Cert.Kernel2Ideal.Ffn

end
-- ==== Proof.Ref2.lean ====
/- The reference's feed-forward half step: every entry is the half step of its row. -/
module

public import proofs.«01_k».proof.Proof.Row
public import proofs.«01_k».proof.Proof.Gen.Reference2Ideal.Run

@[expose] public section

set_option maxRecDepth 16384

noncomputable section

namespace Cert.Reference2Ideal.Ffn

open Cert.Reference2Ideal Cert.Reference2Ideal.Gen Cert.Ffn
open Idealize.ShloMosaic Idealize.ShloMosaic.TcCoe

/-! ## The stages -/

/-- The root mean square norm. -/
def normOf (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1
      (Host.reduceAdd (mulf x x) (constant S_ .f32 0x00000000#32) reducesTo_S2x16384x1024_S2x16384_d2 h_S_)) (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- One vector per batch entry, over all its rows. -/
def spread (x : FVec Ideal S2x1x1024 .f32) : FVec Ideal S2x16384x1024 .f32 := broadcastInDim S2x16384x1024 ![0, 1, 2] bcast_S2x1x1024_S2x16384x1024_0_1_2 x

def lift (x : FVec Ideal S2x1024 .f32) : FVec Ideal S2x1x1024 .f32 := broadcastInDim S2x1x1024 ![0, 2] bcast_S2x1024_S2x1x1024_0_2 x

/-- The norm scaled and shifted. -/
def modOf (y : FVec Ideal S2x16384x1024 .f32) (sc sh : FVec Ideal S2x1024 .f32) : FVec Ideal S2x16384x1024 .f32 :=
  addf (mulf y (spread (addf (broadcastInDim S2x1x1024 ![] bcast_S_S2x1x1024 (constant S_ .f32 0x3F800000#32)) (lift sc)))) (spread (lift sh))

def inDot (h : FVec Ideal S2x16384x1024 .f32) (w : FVec Ideal S1024x5632 .f32) : FVec Ideal S2x16384x5632 .f32 :=
  Host.dotGeneral (φ₁ := .f32) (φ₂ := .f32) dot_S2x16384x1024_S1024x5632_S2x16384x5632_2_0_01_1_n_n none h w

/-- The two halves of the product, the first gating the second. -/
def gated (d : FVec Ideal S2x16384x5632 .f32) : FVec Ideal S2x16384x2816 .f32 :=
  mulf (mulf (extractStridedSlice S2x16384x2816 ![0, 0, 0] d slices_S2x16384x5632_S2x16384x2816_0_0_0)
    (Host.divf (broadcastInDim S2x16384x2816 ![] bcast_S_S2x16384x2816 (constant S_ .f32 0x3F800000#32)) (addf (broadcastInDim S2x16384x2816 ![] bcast_S_S2x16384x2816 (constant S_ .f32 0x3F800000#32))
      (Host.exp (Host.negf (extractStridedSlice S2x16384x2816 ![0, 0, 0] d slices_S2x16384x5632_S2x16384x2816_0_0_0))))))
    (extractStridedSlice S2x16384x2816 ![0, 0, 2816] d slices_S2x16384x5632_S2x16384x2816_0_0_2816)

def outDot (h : FVec Ideal S2x16384x2816 .f32) (w : FVec Ideal S2816x1024 .f32) : FVec Ideal S2x16384x1024 .f32 :=
  Host.dotGeneral (φ₁ := .f32) (φ₂ := .f32) dot_S2x16384x2816_S2816x1024_S2x16384x1024_2_0_01_1_n_n none h w

/-- The rows plus half of the gated output. -/
def plusHalf (x : FVec Ideal S2x16384x1024 .f32) (gt : FVec Ideal S2x1024 .f32) (y : FVec Ideal S2x16384x1024 .f32) : FVec Ideal S2x16384x1024 .f32 :=
  addf x (mulf (spread (mulf (broadcastInDim S2x1x1024 ![] bcast_S_S2x1x1024 (constant S_ .f32 0x3F000000#32)) (lift gt))) y)

/-- The half step, from its operands. -/
def stepOf (x : FVec Ideal S2x16384x1024 .f32) (g : FVec Ideal S1024 .f32) (sc sh gt : FVec Ideal S2x1024 .f32) (wi : FVec Ideal S1024x5632 .f32) (wo : FVec Ideal S2816x1024 .f32) :
    FVec Ideal S2x16384x1024 .f32 := plusHalf x gt (outDot (gated (inDot (modOf (normOf x g) sc sh) wi)) wo)

def flat (x : FVec Ideal S2x16384x1024 .f32) : FVec Ideal S32768x1024 .f32 := shapeCast S32768x1024 x shapeCasts_S2x16384x1024_S32768x1024

/-! ## Each stage at a position -/

theorem norm_apply (x : FVec Ideal S2x16384x1024 .f32) (g : FVec Ideal S1024 .f32) (b : Fin 2) (t : Fin 16384) (j : Fin 1024) :
    normOf x g (ix3 b t j) = rms (fun k => x (ix3 b t k)) (fun k => g (ix1 k)) j := by
  unfold rms
  pointwise [normOf]

theorem mod_apply (y : FVec Ideal S2x16384x1024 .f32) (sc sh : FVec Ideal S2x1024 .f32) (b : Fin 2) (t : Fin 16384) (j : Fin 1024) :
    modOf y sc sh (ix3 b t j) = y (ix3 b t j) * (Ideal.ofBits .f32 0x3F800000#32 + sc (ix2 b j)) + sh (ix2 b j) := by
  pointwise [modOf, spread, lift]

theorem in_apply (h : FVec Ideal S2x16384x1024 .f32) (w : FVec Ideal S1024x5632 .f32) (b : Fin 2) (t : Fin 16384) (f : Fin 5632) :
    inDot h w (ix3 b t f) = ∑ k : Fin 1024, h (ix3 b t k) * w (ix2 k f) := by
  pointwise [inDot]

theorem gated_apply (d : FVec Ideal S2x16384x5632 .f32) (b : Fin 2) (t : Fin 16384) (f : Fin 2816) :
    gated d (ix3 b t f) = swish (d (ix3 b t ⟨f.val, by omega⟩)) (d (ix3 b t ⟨2816 + f.val, by omega⟩)) := by
  unfold swish
  pointwise [gated]
  rfl

theorem out_apply (h : FVec Ideal S2x16384x2816 .f32) (w : FVec Ideal S2816x1024 .f32) (b : Fin 2) (t : Fin 16384) (j : Fin 1024) :
    outDot h w (ix3 b t j) = ∑ f : Fin 2816, h (ix3 b t f) * w (ix2 f j) := by
  pointwise [outDot]

theorem plus_apply (x : FVec Ideal S2x16384x1024 .f32) (gt : FVec Ideal S2x1024 .f32) (y : FVec Ideal S2x16384x1024 .f32) (b : Fin 2) (t : Fin 16384) (j : Fin 1024) :
    plusHalf x gt y (ix3 b t j) = x (ix3 b t j) + Ideal.ofBits .f32 0x3F000000#32 * gt (ix2 b j) * y (ix3 b t j) := by
  pointwise [plusHalf, spread, lift]

theorem flat_apply (x : FVec Ideal S2x16384x1024 .f32) (r : Fin 32768) (j : Fin 1024) :
    flat x (ix2 r j) = x (ix3 ⟨r.val / 16384, by omega⟩ ⟨r.val % 16384, by omega⟩ j) := by
  pointwise [flat]

theorem step_apply (x : FVec Ideal S2x16384x1024 .f32) (g : FVec Ideal S1024 .f32) (sc sh gt : FVec Ideal S2x1024 .f32) (wi : FVec Ideal S1024x5632 .f32) (wo : FVec Ideal S2816x1024 .f32)
    (b : Fin 2) (t : Fin 16384) (j : Fin 1024) : stepOf x g sc sh gt wi wo (ix3 b t j)
      = halfStep (fun k => x (ix3 b t k)) (fun k => g (ix1 k)) (fun k => sc (ix2 b k)) (fun k => sh (ix2 b k)) (fun k => gt (ix2 b k)) (fun k f => wi (ix2 k f)) (fun f k => wo (ix2 f k)) j := by
  unfold stepOf halfStep hiddenAt modulated
  rw [plus_apply, out_apply]
  simp only [gated_apply, in_apply, mod_apply, norm_apply]

/-! ## The result -/

def rowG (x : FVec Ideal S4x3x1024 .f32) : FVec Ideal S1024 .f32 := shapeCast S1024 (extractStridedSlice S1x1x1024 ![0, 0, 0] x slices_S4x3x1024_S1x1x1024_0_0_0) shapeCasts_S1x1x1024_S1024
def row0 (x : FVec Ideal S2x9x1024 .f32) : FVec Ideal S2x1024 .f32 := shapeCast S2x1024 (extractStridedSlice S2x1x1024 ![0, 0, 0] x slices_S2x9x1024_S2x1x1024_0_0_0) shapeCasts_S2x1x1024_S2x1024
def row1 (x : FVec Ideal S2x9x1024 .f32) : FVec Ideal S2x1024 .f32 := shapeCast S2x1024 (extractStridedSlice S2x1x1024 ![0, 1, 0] x slices_S2x9x1024_S2x1x1024_0_1_0) shapeCasts_S2x1x1024_S2x1024
def row2 (x : FVec Ideal S2x9x1024 .f32) : FVec Ideal S2x1024 .f32 := shapeCast S2x1024 (extractStridedSlice S2x1x1024 ![0, 2, 0] x slices_S2x9x1024_S2x1x1024_0_2_0) shapeCasts_S2x1x1024_S2x1024
def wiOf (x : FVec Ideal S4x2x1024x5632 .f32) : FVec Ideal S1024x5632 .f32 :=
  shapeCast S1024x5632 (extractStridedSlice S1x1x1024x5632 ![0, 0, 0, 0] x slices_S4x2x1024x5632_S1x1x1024x5632_0_0_0_0) shapeCasts_S1x1x1024x5632_S1024x5632
def woOf (x : FVec Ideal S4x2x2816x1024 .f32) : FVec Ideal S2816x1024 .f32 :=
  shapeCast S2816x1024 (extractStridedSlice S1x1x2816x1024 ![0, 0, 0, 0] x slices_S4x2x2816x1024_S1x1x2816x1024_0_0_0_0) shapeCasts_S1x1x2816x1024_S2816x1024

theorem result_stages (m : (ℓ : Loc nD τ sig) → Buf (Elt Ideal) ℓ) (c : Dev nD) :
    Value.res_main_v45 (F := Ideal) m c = flat (stepOf (m (c, main_arg0)) (rowG (m (c, main_arg2))) (row1 (m (c, main_arg1))) (row0 (m (c, main_arg1))) (row2 (m (c, main_arg1)))
      (wiOf (m (c, main_arg3))) (woOf (m (c, main_arg4)))) := by
  unfold Value.res_main_v45
  rfl

theorem rowG_apply (x : FVec Ideal S4x3x1024 .f32) (j : Fin 1024) : rowG x (ix1 j) = x (ix3 0 0 j) := by pointwise [rowG]
theorem row0_apply (x : FVec Ideal S2x9x1024 .f32) (b : Fin 2) (j : Fin 1024) : row0 x (ix2 b j) = x (ix3 b 0 j) := by pointwise [row0]
theorem row1_apply (x : FVec Ideal S2x9x1024 .f32) (b : Fin 2) (j : Fin 1024) : row1 x (ix2 b j) = x (ix3 b 1 j) := by pointwise [row1]
theorem row2_apply (x : FVec Ideal S2x9x1024 .f32) (b : Fin 2) (j : Fin 1024) : row2 x (ix2 b j) = x (ix3 b 2 j) := by pointwise [row2]
theorem wi_apply (x : FVec Ideal S4x2x1024x5632 .f32) (k : Fin 1024) (f : Fin 5632) : wiOf x (ix2 k f) = x (ix4 0 0 k f) := by pointwise [wiOf]
theorem wo_apply (x : FVec Ideal S4x2x2816x1024 .f32) (f : Fin 2816) (k : Fin 1024) : woOf x (ix2 f k) = x (ix4 0 0 f k) := by pointwise [woOf]

/-- The half step of every row, as one array. -/
def result (a0 : FVec Ideal S2x16384x1024 .f32) (a1 : FVec Ideal S2x9x1024 .f32) (a2 : FVec Ideal S4x3x1024 .f32) (a3 : FVec Ideal S4x2x1024x5632 .f32) (a4 : FVec Ideal S4x2x2816x1024 .f32)
    (b : Fin 2) (t : Fin 16384) (j : Fin 1024) : EReal :=
  halfStep (fun k => a0 (ix3 b t k)) (fun k => a2 (ix3 0 0 k)) (fun k => a1 (ix3 b 1 k)) (fun k => a1 (ix3 b 0 k)) (fun k => a1 (ix3 b 2 k)) (fun k f => a3 (ix4 0 0 k f)) (fun f k => a4 (ix4 0 0 f k)) j

theorem result_apply (m : (ℓ : Loc nD τ sig) → Buf (Elt Ideal) ℓ) (c : Dev nD) (r : Fin 32768) (j : Fin 1024) :
    (Value.res_main_v45 (F := Ideal) m c : FVec Ideal S32768x1024 .f32) (ix2 r j)
      = result (m (c, main_arg0)) (m (c, main_arg1)) (m (c, main_arg2)) (m (c, main_arg3)) (m (c, main_arg4)) ⟨r.val / 16384, by omega⟩ ⟨r.val % 16384, by omega⟩ j := by
  rw [result_stages, flat_apply, step_apply]
  unfold result
  simp only [rowG_apply, row0_apply, row1_apply, row2_apply, wi_apply, wo_apply]

end Cert.Reference2Ideal.Ffn

end
-- ==== Proof.FfnValue.lean ====
/- The feed-forward half step: every entry of the result is the half step of its row. -/
module

public import proofs.«01_k».proof.Proof.Ffn
public import proofs.«01_k».proof.Proof.Ref2

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.StableHlo
open Idealize.ShloMosaic.Pipeline (Dat Cfg Window)

/-! ## A point's block at a position -/

theorem pay4_apply (x : Vec Ideal S1024x1024 .f32) (r j : Fin 1024) : k0_pay4 x (ix2 r j) = x (ix2 r j) := by pointwise [k0_pay4]

theorem row_apply (x : Vec Ideal S1x9x1024 .f32) (n : Fin 9) (inb : ∀ a, (![0, n.val, 0] : Fin 3 → ℕ) a + S1x1x1024.size a ≤ S1x9x1024.size a) (k : Fin 1024) :
    View.ld x (Rect.unit (s := S1x9x1024) ![0, n.val, 0] S1x1x1024.size inb) (ix3 0 0 k) = x (ix3 0 n k) :=
  View.ld_unit_apply_of x _ _ _ _ _ fun a => by
    fin_cases a
    · rfl
    · rfl
    · exact (Nat.zero_add _).symm

theorem block_apply (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (r j : Fin 1024) : blockV x0 x1 x2 x3 x4 (ix2 r j)
      = halfStep (fun k => x0 (ix2 r k)) (fun k => x2 (ix2 0 k)) (fun k => x1 (ix3 0 1 k)) (fun k => x1 (ix3 0 0 k)) (fun k => x1 (ix3 0 2 k)) (fun k f => x3 (ix4 0 0 k f)) (fun f k => x4 (ix4 0 0 f k)) j := by
  have e0 := row_apply x1 0 inb_S1x9x1024_S1x1x1024_0_0_0
  have e1 := row_apply x1 1 inb_S1x9x1024_S1x1x1024_0_1_0
  have e2 := row_apply x1 2 inb_S1x9x1024_S1x1x1024_0_2_0
  unfold blockV halfStep
  rw [pay3_apply, pay4_apply, pay5_apply]
  refine congrArg₂ (fun a b => x0 (ix2 r j) + Ideal.ofBits .f32 0x3F000000#32 * a * b) (e2 j) (Finset.sum_congr rfl fun f _ => congrArg (· * _) ?_)
  refine congrArg (fun h => hiddenAt h (fun k f => x3 (ix4 0 0 k f)) f) (funext fun k => ?_)
  refine (pay6_apply x0 _ _ x2 r k).trans ?_
  exact congrArg₂ (fun a b => modulated (fun k => x0 (ix2 r k)) (fun k => x2 (ix2 0 k)) a b k) (funext e1) (funext e0)

/-! ## The blocks -/

theorem index_val : ∀ t : Fin grid0.N, win0_0.index t 0 = t.val ∧ win0_0.index t 1 = 0 ∧ win0_1.index t 0 = t.val / 16 ∧ win0_1.index t 1 = 0 ∧ win0_1.index t 2 = 0
    ∧ win0_5.index t 0 = t.val ∧ win0_5.index t 1 = 0 := by decide +kernel

section Blocks

variable (m : (ℓ : Loc nD τ sig) → Buf (Elt Ideal) ℓ) (c : Dev nD) (t : Fin cfg0.N)

theorem lt_points : t.val < 32 := t.isLt

theorem iblk_x (r k : Fin 1024) : (iblk m c 0 t : Vec Ideal S1024x1024 .f32) (ix2 r k) = (V m c main_v0 : FVec Ideal S32768x1024 .f32) (ix2 ⟨1024 * t.val + r.val, by have := lt_points t; omega⟩ k) := by
  obtain ⟨h0, h1, -⟩ := index_val t
  refine congrArg (V m c main_v0) (funext fun a => Fin.ext ?_)
  refine (Window.rect_emb_val (cfg0.win 0) t (ix2 r k) a).trans ?_
  fin_cases a
  · show win0_0.index t 0 * 1024 + r.val = 1024 * t.val + r.val; rw [h0]; omega
  · show win0_0.index t 1 * 1024 + k.val = k.val; rw [h1]; omega

theorem iblk_mods (n : Fin 9) (k : Fin 1024) : (iblk m c 1 t : Vec Ideal S1x9x1024 .f32) (ix3 0 n k)
    = (V m c main_arg1 : FVec Ideal S2x9x1024 .f32) (ix3 ⟨t.val / 16, by have := lt_points t; omega⟩ n k) := by
  obtain ⟨-, -, h0, h1, h2, -⟩ := index_val t
  refine congrArg (V m c main_arg1) (funext fun a => Fin.ext ?_)
  refine (Window.rect_emb_val (cfg0.win 1) t (ix3 0 n k) a).trans ?_
  fin_cases a
  · show win0_1.index t 0 * 1 + 0 = t.val / 16; rw [h0]; omega
  · show win0_1.index t 1 * 9 + n.val = n.val; rw [h1]; omega
  · show win0_1.index t 2 * 1024 + k.val = k.val; rw [h2]; omega

theorem iblk_g (k : Fin 1024) : (iblk m c 2 t : Vec Ideal S1x1024 .f32) (ix2 0 k) = (V m c main_v5 : FVec Ideal S1x1024 .f32) (ix2 0 k) := by
  refine congrArg (V m c main_v5) (funext fun a => Fin.ext ?_)
  refine (Window.rect_emb_val (cfg0.win 2) t (ix2 0 k) a).trans ?_
  fin_cases a
  · rfl
  · show 0 * 1024 + k.val = k.val; omega

theorem iblk_wi (k : Fin 1024) (f : Fin 5632) : (iblk m c 3 t : Vec Ideal S1x1x1024x5632 .bf16) (ix4 0 0 k f) = (V m c main_v3 : FVec Ideal S4x2x1024x5632 .bf16) (ix4 0 0 k f) := by
  refine congrArg (V m c main_v3) (funext fun a => Fin.ext ?_)
  refine (Window.rect_emb_val (cfg0.win 3) t (ix4 0 0 k f) a).trans ?_
  fin_cases a
  · rfl
  · rfl
  · show 0 * 1024 + k.val = k.val; omega
  · show 0 * 5632 + f.val = f.val; omega

theorem iblk_wo (f : Fin 2816) (k : Fin 1024) : (iblk m c 4 t : Vec Ideal S1x1x2816x1024 .bf16) (ix4 0 0 f k) = (V m c main_v4 : FVec Ideal S4x2x2816x1024 .bf16) (ix4 0 0 f k) := by
  refine congrArg (V m c main_v4) (funext fun a => Fin.ext ?_)
  refine (Window.rect_emb_val (cfg0.win 4) t (ix4 0 0 f k) a).trans ?_
  fin_cases a
  · rfl
  · rfl
  · show 0 * 2816 + f.val = f.val; omega
  · show 0 * 1024 + k.val = k.val; omega

theorem oblk (r j : Fin 1024) : ((cfg0.win 5).blk t).view.emb (ix2 r j : S1024x1024.Idx) = (ix2 ⟨1024 * t.val + r.val, by have := lt_points t; omega⟩ j : S32768x1024.Idx) := by
  obtain ⟨-, -, -, -, -, h0, h1⟩ := index_val t
  refine funext fun a => Fin.ext ?_
  refine (Window.rect_emb_val (cfg0.win 5) t (ix2 r j) a).trans ?_
  fin_cases a
  · show win0_5.index t 0 * 1024 + r.val = 1024 * t.val + r.val; rw [h0]; omega
  · show win0_5.index t 1 * 1024 + j.val = j.val; rw [h1]; omega

/-! ## The operands that the host prepares -/

def flatX (x : FVec Ideal S2x16384x1024 .f32) : FVec Ideal S32768x1024 .f32 := shapeCast S32768x1024 x shapeCasts_S2x16384x1024_S32768x1024
def rowOf (x : FVec Ideal S4x3x1024 .f32) : FVec Ideal S1x1024 .f32 :=
  shapeCast S1x1024 (shapeCast S1024 (extractStridedSlice S1x1x1024 ![0, 0, 0] x slices_S4x3x1024_S1x1x1024_0_0_0 : FVec Ideal S1x1x1024 .f32) shapeCasts_S1x1x1024_S1024 : FVec Ideal S1024 .f32) shapeCasts_S1024_S1x1024

theorem flatX_apply (x : FVec Ideal S2x16384x1024 .f32) (r : Fin 32768) (j : Fin 1024) : flatX x (ix2 r j) = x (ix3 ⟨r.val / 16384, by omega⟩ ⟨r.val % 16384, by omega⟩ j) := by
  pointwise [flatX]
theorem rowOf_apply (x : FVec Ideal S4x3x1024 .f32) (j : Fin 1024) : rowOf x (ix2 0 j) = x (ix3 0 0 j) := by pointwise [rowOf]

theorem host_x : V m c main_v0 = flatX (m (c, main_arg0)) := by
  unfold V hostOps0; after_results; rfl
theorem host_g : V m c main_v5 = rowOf (m (c, main_arg2)) := by
  unfold V hostOps0; after_results; rfl
theorem host_wi (i : S4x2x1024x5632.Idx) : (V m c main_v3 : FVec Ideal S4x2x1024x5632 .bf16) i = (m (c, main_arg3) : FVec Ideal S4x2x1024x5632 .f32) i := by
  unfold V hostOps0; after_results; rfl
theorem host_wo (i : S4x2x2816x1024.Idx) : (V m c main_v4 : FVec Ideal S4x2x2816x1024 .bf16) i = (m (c, main_arg4) : FVec Ideal S4x2x2816x1024 .f32) i := by
  unfold V hostOps0; after_results; rfl

/-! ## The blocks in the arguments -/

theorem x_at (r k : Fin 1024) : (iblk m c 0 t : Vec Ideal S1024x1024 .f32) (ix2 r k) = (m (c, main_arg0) : FVec Ideal S2x16384x1024 .f32)
    (ix3 ⟨(1024 * t.val + r.val) / 16384, by have := lt_points t; omega⟩ ⟨(1024 * t.val + r.val) % 16384, by omega⟩ k) :=
  (iblk_x m c t r k).trans ((congrFun (host_x m c) _).trans (flatX_apply _ _ _))

theorem mods_at (r : Fin 1024) (n : Fin 9) (k : Fin 1024) : (iblk m c 1 t : Vec Ideal S1x9x1024 .f32) (ix3 0 n k)
    = (m (c, main_arg1) : FVec Ideal S2x9x1024 .f32) (ix3 ⟨(1024 * t.val + r.val) / 16384, by have := lt_points t; omega⟩ n k) := by
  have ht := lt_points t
  have hr := r.isLt
  refine (iblk_mods m c t n k).trans ((congrFun (V_main_arg1 m c) _).trans ?_)
  exact congrArg (fun a => (m (c, main_arg1) : FVec Ideal S2x9x1024 .f32) (ix3 a n k)) (Fin.ext (by show t.val / 16 = (1024 * t.val + r.val) / 16384; omega))

theorem g_at (k : Fin 1024) : (iblk m c 2 t : Vec Ideal S1x1024 .f32) (ix2 0 k) = (m (c, main_arg2) : FVec Ideal S4x3x1024 .f32) (ix3 0 0 k) :=
  (iblk_g m c t k).trans ((congrFun (host_g m c) _).trans (rowOf_apply _ _))

theorem wi_at (k : Fin 1024) (f : Fin 5632) : (iblk m c 3 t : Vec Ideal S1x1x1024x5632 .bf16) (ix4 0 0 k f) = (m (c, main_arg3) : FVec Ideal S4x2x1024x5632 .f32) (ix4 0 0 k f) :=
  (iblk_wi m c t k f).trans (host_wi m c _)

theorem wo_at (f : Fin 2816) (k : Fin 1024) : (iblk m c 4 t : Vec Ideal S1x1x2816x1024 .bf16) (ix4 0 0 f k) = (m (c, main_arg4) : FVec Ideal S4x2x2816x1024 .f32) (ix4 0 0 f k) :=
  (iblk_wo m c t f k).trans (host_wo m c _)

/-! ## The result -/

/-- The half step of every row of the arguments. -/
def resultOf : S32768x1024.Idx → EReal := fun i =>
  Cert.Reference2Ideal.Ffn.result (m (c, main_arg0)) (m (c, main_arg1)) (m (c, main_arg2)) (m (c, main_arg3)) (m (c, main_arg4))
    ⟨(i 0).val / 16384, by have : (i 0).val < 32768 := (i 0).isLt; omega⟩ ⟨(i 0).val % 16384, by omega⟩ (i 1)

theorem block_at (r j : Fin 1024) : blockV (iblk m c 0 t) (iblk m c 1 t) (iblk m c 2 t) (iblk m c 3 t) (iblk m c 4 t) (ix2 r j)
    = resultOf m c (ix2 ⟨1024 * t.val + r.val, by have := lt_points t; omega⟩ j) := by
  rw [block_apply]
  simp only [x_at, mods_at m c t r, g_at, wi_at, wo_at]
  rfl

theorem result_eq : (dats m 0 c).arrAt 5 cfg0.N = resultOf m c := by
  refine Dat.arrAt_eq_of_cover (dats m 0 c) 5 (resultOf m c) (fun t _ => ?_) fun i => ?_
  · funext y
    obtain ⟨r, j, rfl⟩ : ∃ (r j : Fin 1024), y = (ix2 r j : S1024x1024.Idx) := ⟨y 0, y 1, funext fun a => by fin_cases a <;> rfl⟩
    refine (congrFun (Value.flushed5_A m c t) _).trans ?_
    refine (congrFun (out_eq ..) (ix2 r j)).trans ?_
    refine (block_at m c t r j).trans ?_
    exact congrArg (resultOf m c) (oblk t r j).symm
  · obtain ⟨q, j, rfl⟩ : ∃ (q : Fin 32768) (j : Fin 1024), i = (ix2 q j : S32768x1024.Idx) := ⟨i 0, i 1, funext fun a => by fin_cases a <;> rfl⟩
    have hq := q.isLt
    refine ⟨⟨q.val / 1024, by show _ < 32; omega⟩, flush0_5 _, ?_⟩
    have e := oblk ⟨q.val / 1024, by show _ < 32; omega⟩ ⟨q.val % 1024, by omega⟩ j
    have e' : (ix2 ⟨1024 * (q.val / 1024) + q.val % 1024, by omega⟩ j : S32768x1024.Idx) = ix2 q j := congrArg (fun a => (ix2 a j : S32768x1024.Idx)) (Fin.ext (by show 1024 * (q.val / 1024) + q.val % 1024 = q.val; omega))
    exact (e.trans e') ▸ View.emb_mem_set _ _

end Blocks

end Cert.Kernel2Ideal.Ffn

end
-- ==== Proof.Ffn3.lean ====
/- The half step after the output projection: what one point leaves in its block of rows. -/
module

public import proofs.«01_k».proof.Proof.FfnValue
public import proofs.«01_k».proof.Proof.Gen.Kernel3Ideal.Value

@[expose] public section

set_option maxRecDepth 16384

noncomputable section

namespace Cert.Kernel3Ideal.Ffn

open Cert.Kernel3Ideal Cert.Kernel3Ideal.Gen Cert.Ffn
open Idealize.ShloMosaic Idealize.ShloMosaic.TcCoe Idealize.ShloMosaic.Tactic
open Cert.Kernel2Ideal.Ffn (hidV chunk_eq z2 z4)

/-! ## The body's values at a position -/

/-- The rows plus the gated projection. -/
theorem pay2_apply (x : Vec Ideal S1024x1024 .f32) (o w : Vec Ideal S1024x1024 .bf16) (g : Vec Ideal S1x1x1024 .f32) (r k : Fin 1024) :
    k0_pay2 x o w g (ix2 r k) = mixed (fun k => x (ix2 r k)) (fun k => g (ix3 0 0 k)) (fun k => o (ix2 r k)) (fun k j => w (ix2 k j)) k := by
  unfold mixed
  pointwise [k0_pay2]

/-- Their norm. -/
theorem pay5_apply (x : Vec Ideal S1024x1024 .f32) (o w : Vec Ideal S1024x1024 .bf16) (g : Vec Ideal S1x1x1024 .f32) (ng : Vec Ideal S1x1024 .f32) (r k : Fin 1024) :
    k0_pay5 x o w g ng (ix2 r k) = rms (fun k => k0_pay2 x o w g (ix2 r k)) (fun k => ng (ix2 0 k)) k := by
  unfold rms k0_pay5
  generalize k0_pay2 x o w g = y
  pointwise []

theorem pay3_apply (g : Vec Ideal S1x1x1024 .f32) (j : Fin 1024) : k0_pay3 g (ix2 0 j) = g (ix3 0 0 j) := by pointwise [k0_pay3]
theorem pay4_apply (g : Vec Ideal S1x1x1024 .f32) (j : Fin 1024) : k0_pay4 g (ix2 0 j) = g (ix3 0 0 j) := by pointwise [k0_pay4]
theorem pay6_apply (g : Vec Ideal S1x1x1024 .f32) (j : Fin 1024) : k0_pay6 g (ix2 0 j) = Ideal.ofBits .f32 0x3F800000#32 + g (ix3 0 0 j) := by pointwise [k0_pay6]

/-- The norm scaled and shifted. -/
theorem pay7_apply (sh : FVec Ideal S1x1024 .f32) (y : FVec Ideal S1024x1024 .f32) (sc : FVec Ideal S1x1024 .f32) (r k : Fin 1024) :
    k0_pay7 sh y sc (ix2 r k) = y (ix2 r k) * sc (ix2 0 k) + sh (ix2 0 k) := by
  pointwise [k0_pay7]

theorem payW_apply (w : Vec Ideal S1x1x2816x1024 .bf16) (f : Fin 2816) (j : Fin 1024) : k0_pay21 w (ix2 f j) = w (ix4 0 0 f j) := by pointwise [k0_pay21]

/-- The rows plus the gated output, and the final norm. -/
theorem pay1_apply (x : FVec Ideal S1024x1024 .f32) (g : FVec Ideal S1x1024 .f32) (a : Vec Ideal S1024x2816 .bf16) (w : FVec Ideal S2816x1024 .bf16) (fg : Vec Ideal S1x1024 .f32) (r j : Fin 1024) :
    k0_pay1 x g a w fg (ix2 r j)
      = rms (fun k => x (ix2 r k) + Ideal.ofBits .f32 0x3F000000#32 * g (ix2 0 k) * ∑ f : Fin 2816, a (ix2 r f) * w (ix2 f k)) (fun k => fg (ix2 0 k)) j := by
  unfold rms
  pointwise [k0_pay1]

/-! ## The block that a point leaves -/

/-- A row of the modulation block. -/
def modsRow (x1 : Vec Ideal S1x9x1024 .f32) (n : Fin 9) (inb : ∀ a, (![0, n.val, 0] : Fin 3 → ℕ) a + S1x1x1024.size a ≤ S1x9x1024.size a) : Vec Ideal S1x1x1024 .f32 :=
  View.ld x1 (Rect.unit (s := S1x9x1024) ![0, n.val, 0] S1x1x1024.size inb)

/-- The modulated norm of the rows plus the projection. -/
def normedV (x0 : Vec Ideal S1024x1024 .f32) (x1 : Vec Ideal S1x9x1024 .f32) (x2 : Vec Ideal S1x1024 .f32) (x5 x6 : Vec Ideal S1024x1024 .bf16) : FVec Ideal S1024x1024 .bf16 :=
  k0_pay7 (k0_pay3 (modsRow x1 6 inb_S1x9x1024_S1x1x1024_0_6_0)) (k0_pay5 x0 x5 x6 (modsRow x1 5 inb_S1x9x1024_S1x1x1024_0_5_0) x2)
    (k0_pay6 (modsRow x1 7 inb_S1x9x1024_S1x1x1024_0_7_0))

def blockV (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x1024 .bf16) (x7 : Vec Ideal S1x1024 .f32) : Vec Ideal S1024x1024 .f32 :=
  k0_pay1 (k0_pay2 x0 x5 x6 (modsRow x1 5 inb_S1x9x1024_S1x1x1024_0_5_0)) (k0_pay4 (modsRow x1 8 inb_S1x9x1024_S1x1x1024_0_8_0)) (hidV (normedV x0 x1 x2 x5 x6) x3) (k0_pay21 x4) x7

set_option maxHeartbeats 4000000 in
theorem out_eq (c : Dev nD) (i : grid0.Coords) (arg1 : Memref sig .tc .vmem S1024x1024 .f32) (harg1 : arg1.IsWhole) (arg2 : Memref sig .tc .vmem S1x9x1024 .f32) (harg2 : arg2.IsWhole)
    (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16)
    (harg5 : arg5.IsWhole) (arg6 : Memref sig .tc .vmem S1024x1024 .bf16) (harg6 : arg6.IsWhole) (arg7 : Memref sig .tc .vmem S1024x1024 .bf16) (harg7 : arg7.IsWhole)
    (arg8 : Memref sig .tc .vmem S1x1024 .f32) (harg8 : arg8.IsWhole) (arg9 : Memref sig .tc .vmem S1024x1024 .f32) (harg9 : arg9.IsWhole) (arg10 : Memref sig .tc .vmem S1024x2816 .bf16) (harg10 : arg10.IsWhole)
    (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x1024 .bf16) (x7 : Vec Ideal S1x1024 .f32) :
    out0_A_8 c i arg1 harg1 arg2 harg2 arg3 harg3 arg4 harg4 arg5 harg5 arg6 harg6 arg7 harg7 arg8 harg8 arg9 harg9 arg10 harg10 x0 x1 x2 x3 x4 x5 x6 x7 = blockV x0 x1 x2 x3 x4 x5 x6 x7 := by
  unfold out0_A_8 kernelRun0_A
  dsimp only
  sl_unfold_words
  rw [View.read_writes_junk_eq_canon]
  refine (View.canon_unit_zero z2 _ _).trans ?_
  rw [View.readCov_eq_canon']
  simp only [View.readAt_eq_ld, harg1.read_unread, harg2.read_unread, harg3.read_unread, harg4.read_unread, harg5.read_unread, harg6.read_unread, harg7.read_unread, harg8.read_unread]
  unfold blockV
  have l0 : ∀ {e : EltTy} (x : Vec Ideal S1024x1024 e) inb, View.ld x (Rect.unit (s := S1024x1024) ![0, 0] S1024x1024.size inb) = x := fun x inb => View.ld_unit_zero z2 inb x
  have l2 : ∀ (x : Vec Ideal S1x1024 .f32) inb, View.ld x (Rect.unit (s := S1x1024) ![0, 0] S1x1024.size inb) = x := fun x inb => View.ld_unit_zero z2 inb x
  have l4 : ∀ inb, View.ld x4 (Rect.unit (s := S1x1x2816x1024) ![0, 0, 0, 0] ![1, 1, 2816, 1024] inb) = x4 := fun inb => View.ld_unit_zero z4 inb x4
  simp only [l0, l2, l4]
  refine congrArg (fun a => k0_pay1 _ _ a _ _) ?_
  funext j
  obtain ⟨r, f, rfl⟩ : ∃ (r : Fin 1024) (f : Fin 2816), j = ix2 r f := ⟨j 0, j 1, funext fun a => by fin_cases a <;> rfl⟩
  refine (View.canon_apply_of_pieces (hidV (normedV x0 x1 x2 x5 x6) x3) _ ?_ _ ?_).trans ?_
  · intro p hp
    simp only [List.mem_cons, List.not_mem_nil, or_false] at hp
    rcases hp with rfl | rfl | rfl | rfl | rfl | rfl | rfl | rfl | rfl | rfl | rfl
    · exact chunk_eq _ x3 2560 inb_S1024x2816_S1024x256_0_2560 inb_S1x1x1024x5632_S1x1x1024x256_0_0_0_2560 inb_S1x1x1024x5632_S1x1x1024x256_0_0_0_5376
    · exact chunk_eq _ x3 2304 inb_S1024x2816_S1024x256_0_2304 inb_S1x1x1024x5632_S1x1x1024x256_0_0_0_2304 inb_S1x1x1024x5632_S1x1x1024x256_0_0_0_5120
    · exact chunk_eq _ x3 2048 inb_S1024x2816_S1024x256_0_2048 inb_S1x1x1024x5632_S1x1x1024x256_0_0_0_2048 inb_S1x1x1024x5632_S1x1x1024x256_0_0_0_4864
    · exact chunk_eq _ x3 1792 inb_S1024x2816_S1024x256_0_1792 inb_S1x1x1024x5632_S1x1x1024x256_0_0_0_1792 inb_S1x1x1024x5632_S1x1x1024x256_0_0_0_4608
    · exact chunk_eq _ x3 1536 inb_S1024x2816_S1024x256_0_1536 inb_S1x1x1024x5632_S1x1x1024x256_0_0_0_1536 inb_S1x1x1024x5632_S1x1x1024x256_0_0_0_4352
    · exact chunk_eq _ x3 1280 inb_S1024x2816_S1024x256_0_1280 inb_S1x1x1024x5632_S1x1x1024x256_0_0_0_1280 inb_S1x1x1024x5632_S1x1x1024x256_0_0_0_4096
    · exact chunk_eq _ x3 1024 inb_S1024x2816_S1024x256_0_1024 inb_S1x1x1024x5632_S1x1x1024x256_0_0_0_1024 inb_S1x1x1024x5632_S1x1x1024x256_0_0_0_3840
    · exact chunk_eq _ x3 768 inb_S1024x2816_S1024x256_0_768 inb_S1x1x1024x5632_S1x1x1024x256_0_0_0_768 inb_S1x1x1024x5632_S1x1x1024x256_0_0_0_3584
    · exact chunk_eq _ x3 512 inb_S1024x2816_S1024x256_0_512 inb_S1x1x1024x5632_S1x1x1024x256_0_0_0_512 inb_S1x1x1024x5632_S1x1x1024x256_0_0_0_3328
    · exact chunk_eq _ x3 256 inb_S1024x2816_S1024x256_0_256 inb_S1x1x1024x5632_S1x1x1024x256_0_0_0_256 inb_S1x1x1024x5632_S1x1x1024x256_0_0_0_3072
    · exact chunk_eq _ x3 0 inb_S1024x2816_S1024x256_0_0 inb_S1x1x1024x5632_S1x1x1024x256_0_0_0_0 inb_S1x1x1024x5632_S1x1x1024x256_0_0_0_2816
  · exact View.cover_of_tiledL (s := S1024x2816) _ S1024x256.size (by sl_kernel_rfl) _
  · exact congrArg (hidV _ x3) (funext fun a => Fin.ext (by fin_cases a <;> simp [Rect.emb_apply]))

/-! ## The block at a position -/

theorem modsRow_apply (x : Vec Ideal S1x9x1024 .f32) (n : Fin 9) (inb : ∀ a, (![0, n.val, 0] : Fin 3 → ℕ) a + S1x1x1024.size a ≤ S1x9x1024.size a) (k : Fin 1024) : modsRow x n inb (ix3 0 0 k) = x (ix3 0 n k) :=
  Cert.Kernel2Ideal.Ffn.row_apply x n inb k

theorem mixed_at (x0 : Vec Ideal S1024x1024 .f32) (x1 : Vec Ideal S1x9x1024 .f32) (x5 x6 : Vec Ideal S1024x1024 .bf16) (r k : Fin 1024) : k0_pay2 x0 x5 x6 (modsRow x1 5 inb_S1x9x1024_S1x1x1024_0_5_0) (ix2 r k)
    = mixed (fun k => x0 (ix2 r k)) (fun k => x1 (ix3 0 5 k)) (fun k => x5 (ix2 r k)) (fun k j => x6 (ix2 k j)) k := by
  rw [pay2_apply]; simp only [modsRow_apply]

theorem normed_at (x0 : Vec Ideal S1024x1024 .f32) (x1 : Vec Ideal S1x9x1024 .f32) (x2 : Vec Ideal S1x1024 .f32) (x5 x6 : Vec Ideal S1024x1024 .bf16) (r k : Fin 1024) : normedV x0 x1 x2 x5 x6 (ix2 r k)
    = modulated (mixed (fun k => x0 (ix2 r k)) (fun k => x1 (ix3 0 5 k)) (fun k => x5 (ix2 r k)) (fun k j => x6 (ix2 k j))) (fun k => x2 (ix2 0 k)) (fun k => x1 (ix3 0 7 k)) (fun k => x1 (ix3 0 6 k)) k := by
  unfold modulated normedV
  rw [pay7_apply, pay5_apply, pay3_apply, pay6_apply]
  simp only [mixed_at, modsRow_apply]

theorem block_apply (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x1024 .bf16) (x7 : Vec Ideal S1x1024 .f32) (r j : Fin 1024) : blockV x0 x1 x2 x3 x4 x5 x6 x7 (ix2 r j)
      = rms (halfStep (mixed (fun k => x0 (ix2 r k)) (fun k => x1 (ix3 0 5 k)) (fun k => x5 (ix2 r k)) (fun k j => x6 (ix2 k j))) (fun k => x2 (ix2 0 k)) (fun k => x1 (ix3 0 7 k)) (fun k => x1 (ix3 0 6 k))
          (fun k => x1 (ix3 0 8 k)) (fun k f => x3 (ix4 0 0 k f)) (fun f k => x4 (ix4 0 0 f k))) (fun k => x7 (ix2 0 k)) j := by
  unfold blockV
  rw [pay1_apply]
  refine congrArg (fun z => rms z (fun k => x7 (ix2 0 k)) j) (funext fun k => ?_)
  unfold halfStep
  rw [mixed_at, pay4_apply, modsRow_apply]
  refine congrArg (fun s => _ + _ * s) (Finset.sum_congr rfl fun f _ => congrArg₂ (fun a b => a * b) ?_ (payW_apply x4 f k))
  exact congrArg (fun h => hiddenAt h (fun k f => x3 (ix4 0 0 k f)) f) (funext (normed_at x0 x1 x2 x5 x6 r))

end Cert.Kernel3Ideal.Ffn

end
-- ==== Proof.Ref3.lean ====
/- The reference's last half step: every entry is the norm of the half step of the row plus its projection. -/
module

public import proofs.«01_k».proof.Proof.Ref2
public import proofs.«01_k».proof.Proof.Gen.Reference3Ideal.Run

@[expose] public section

set_option maxRecDepth 16384

noncomputable section

namespace Cert.Reference3Ideal.Ffn

open Cert.Reference3Ideal Cert.Reference3Ideal.Gen Cert.Ffn
open Idealize.ShloMosaic Idealize.ShloMosaic.TcCoe
open Cert.Reference2Ideal.Ffn (normOf stepOf spread lift flat step_apply norm_apply flat_apply)

/-- The rows plus the gated projection. -/
def plusProj (x : FVec Ideal S2x16384x1024 .f32) (g : FVec Ideal S2x1024 .f32) (o : FVec Ideal S2x16384x1024 .bf16) (w : FVec Ideal S1024x1024 .f32) : FVec Ideal S2x16384x1024 .f32 :=
  addf x (mulf (spread (lift g)) (Host.dotGeneral (φ₁ := .f32) (φ₂ := .f32) dot_S2x16384x1024_S1024x1024_S2x16384x1024_2_0_01_1_n_n none (extf .f32 o bitsLt_bf16_f32) w))

theorem proj_apply (x : FVec Ideal S2x16384x1024 .f32) (g : FVec Ideal S2x1024 .f32) (o : FVec Ideal S2x16384x1024 .bf16) (w : FVec Ideal S1024x1024 .f32) (b : Fin 2) (t : Fin 16384) (j : Fin 1024) :
    plusProj x g o w (ix3 b t j) = mixed (fun k => x (ix3 b t k)) (fun k => g (ix2 b k)) (fun k => o (ix3 b t k)) (fun k j => w (ix2 k j)) j := by
  unfold mixed
  pointwise [plusProj, spread, lift]

def rowG (x : FVec Ideal S4x3x1024 .f32) : FVec Ideal S1024 .f32 := shapeCast S1024 (extractStridedSlice S1x1x1024 ![3, 2, 0] x slices_S4x3x1024_S1x1x1024_3_2_0) shapeCasts_S1x1x1024_S1024
def row5 (x : FVec Ideal S2x9x1024 .f32) : FVec Ideal S2x1024 .f32 := shapeCast S2x1024 (extractStridedSlice S2x1x1024 ![0, 5, 0] x slices_S2x9x1024_S2x1x1024_0_5_0) shapeCasts_S2x1x1024_S2x1024
def row6 (x : FVec Ideal S2x9x1024 .f32) : FVec Ideal S2x1024 .f32 := shapeCast S2x1024 (extractStridedSlice S2x1x1024 ![0, 6, 0] x slices_S2x9x1024_S2x1x1024_0_6_0) shapeCasts_S2x1x1024_S2x1024
def row7 (x : FVec Ideal S2x9x1024 .f32) : FVec Ideal S2x1024 .f32 := shapeCast S2x1024 (extractStridedSlice S2x1x1024 ![0, 7, 0] x slices_S2x9x1024_S2x1x1024_0_7_0) shapeCasts_S2x1x1024_S2x1024
def row8 (x : FVec Ideal S2x9x1024 .f32) : FVec Ideal S2x1024 .f32 := shapeCast S2x1024 (extractStridedSlice S2x1x1024 ![0, 8, 0] x slices_S2x9x1024_S2x1x1024_0_8_0) shapeCasts_S2x1x1024_S2x1024
def wiOf (x : FVec Ideal S4x2x1024x5632 .f32) : FVec Ideal S1024x5632 .f32 :=
  shapeCast S1024x5632 (extractStridedSlice S1x1x1024x5632 ![3, 1, 0, 0] x slices_S4x2x1024x5632_S1x1x1024x5632_3_1_0_0) shapeCasts_S1x1x1024x5632_S1024x5632
def woOf (x : FVec Ideal S4x2x2816x1024 .f32) : FVec Ideal S2816x1024 .f32 :=
  shapeCast S2816x1024 (extractStridedSlice S1x1x2816x1024 ![3, 1, 0, 0] x slices_S4x2x2816x1024_S1x1x2816x1024_3_1_0_0) shapeCasts_S1x1x2816x1024_S2816x1024
def wmOf (x : FVec Ideal S2x1024x1024 .f32) : FVec Ideal S1024x1024 .f32 :=
  shapeCast S1024x1024 (extractStridedSlice S1x1024x1024 ![1, 0, 0] x slices_S2x1024x1024_S1x1024x1024_1_0_0) shapeCasts_S1x1024x1024_S1024x1024

theorem result_stages (m : (ℓ : Loc nD τ sig) → Buf (Elt Ideal) ℓ) (c : Dev nD) :
    Value.res_main_v68 (F := Ideal) m c = flat (normOf (stepOf (plusProj (m (c, main_arg0)) (row5 (m (c, main_arg1))) (m (c, main_arg6)) (wmOf (m (c, main_arg7))))
      (rowG (m (c, main_arg2))) (row7 (m (c, main_arg1))) (row6 (m (c, main_arg1))) (row8 (m (c, main_arg1))) (wiOf (m (c, main_arg3))) (woOf (m (c, main_arg4)))) (m (c, main_arg5))) := by
  unfold Value.res_main_v68
  rfl

theorem rowG_apply (x : FVec Ideal S4x3x1024 .f32) (j : Fin 1024) : rowG x (ix1 j) = x (ix3 3 2 j) := by pointwise [rowG]
theorem row5_apply (x : FVec Ideal S2x9x1024 .f32) (b : Fin 2) (j : Fin 1024) : row5 x (ix2 b j) = x (ix3 b 5 j) := by pointwise [row5]
theorem row6_apply (x : FVec Ideal S2x9x1024 .f32) (b : Fin 2) (j : Fin 1024) : row6 x (ix2 b j) = x (ix3 b 6 j) := by pointwise [row6]
theorem row7_apply (x : FVec Ideal S2x9x1024 .f32) (b : Fin 2) (j : Fin 1024) : row7 x (ix2 b j) = x (ix3 b 7 j) := by pointwise [row7]
theorem row8_apply (x : FVec Ideal S2x9x1024 .f32) (b : Fin 2) (j : Fin 1024) : row8 x (ix2 b j) = x (ix3 b 8 j) := by pointwise [row8]
theorem wi_apply (x : FVec Ideal S4x2x1024x5632 .f32) (k : Fin 1024) (f : Fin 5632) : wiOf x (ix2 k f) = x (ix4 3 1 k f) := by pointwise [wiOf]
theorem wo_apply (x : FVec Ideal S4x2x2816x1024 .f32) (f : Fin 2816) (k : Fin 1024) : woOf x (ix2 f k) = x (ix4 3 1 f k) := by pointwise [woOf]
theorem wm_apply (x : FVec Ideal S2x1024x1024 .f32) (k j : Fin 1024) : wmOf x (ix2 k j) = x (ix3 1 k j) := by pointwise [wmOf]

/-- The last half step and the final norm, at every position. -/
def result (a0 : FVec Ideal S2x16384x1024 .f32) (a1 : FVec Ideal S2x9x1024 .f32) (a2 : FVec Ideal S4x3x1024 .f32) (a3 : FVec Ideal S4x2x1024x5632 .f32) (a4 : FVec Ideal S4x2x2816x1024 .f32)
    (a5 : FVec Ideal S1024 .f32) (a6 : FVec Ideal S2x16384x1024 .bf16) (a7 : FVec Ideal S2x1024x1024 .f32) (b : Fin 2) (t : Fin 16384) (j : Fin 1024) : EReal :=
  rms (halfStep (mixed (fun k => a0 (ix3 b t k)) (fun k => a1 (ix3 b 5 k)) (fun k => a6 (ix3 b t k)) (fun k j => a7 (ix3 1 k j))) (fun k => a2 (ix3 3 2 k)) (fun k => a1 (ix3 b 7 k)) (fun k => a1 (ix3 b 6 k))
    (fun k => a1 (ix3 b 8 k)) (fun k f => a3 (ix4 3 1 k f)) (fun f k => a4 (ix4 3 1 f k))) (fun k => a5 (ix1 k)) j

theorem result_apply (m : (ℓ : Loc nD τ sig) → Buf (Elt Ideal) ℓ) (c : Dev nD) (r : Fin 32768) (j : Fin 1024) :
    (Value.res_main_v68 (F := Ideal) m c : FVec Ideal S32768x1024 .f32) (ix2 r j)
      = result (m (c, main_arg0)) (m (c, main_arg1)) (m (c, main_arg2)) (m (c, main_arg3)) (m (c, main_arg4)) (m (c, main_arg5)) (m (c, main_arg6)) (m (c, main_arg7))
          ⟨r.val / 16384, by omega⟩ ⟨r.val % 16384, by omega⟩ j := by
  rw [result_stages, flat_apply, norm_apply]
  unfold result
  simp only [step_apply, proj_apply, rowG_apply, row5_apply, row6_apply, row7_apply, row8_apply, wi_apply, wo_apply, wm_apply]

end Cert.Reference3Ideal.Ffn

end
-- ==== Proof.FfnValue3.lean ====
/- The last half step: every entry of the result is the norm of the half step of its row and projection. -/
module

public import proofs.«01_k».proof.Proof.Ffn3
public import proofs.«01_k».proof.Proof.Ref3

@[expose] public section

set_option maxRecDepth 16384

noncomputable section

namespace Cert.Kernel3Ideal.Ffn

open Cert.Kernel3Ideal Cert.Kernel3Ideal.Gen Cert.Ffn
open Idealize.ShloMosaic Idealize.ShloMosaic.TcCoe Idealize.ShloMosaic.StableHlo
open Idealize.ShloMosaic.Pipeline (Dat Cfg Window)
open Cert.Kernel2Ideal.Ffn (flatX flatX_apply)

/-! ## The blocks -/

theorem index_val : ∀ t : Fin grid0.N, win0_0.index t 0 = t.val ∧ win0_0.index t 1 = 0 ∧ win0_1.index t 0 = t.val / 16 ∧ win0_1.index t 1 = 0 ∧ win0_1.index t 2 = 0
    ∧ win0_5.index t 0 = t.val ∧ win0_5.index t 1 = 0 ∧ win0_8.index t 0 = t.val ∧ win0_8.index t 1 = 0 := by decide +kernel

section Blocks

variable (m : (ℓ : Loc nD τ sig) → Buf (Elt Ideal) ℓ) (c : Dev nD) (t : Fin cfg0.N)

theorem lt_points : t.val < 32 := t.isLt

theorem iblk_x (r k : Fin 1024) : (iblk m c 0 t : Vec Ideal S1024x1024 .f32) (ix2 r k) = (V m c main_v0 : FVec Ideal S32768x1024 .f32) (ix2 ⟨1024 * t.val + r.val, by have := lt_points t; omega⟩ k) := by
  obtain ⟨h0, h1, -⟩ := index_val t
  refine congrArg (V m c main_v0) (funext fun a => Fin.ext ?_)
  refine (Window.rect_emb_val (cfg0.win 0) t (ix2 r k) a).trans ?_
  fin_cases a
  · show win0_0.index t 0 * 1024 + r.val = 1024 * t.val + r.val; rw [h0]; omega
  · show win0_0.index t 1 * 1024 + k.val = k.val; rw [h1]; omega

theorem iblk_mods (n : Fin 9) (k : Fin 1024) : (iblk m c 1 t : Vec Ideal S1x9x1024 .f32) (ix3 0 n k)
    = (V m c main_arg1 : FVec Ideal S2x9x1024 .f32) (ix3 ⟨t.val / 16, by have := lt_points t; omega⟩ n k) := by
  obtain ⟨-, -, h0, h1, h2, -⟩ := index_val t
  refine congrArg (V m c main_arg1) (funext fun a => Fin.ext ?_)
  refine (Window.rect_emb_val (cfg0.win 1) t (ix3 0 n k) a).trans ?_
  fin_cases a
  · show win0_1.index t 0 * 1 + 0 = t.val / 16; rw [h0]; omega
  · show win0_1.index t 1 * 9 + n.val = n.val; rw [h1]; omega
  · show win0_1.index t 2 * 1024 + k.val = k.val; rw [h2]; omega

theorem iblk_g (k : Fin 1024) : (iblk m c 2 t : Vec Ideal S1x1024 .f32) (ix2 0 k) = (V m c main_v9 : FVec Ideal S1x1024 .f32) (ix2 0 k) := by
  refine congrArg (V m c main_v9) (funext fun a => Fin.ext ?_)
  refine (Window.rect_emb_val (cfg0.win 2) t (ix2 0 k) a).trans ?_
  fin_cases a
  · rfl
  · show 0 * 1024 + k.val = k.val; omega

theorem iblk_wi (k : Fin 1024) (f : Fin 5632) : (iblk m c 3 t : Vec Ideal S1x1x1024x5632 .bf16) (ix4 0 0 k f) = (V m c main_v3 : FVec Ideal S4x2x1024x5632 .bf16) (ix4 3 1 k f) := by
  refine congrArg (V m c main_v3) (funext fun a => Fin.ext ?_)
  refine (Window.rect_emb_val (cfg0.win 3) t (ix4 0 0 k f) a).trans ?_
  fin_cases a
  · rfl
  · rfl
  · show 0 * 1024 + k.val = k.val; omega
  · show 0 * 5632 + f.val = f.val; omega

theorem iblk_wo (f : Fin 2816) (k : Fin 1024) : (iblk m c 4 t : Vec Ideal S1x1x2816x1024 .bf16) (ix4 0 0 f k) = (V m c main_v4 : FVec Ideal S4x2x2816x1024 .bf16) (ix4 3 1 f k) := by
  refine congrArg (V m c main_v4) (funext fun a => Fin.ext ?_)
  refine (Window.rect_emb_val (cfg0.win 4) t (ix4 0 0 f k) a).trans ?_
  fin_cases a
  · rfl
  · rfl
  · show 0 * 2816 + f.val = f.val; omega
  · show 0 * 1024 + k.val = k.val; omega

theorem iblk_o (r k : Fin 1024) : (iblk m c 5 t : Vec Ideal S1024x1024 .bf16) (ix2 r k) = (V m c main_v5 : FVec Ideal S32768x1024 .bf16) (ix2 ⟨1024 * t.val + r.val, by have := lt_points t; omega⟩ k) := by
  obtain ⟨-, -, -, -, -, h0, h1, -⟩ := index_val t
  refine congrArg (V m c main_v5) (funext fun a => Fin.ext ?_)
  refine (Window.rect_emb_val (cfg0.win 5) t (ix2 r k) a).trans ?_
  fin_cases a
  · show win0_5.index t 0 * 1024 + r.val = 1024 * t.val + r.val; rw [h0]; omega
  · show win0_5.index t 1 * 1024 + k.val = k.val; rw [h1]; omega

theorem iblk_wm (k j : Fin 1024) : (iblk m c 6 t : Vec Ideal S1024x1024 .bf16) (ix2 k j) = (V m c main_v8 : FVec Ideal S1024x1024 .bf16) (ix2 k j) := by
  refine congrArg (V m c main_v8) (funext fun a => Fin.ext ?_)
  refine (Window.rect_emb_val (cfg0.win 6) t (ix2 k j) a).trans ?_
  fin_cases a
  · show 0 * 1024 + k.val = k.val; omega
  · show 0 * 1024 + j.val = j.val; omega

theorem iblk_fg (k : Fin 1024) : (iblk m c 7 t : Vec Ideal S1x1024 .f32) (ix2 0 k) = (V m c main_v10 : FVec Ideal S1x1024 .f32) (ix2 0 k) := by
  refine congrArg (V m c main_v10) (funext fun a => Fin.ext ?_)
  refine (Window.rect_emb_val (cfg0.win 7) t (ix2 0 k) a).trans ?_
  fin_cases a
  · rfl
  · show 0 * 1024 + k.val = k.val; omega

theorem oblk (r j : Fin 1024) : ((cfg0.win 8).blk t).view.emb (ix2 r j : S1024x1024.Idx) = (ix2 ⟨1024 * t.val + r.val, by have := lt_points t; omega⟩ j : S32768x1024.Idx) := by
  obtain ⟨-, -, -, -, -, -, -, h0, h1⟩ := index_val t
  refine funext fun a => Fin.ext ?_
  refine (Window.rect_emb_val (cfg0.win 8) t (ix2 r j) a).trans ?_
  fin_cases a
  · show win0_8.index t 0 * 1024 + r.val = 1024 * t.val + r.val; rw [h0]; omega
  · show win0_8.index t 1 * 1024 + j.val = j.val; rw [h1]; omega

/-! ## The operands that the host prepares -/

def rowOf (x : FVec Ideal S4x3x1024 .f32) : FVec Ideal S1x1024 .f32 :=
  shapeCast S1x1024 (shapeCast S1024 (extractStridedSlice S1x1x1024 ![3, 2, 0] x slices_S4x3x1024_S1x1x1024_3_2_0 : FVec Ideal S1x1x1024 .f32) shapeCasts_S1x1x1024_S1024 : FVec Ideal S1024 .f32) shapeCasts_S1024_S1x1024
def asRow (x : FVec Ideal S1024 .f32) : FVec Ideal S1x1024 .f32 := shapeCast S1x1024 x shapeCasts_S1024_S1x1024
def flatO (x : FVec Ideal S2x16384x1024 .bf16) : FVec Ideal S32768x1024 .bf16 := shapeCast S32768x1024 x shapeCasts_S2x16384x1024_S32768x1024
def projOf (x : FVec Ideal S2x1024x1024 .f32) : FVec Ideal S1024x1024 .f32 :=
  shapeCast S1024x1024 (extractStridedSlice S1x1024x1024 ![1, 0, 0] x slices_S2x1024x1024_S1x1024x1024_1_0_0 : FVec Ideal S1x1024x1024 .f32) shapeCasts_S1x1024x1024_S1024x1024

theorem rowOf_apply (x : FVec Ideal S4x3x1024 .f32) (j : Fin 1024) : rowOf x (ix2 0 j) = x (ix3 3 2 j) := by pointwise [rowOf]
theorem asRow_apply (x : FVec Ideal S1024 .f32) (j : Fin 1024) : asRow x (ix2 0 j) = x (ix1 j) := by pointwise [asRow]
theorem flatO_apply (x : FVec Ideal S2x16384x1024 .bf16) (r : Fin 32768) (j : Fin 1024) : flatO x (ix2 r j) = x (ix3 ⟨r.val / 16384, by omega⟩ ⟨r.val % 16384, by omega⟩ j) := by
  pointwise [flatO]
theorem projOf_apply (x : FVec Ideal S2x1024x1024 .f32) (k j : Fin 1024) : projOf x (ix2 k j) = x (ix3 1 k j) := by pointwise [projOf]

theorem host_x : V m c main_v0 = flatX (m (c, main_arg0)) := by
  unfold V hostOps0; after_results; rfl
theorem host_g : V m c main_v9 = rowOf (m (c, main_arg2)) := by
  unfold V hostOps0; after_results; rfl
theorem host_wi (i : S4x2x1024x5632.Idx) : (V m c main_v3 : FVec Ideal S4x2x1024x5632 .bf16) i = (m (c, main_arg3) : FVec Ideal S4x2x1024x5632 .f32) i := by
  unfold V hostOps0; after_results; rfl
theorem host_wo (i : S4x2x2816x1024.Idx) : (V m c main_v4 : FVec Ideal S4x2x2816x1024 .bf16) i = (m (c, main_arg4) : FVec Ideal S4x2x2816x1024 .f32) i := by
  unfold V hostOps0; after_results; rfl
theorem host_o : V m c main_v5 = flatO (m (c, main_arg6)) := by
  unfold V hostOps0; after_results; rfl
theorem host_wm (i : S1024x1024.Idx) : (V m c main_v8 : FVec Ideal S1024x1024 .bf16) i = projOf (m (c, main_arg7)) i := by
  unfold V hostOps0; after_results; rfl
theorem host_fg : V m c main_v10 = asRow (m (c, main_arg5)) := by
  unfold V hostOps0; after_results; rfl

/-! ## The blocks in the arguments -/

theorem x_at (r k : Fin 1024) : (iblk m c 0 t : Vec Ideal S1024x1024 .f32) (ix2 r k) = (m (c, main_arg0) : FVec Ideal S2x16384x1024 .f32)
    (ix3 ⟨(1024 * t.val + r.val) / 16384, by have := lt_points t; omega⟩ ⟨(1024 * t.val + r.val) % 16384, by omega⟩ k) :=
  (iblk_x m c t r k).trans ((congrFun (host_x m c) _).trans (flatX_apply _ _ _))

theorem mods_at (r : Fin 1024) (n : Fin 9) (k : Fin 1024) : (iblk m c 1 t : Vec Ideal S1x9x1024 .f32) (ix3 0 n k)
    = (m (c, main_arg1) : FVec Ideal S2x9x1024 .f32) (ix3 ⟨(1024 * t.val + r.val) / 16384, by have := lt_points t; omega⟩ n k) := by
  have ht := lt_points t
  have hr := r.isLt
  refine (iblk_mods m c t n k).trans ((congrFun (V_main_arg1 m c) _).trans ?_)
  exact congrArg (fun a => (m (c, main_arg1) : FVec Ideal S2x9x1024 .f32) (ix3 a n k)) (Fin.ext (by show t.val / 16 = (1024 * t.val + r.val) / 16384; omega))

theorem g_at (k : Fin 1024) : (iblk m c 2 t : Vec Ideal S1x1024 .f32) (ix2 0 k) = (m (c, main_arg2) : FVec Ideal S4x3x1024 .f32) (ix3 3 2 k) :=
  (iblk_g m c t k).trans ((congrFun (host_g m c) _).trans (rowOf_apply _ _))

theorem wi_at (k : Fin 1024) (f : Fin 5632) : (iblk m c 3 t : Vec Ideal S1x1x1024x5632 .bf16) (ix4 0 0 k f) = (m (c, main_arg3) : FVec Ideal S4x2x1024x5632 .f32) (ix4 3 1 k f) :=
  (iblk_wi m c t k f).trans (host_wi m c _)

theorem wo_at (f : Fin 2816) (k : Fin 1024) : (iblk m c 4 t : Vec Ideal S1x1x2816x1024 .bf16) (ix4 0 0 f k) = (m (c, main_arg4) : FVec Ideal S4x2x2816x1024 .f32) (ix4 3 1 f k) :=
  (iblk_wo m c t f k).trans (host_wo m c _)

theorem o_at (r k : Fin 1024) : (iblk m c 5 t : Vec Ideal S1024x1024 .bf16) (ix2 r k) = (m (c, main_arg6) : FVec Ideal S2x16384x1024 .bf16)
    (ix3 ⟨(1024 * t.val + r.val) / 16384, by have := lt_points t; omega⟩ ⟨(1024 * t.val + r.val) % 16384, by omega⟩ k) :=
  (iblk_o m c t r k).trans ((congrFun (host_o m c) _).trans (flatO_apply _ _ _))

theorem wm_at (k j : Fin 1024) : (iblk m c 6 t : Vec Ideal S1024x1024 .bf16) (ix2 k j) = (m (c, main_arg7) : FVec Ideal S2x1024x1024 .f32) (ix3 1 k j) :=
  (iblk_wm m c t k j).trans ((host_wm m c _).trans (projOf_apply _ _ _))

theorem fg_at (k : Fin 1024) : (iblk m c 7 t : Vec Ideal S1x1024 .f32) (ix2 0 k) = (m (c, main_arg5) : FVec Ideal S1024 .f32) (ix1 k) :=
  (iblk_fg m c t k).trans ((congrFun (host_fg m c) _).trans (asRow_apply _ _))

/-! ## The result -/

/-- The last half step and the final norm of every row of the arguments. -/
def resultOf : S32768x1024.Idx → EReal := fun i =>
  Cert.Reference3Ideal.Ffn.result (m (c, main_arg0)) (m (c, main_arg1)) (m (c, main_arg2)) (m (c, main_arg3)) (m (c, main_arg4)) (m (c, main_arg5)) (m (c, main_arg6)) (m (c, main_arg7))
    ⟨(i 0).val / 16384, by have : (i 0).val < 32768 := (i 0).isLt; omega⟩ ⟨(i 0).val % 16384, by omega⟩ (i 1)

theorem block_at (r j : Fin 1024) : blockV (iblk m c 0 t) (iblk m c 1 t) (iblk m c 2 t) (iblk m c 3 t) (iblk m c 4 t) (iblk m c 5 t) (iblk m c 6 t) (iblk m c 7 t) (ix2 r j)
    = resultOf m c (ix2 ⟨1024 * t.val + r.val, by have := lt_points t; omega⟩ j) := by
  rw [block_apply]
  simp only [x_at, mods_at m c t r, g_at, wi_at, wo_at, o_at, wm_at, fg_at]
  rfl

theorem result_eq : (dats m 0 c).arrAt 8 cfg0.N = resultOf m c := by
  refine Dat.arrAt_eq_of_cover (dats m 0 c) 8 (resultOf m c) (fun t _ => ?_) fun i => ?_
  · funext y
    obtain ⟨r, j, rfl⟩ : ∃ (r j : Fin 1024), y = (ix2 r j : S1024x1024.Idx) := ⟨y 0, y 1, funext fun a => by fin_cases a <;> rfl⟩
    refine (congrFun (Value.flushed8_A m c t) _).trans ?_
    refine (congrFun (out_eq ..) (ix2 r j)).trans ?_
    refine (block_at m c t r j).trans ?_
    exact congrArg (resultOf m c) (oblk t r j).symm
  · obtain ⟨q, j, rfl⟩ : ∃ (q : Fin 32768) (j : Fin 1024), i = (ix2 q j : S32768x1024.Idx) := ⟨i 0, i 1, funext fun a => by fin_cases a <;> rfl⟩
    have hq := q.isLt
    refine ⟨⟨q.val / 1024, by show _ < 32; omega⟩, flush0_8 _, ?_⟩
    have e := oblk ⟨q.val / 1024, by show _ < 32; omega⟩ ⟨q.val % 1024, by omega⟩ j
    have e' : (ix2 ⟨1024 * (q.val / 1024) + q.val % 1024, by omega⟩ j : S32768x1024.Idx) = ix2 q j := congrArg (fun a => (ix2 a j : S32768x1024.Idx)) (Fin.ext (by show 1024 * (q.val / 1024) + q.val % 1024 = q.val; omega))
    exact (e.trans e') ▸ View.emb_mem_set _ _

end Blocks

end Cert.Kernel3Ideal.Ffn

end
-- ==== Proof.Ffn4.lean ====
/- The half step after the output projection, without the final norm: what one point leaves in its block of rows. -/
module

public import proofs.«01_k».proof.Proof.Ffn3
public import proofs.«01_k».proof.Proof.Gen.Kernel4Ideal.Value

@[expose] public section

set_option maxRecDepth 16384

noncomputable section

namespace Cert.Kernel4Ideal.Ffn

open Cert.Kernel4Ideal Cert.Kernel4Ideal.Gen Cert.Ffn
open Idealize.ShloMosaic Idealize.ShloMosaic.TcCoe Idealize.ShloMosaic.Tactic
open Cert.Kernel2Ideal.Ffn (hidV chunk_eq z2 z4)
open Cert.Kernel3Ideal.Ffn (modsRow modsRow_apply normedV normed_at mixed_at)

/-- The block that a point leaves, from its input blocks. -/
def blockV (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x1024 .bf16) : Vec Ideal S1024x1024 .f32 :=
  Cert.Kernel2Ideal.Gen.k0_pay3 (F := Ideal) (Cert.Kernel3Ideal.Gen.k0_pay2 (F := Ideal) x0 x5 x6 (modsRow x1 5 inb_S1x9x1024_S1x1x1024_0_5_0))
    (Cert.Kernel2Ideal.Gen.k0_pay5 (F := Ideal) (modsRow x1 8 inb_S1x9x1024_S1x1x1024_0_8_0)) (hidV (normedV x0 x1 x2 x5 x6) x3) x4

set_option maxHeartbeats 4000000 in
theorem out_eq (c : Dev nD) (i : grid0.Coords) (arg1 : Memref sig .tc .vmem S1024x1024 .f32) (harg1 : arg1.IsWhole) (arg2 : Memref sig .tc .vmem S1x9x1024 .f32) (harg2 : arg2.IsWhole)
    (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16)
    (harg5 : arg5.IsWhole) (arg6 : Memref sig .tc .vmem S1024x1024 .bf16) (harg6 : arg6.IsWhole) (arg7 : Memref sig .tc .vmem S1024x1024 .bf16) (harg7 : arg7.IsWhole)
    (arg8 : Memref sig .tc .vmem S1024x1024 .f32) (harg8 : arg8.IsWhole) (arg9 : Memref sig .tc .vmem S1024x2816 .bf16) (harg9 : arg9.IsWhole)
    (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x1024 .bf16) :
    out0_A_7 c i arg1 harg1 arg2 harg2 arg3 harg3 arg4 harg4 arg5 harg5 arg6 harg6 arg7 harg7 arg8 harg8 arg9 harg9 x0 x1 x2 x3 x4 x5 x6 = blockV x0 x1 x2 x3 x4 x5 x6 := by
  unfold out0_A_7 kernelRun0_A
  dsimp only
  sl_unfold_words
  rw [View.read_writes_junk_eq_canon]
  refine (View.canon_unit_zero z2 _ _).trans ?_
  rw [View.readCov_eq_canon']
  simp only [View.readAt_eq_ld, harg1.read_unread, harg2.read_unread, harg3.read_unread, harg4.read_unread, harg5.read_unread, harg6.read_unread, harg7.read_unread]
  unfold blockV
  have l0 : ∀ {e : EltTy} (x : Vec Ideal S1024x1024 e) inb, View.ld x (Rect.unit (s := S1024x1024) ![0, 0] S1024x1024.size inb) = x := fun x inb => View.ld_unit_zero z2 inb x
  have l2 : ∀ (x : Vec Ideal S1x1024 .f32) inb, View.ld x (Rect.unit (s := S1x1024) ![0, 0] S1x1024.size inb) = x := fun x inb => View.ld_unit_zero z2 inb x
  have l4 : ∀ inb, View.ld x4 (Rect.unit (s := S1x1x2816x1024) ![0, 0, 0, 0] ![1, 1, 2816, 1024] inb) = x4 := fun inb => View.ld_unit_zero z4 inb x4
  simp only [l0, l2, l4]
  refine congrArg (fun a => Cert.Kernel2Ideal.Gen.k0_pay3 (F := Ideal) _ _ a _) ?_
  funext j
  obtain ⟨r, f, rfl⟩ : ∃ (r : Fin 1024) (f : Fin 2816), j = ix2 r f := ⟨j 0, j 1, funext fun a => by fin_cases a <;> rfl⟩
  refine (View.canon_apply_of_pieces (hidV (normedV x0 x1 x2 x5 x6) x3) _ ?_ _ ?_).trans ?_
  · intro p hp
    simp only [List.mem_cons, List.not_mem_nil, or_false] at hp
    rcases hp with rfl | rfl | rfl | rfl | rfl | rfl | rfl | rfl | rfl | rfl | rfl
    · exact chunk_eq _ x3 2560 inb_S1024x2816_S1024x256_0_2560 inb_S1x1x1024x5632_S1x1x1024x256_0_0_0_2560 inb_S1x1x1024x5632_S1x1x1024x256_0_0_0_5376
    · exact chunk_eq _ x3 2304 inb_S1024x2816_S1024x256_0_2304 inb_S1x1x1024x5632_S1x1x1024x256_0_0_0_2304 inb_S1x1x1024x5632_S1x1x1024x256_0_0_0_5120
    · exact chunk_eq _ x3 2048 inb_S1024x2816_S1024x256_0_2048 inb_S1x1x1024x5632_S1x1x1024x256_0_0_0_2048 inb_S1x1x1024x5632_S1x1x1024x256_0_0_0_4864
    · exact chunk_eq _ x3 1792 inb_S1024x2816_S1024x256_0_1792 inb_S1x1x1024x5632_S1x1x1024x256_0_0_0_1792 inb_S1x1x1024x5632_S1x1x1024x256_0_0_0_4608
    · exact chunk_eq _ x3 1536 inb_S1024x2816_S1024x256_0_1536 inb_S1x1x1024x5632_S1x1x1024x256_0_0_0_1536 inb_S1x1x1024x5632_S1x1x1024x256_0_0_0_4352
    · exact chunk_eq _ x3 1280 inb_S1024x2816_S1024x256_0_1280 inb_S1x1x1024x5632_S1x1x1024x256_0_0_0_1280 inb_S1x1x1024x5632_S1x1x1024x256_0_0_0_4096
    · exact chunk_eq _ x3 1024 inb_S1024x2816_S1024x256_0_1024 inb_S1x1x1024x5632_S1x1x1024x256_0_0_0_1024 inb_S1x1x1024x5632_S1x1x1024x256_0_0_0_3840
    · exact chunk_eq _ x3 768 inb_S1024x2816_S1024x256_0_768 inb_S1x1x1024x5632_S1x1x1024x256_0_0_0_768 inb_S1x1x1024x5632_S1x1x1024x256_0_0_0_3584
    · exact chunk_eq _ x3 512 inb_S1024x2816_S1024x256_0_512 inb_S1x1x1024x5632_S1x1x1024x256_0_0_0_512 inb_S1x1x1024x5632_S1x1x1024x256_0_0_0_3328
    · exact chunk_eq _ x3 256 inb_S1024x2816_S1024x256_0_256 inb_S1x1x1024x5632_S1x1x1024x256_0_0_0_256 inb_S1x1x1024x5632_S1x1x1024x256_0_0_0_3072
    · exact chunk_eq _ x3 0 inb_S1024x2816_S1024x256_0_0 inb_S1x1x1024x5632_S1x1x1024x256_0_0_0_0 inb_S1x1x1024x5632_S1x1x1024x256_0_0_0_2816
  · exact View.cover_of_tiledL (s := S1024x2816) _ S1024x256.size (by sl_kernel_rfl) _
  · exact congrArg (hidV _ x3) (funext fun a => Fin.ext (by fin_cases a <;> simp [Rect.emb_apply]))

/-! ## The block at a position -/

theorem block_apply (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x1024 .bf16) (r j : Fin 1024) : blockV x0 x1 x2 x3 x4 x5 x6 (ix2 r j)
      = halfStep (mixed (fun k => x0 (ix2 r k)) (fun k => x1 (ix3 0 5 k)) (fun k => x5 (ix2 r k)) (fun k j => x6 (ix2 k j))) (fun k => x2 (ix2 0 k)) (fun k => x1 (ix3 0 7 k)) (fun k => x1 (ix3 0 6 k))
          (fun k => x1 (ix3 0 8 k)) (fun k f => x3 (ix4 0 0 k f)) (fun f k => x4 (ix4 0 0 f k)) j := by
  refine (Cert.Kernel2Ideal.Ffn.pay3_apply _ _ _ x4 r j).trans ?_
  unfold halfStep
  refine congrArg₂ (· + ·) (mixed_at x0 x1 x5 x6 r j) (congrArg₂ (· * ·) (congrArg (_ * ·) ?_) (Finset.sum_congr rfl fun f _ => congrArg (· * _) ?_))
  · exact (Cert.Kernel2Ideal.Ffn.pay5_apply _ j).trans (modsRow_apply x1 8 _ j)
  · exact congrArg (fun h => hiddenAt h (fun k f => x3 (ix4 0 0 k f)) f) (funext (normed_at x0 x1 x2 x5 x6 r))

end Cert.Kernel4Ideal.Ffn

end
-- ==== Proof.Ref4.lean ====
/- The reference's half step after the output projection of an odd layer: every entry is the half step of the row plus its projection. -/
module

public import proofs.«01_k».proof.Proof.Ref3
public import proofs.«01_k».proof.Proof.Gen.Reference4Ideal.Run

@[expose] public section

set_option maxRecDepth 16384

noncomputable section

namespace Cert.Reference4Ideal.Ffn

open Cert.Reference4Ideal Cert.Reference4Ideal.Gen Cert.Ffn
open Idealize.ShloMosaic Idealize.ShloMosaic.TcCoe
open Cert.Reference2Ideal.Ffn (stepOf flat step_apply flat_apply)
open Cert.Reference3Ideal.Ffn (plusProj proj_apply row5 row6 row7 row8 row5_apply row6_apply row7_apply row8_apply)

def rowG (x : FVec Ideal S4x3x1024 .f32) : FVec Ideal S1024 .f32 := shapeCast S1024 (extractStridedSlice S1x1x1024 ![1, 2, 0] x slices_S4x3x1024_S1x1x1024_1_2_0) shapeCasts_S1x1x1024_S1024
def wiOf (x : FVec Ideal S4x2x1024x5632 .f32) : FVec Ideal S1024x5632 .f32 :=
  shapeCast S1024x5632 (extractStridedSlice S1x1x1024x5632 ![1, 1, 0, 0] x slices_S4x2x1024x5632_S1x1x1024x5632_1_1_0_0) shapeCasts_S1x1x1024x5632_S1024x5632
def woOf (x : FVec Ideal S4x2x2816x1024 .f32) : FVec Ideal S2816x1024 .f32 :=
  shapeCast S2816x1024 (extractStridedSlice S1x1x2816x1024 ![1, 1, 0, 0] x slices_S4x2x2816x1024_S1x1x2816x1024_1_1_0_0) shapeCasts_S1x1x2816x1024_S2816x1024
def wmOf (x : FVec Ideal S2x1024x1024 .f32) : FVec Ideal S1024x1024 .f32 :=
  shapeCast S1024x1024 (extractStridedSlice S1x1024x1024 ![0, 0, 0] x slices_S2x1024x1024_S1x1024x1024_0_0_0) shapeCasts_S1x1024x1024_S1024x1024

theorem result_stages (m : (ℓ : Loc nD τ sig) → Buf (Elt Ideal) ℓ) (c : Dev nD) :
    Value.res_main_v55 (F := Ideal) m c = flat (stepOf (plusProj (m (c, main_arg0)) (row5 (m (c, main_arg1))) (m (c, main_arg5)) (wmOf (m (c, main_arg6))))
      (rowG (m (c, main_arg2))) (row7 (m (c, main_arg1))) (row6 (m (c, main_arg1))) (row8 (m (c, main_arg1))) (wiOf (m (c, main_arg3))) (woOf (m (c, main_arg4)))) := by
  unfold Value.res_main_v55
  rfl

theorem rowG_apply (x : FVec Ideal S4x3x1024 .f32) (j : Fin 1024) : rowG x (ix1 j) = x (ix3 1 2 j) := by pointwise [rowG]
theorem wi_apply (x : FVec Ideal S4x2x1024x5632 .f32) (k : Fin 1024) (f : Fin 5632) : wiOf x (ix2 k f) = x (ix4 1 1 k f) := by pointwise [wiOf]
theorem wo_apply (x : FVec Ideal S4x2x2816x1024 .f32) (f : Fin 2816) (k : Fin 1024) : woOf x (ix2 f k) = x (ix4 1 1 f k) := by pointwise [woOf]
theorem wm_apply (x : FVec Ideal S2x1024x1024 .f32) (k j : Fin 1024) : wmOf x (ix2 k j) = x (ix3 0 k j) := by pointwise [wmOf]

/-- The half step, at every position. -/
def result (a0 : FVec Ideal S2x16384x1024 .f32) (a1 : FVec Ideal S2x9x1024 .f32) (a2 : FVec Ideal S4x3x1024 .f32) (a3 : FVec Ideal S4x2x1024x5632 .f32) (a4 : FVec Ideal S4x2x2816x1024 .f32)
    (a5 : FVec Ideal S2x16384x1024 .bf16) (a6 : FVec Ideal S2x1024x1024 .f32) (b : Fin 2) (t : Fin 16384) (j : Fin 1024) : EReal :=
  halfStep (mixed (fun k => a0 (ix3 b t k)) (fun k => a1 (ix3 b 5 k)) (fun k => a5 (ix3 b t k)) (fun k j => a6 (ix3 0 k j))) (fun k => a2 (ix3 1 2 k)) (fun k => a1 (ix3 b 7 k)) (fun k => a1 (ix3 b 6 k))
    (fun k => a1 (ix3 b 8 k)) (fun k f => a3 (ix4 1 1 k f)) (fun f k => a4 (ix4 1 1 f k)) j

theorem result_apply (m : (ℓ : Loc nD τ sig) → Buf (Elt Ideal) ℓ) (c : Dev nD) (r : Fin 32768) (j : Fin 1024) :
    (Value.res_main_v55 (F := Ideal) m c : FVec Ideal S32768x1024 .f32) (ix2 r j)
      = result (m (c, main_arg0)) (m (c, main_arg1)) (m (c, main_arg2)) (m (c, main_arg3)) (m (c, main_arg4)) (m (c, main_arg5)) (m (c, main_arg6))
          ⟨r.val / 16384, by omega⟩ ⟨r.val % 16384, by omega⟩ j := by
  rw [result_stages, flat_apply]
  unfold result
  simp only [step_apply, proj_apply, rowG_apply, row5_apply, row6_apply, row7_apply, row8_apply, wi_apply, wo_apply, wm_apply]

end Cert.Reference4Ideal.Ffn

end
-- ==== Proof.FfnValue4.lean ====
/- The half step after an odd layer's projection: every entry of the result is the half step of its row and projection. -/
module

public import proofs.«01_k».proof.Proof.Ffn4
public import proofs.«01_k».proof.Proof.FfnValue3
public import proofs.«01_k».proof.Proof.Ref4

@[expose] public section

set_option maxRecDepth 16384

noncomputable section

namespace Cert.Kernel4Ideal.Ffn

open Cert.Kernel4Ideal Cert.Kernel4Ideal.Gen Cert.Ffn
open Idealize.ShloMosaic Idealize.ShloMosaic.TcCoe Idealize.ShloMosaic.StableHlo
open Idealize.ShloMosaic.Pipeline (Dat Cfg Window)
open Cert.Kernel2Ideal.Ffn (flatX flatX_apply)
open Cert.Kernel3Ideal.Ffn (flatO flatO_apply)

/-! ## The blocks -/

theorem index_val : ∀ t : Fin grid0.N, win0_0.index t 0 = t.val ∧ win0_0.index t 1 = 0 ∧ win0_1.index t 0 = t.val / 16 ∧ win0_1.index t 1 = 0 ∧ win0_1.index t 2 = 0
    ∧ win0_5.index t 0 = t.val ∧ win0_5.index t 1 = 0 ∧ win0_7.index t 0 = t.val ∧ win0_7.index t 1 = 0 := by decide +kernel

section Blocks

variable (m : (ℓ : Loc nD τ sig) → Buf (Elt Ideal) ℓ) (c : Dev nD) (t : Fin cfg0.N)

theorem lt_points : t.val < 32 := t.isLt

theorem iblk_x (r k : Fin 1024) : (iblk m c 0 t : Vec Ideal S1024x1024 .f32) (ix2 r k) = (V m c main_v0 : FVec Ideal S32768x1024 .f32) (ix2 ⟨1024 * t.val + r.val, by have := lt_points t; omega⟩ k) := by
  obtain ⟨h0, h1, -⟩ := index_val t
  refine congrArg (V m c main_v0) (funext fun a => Fin.ext ?_)
  refine (Window.rect_emb_val (cfg0.win 0) t (ix2 r k) a).trans ?_
  fin_cases a
  · show win0_0.index t 0 * 1024 + r.val = 1024 * t.val + r.val; rw [h0]; omega
  · show win0_0.index t 1 * 1024 + k.val = k.val; rw [h1]; omega

theorem iblk_mods (n : Fin 9) (k : Fin 1024) : (iblk m c 1 t : Vec Ideal S1x9x1024 .f32) (ix3 0 n k)
    = (V m c main_arg1 : FVec Ideal S2x9x1024 .f32) (ix3 ⟨t.val / 16, by have := lt_points t; omega⟩ n k) := by
  obtain ⟨-, -, h0, h1, h2, -⟩ := index_val t
  refine congrArg (V m c main_arg1) (funext fun a => Fin.ext ?_)
  refine (Window.rect_emb_val (cfg0.win 1) t (ix3 0 n k) a).trans ?_
  fin_cases a
  · show win0_1.index t 0 * 1 + 0 = t.val / 16; rw [h0]; omega
  · show win0_1.index t 1 * 9 + n.val = n.val; rw [h1]; omega
  · show win0_1.index t 2 * 1024 + k.val = k.val; rw [h2]; omega

theorem iblk_g (k : Fin 1024) : (iblk m c 2 t : Vec Ideal S1x1024 .f32) (ix2 0 k) = (V m c main_v9 : FVec Ideal S1x1024 .f32) (ix2 0 k) := by
  refine congrArg (V m c main_v9) (funext fun a => Fin.ext ?_)
  refine (Window.rect_emb_val (cfg0.win 2) t (ix2 0 k) a).trans ?_
  fin_cases a
  · rfl
  · show 0 * 1024 + k.val = k.val; omega

theorem iblk_wi (k : Fin 1024) (f : Fin 5632) : (iblk m c 3 t : Vec Ideal S1x1x1024x5632 .bf16) (ix4 0 0 k f) = (V m c main_v3 : FVec Ideal S4x2x1024x5632 .bf16) (ix4 1 1 k f) := by
  refine congrArg (V m c main_v3) (funext fun a => Fin.ext ?_)
  refine (Window.rect_emb_val (cfg0.win 3) t (ix4 0 0 k f) a).trans ?_
  fin_cases a
  · rfl
  · rfl
  · show 0 * 1024 + k.val = k.val; omega
  · show 0 * 5632 + f.val = f.val; omega

theorem iblk_wo (f : Fin 2816) (k : Fin 1024) : (iblk m c 4 t : Vec Ideal S1x1x2816x1024 .bf16) (ix4 0 0 f k) = (V m c main_v4 : FVec Ideal S4x2x2816x1024 .bf16) (ix4 1 1 f k) := by
  refine congrArg (V m c main_v4) (funext fun a => Fin.ext ?_)
  refine (Window.rect_emb_val (cfg0.win 4) t (ix4 0 0 f k) a).trans ?_
  fin_cases a
  · rfl
  · rfl
  · show 0 * 2816 + f.val = f.val; omega
  · show 0 * 1024 + k.val = k.val; omega

theorem iblk_o (r k : Fin 1024) : (iblk m c 5 t : Vec Ideal S1024x1024 .bf16) (ix2 r k) = (V m c main_v5 : FVec Ideal S32768x1024 .bf16) (ix2 ⟨1024 * t.val + r.val, by have := lt_points t; omega⟩ k) := by
  obtain ⟨-, -, -, -, -, h0, h1, -⟩ := index_val t
  refine congrArg (V m c main_v5) (funext fun a => Fin.ext ?_)
  refine (Window.rect_emb_val (cfg0.win 5) t (ix2 r k) a).trans ?_
  fin_cases a
  · show win0_5.index t 0 * 1024 + r.val = 1024 * t.val + r.val; rw [h0]; omega
  · show win0_5.index t 1 * 1024 + k.val = k.val; rw [h1]; omega

theorem iblk_wm (k j : Fin 1024) : (iblk m c 6 t : Vec Ideal S1024x1024 .bf16) (ix2 k j) = (V m c main_v8 : FVec Ideal S1024x1024 .bf16) (ix2 k j) := by
  refine congrArg (V m c main_v8) (funext fun a => Fin.ext ?_)
  refine (Window.rect_emb_val (cfg0.win 6) t (ix2 k j) a).trans ?_
  fin_cases a
  · show 0 * 1024 + k.val = k.val; omega
  · show 0 * 1024 + j.val = j.val; omega

theorem oblk (r j : Fin 1024) : ((cfg0.win 7).blk t).view.emb (ix2 r j : S1024x1024.Idx) = (ix2 ⟨1024 * t.val + r.val, by have := lt_points t; omega⟩ j : S32768x1024.Idx) := by
  obtain ⟨-, -, -, -, -, -, -, h0, h1⟩ := index_val t
  refine funext fun a => Fin.ext ?_
  refine (Window.rect_emb_val (cfg0.win 7) t (ix2 r j) a).trans ?_
  fin_cases a
  · show win0_7.index t 0 * 1024 + r.val = 1024 * t.val + r.val; rw [h0]; omega
  · show win0_7.index t 1 * 1024 + j.val = j.val; rw [h1]; omega

/-! ## The operands that the host prepares -/

def rowOf (x : FVec Ideal S4x3x1024 .f32) : FVec Ideal S1x1024 .f32 :=
  shapeCast S1x1024 (shapeCast S1024 (extractStridedSlice S1x1x1024 ![1, 2, 0] x slices_S4x3x1024_S1x1x1024_1_2_0 : FVec Ideal S1x1x1024 .f32) shapeCasts_S1x1x1024_S1024 : FVec Ideal S1024 .f32) shapeCasts_S1024_S1x1024
def projOf (x : FVec Ideal S2x1024x1024 .f32) : FVec Ideal S1024x1024 .f32 :=
  shapeCast S1024x1024 (extractStridedSlice S1x1024x1024 ![0, 0, 0] x slices_S2x1024x1024_S1x1024x1024_0_0_0 : FVec Ideal S1x1024x1024 .f32) shapeCasts_S1x1024x1024_S1024x1024

theorem rowOf_apply (x : FVec Ideal S4x3x1024 .f32) (j : Fin 1024) : rowOf x (ix2 0 j) = x (ix3 1 2 j) := by pointwise [rowOf]
theorem projOf_apply (x : FVec Ideal S2x1024x1024 .f32) (k j : Fin 1024) : projOf x (ix2 k j) = x (ix3 0 k j) := by pointwise [projOf]

theorem host_x : V m c main_v0 = flatX (m (c, main_arg0)) := by
  unfold V hostOps0; after_results; rfl
theorem host_g : V m c main_v9 = rowOf (m (c, main_arg2)) := by
  unfold V hostOps0; after_results; rfl
theorem host_wi (i : S4x2x1024x5632.Idx) : (V m c main_v3 : FVec Ideal S4x2x1024x5632 .bf16) i = (m (c, main_arg3) : FVec Ideal S4x2x1024x5632 .f32) i := by
  unfold V hostOps0; after_results; rfl
theorem host_wo (i : S4x2x2816x1024.Idx) : (V m c main_v4 : FVec Ideal S4x2x2816x1024 .bf16) i = (m (c, main_arg4) : FVec Ideal S4x2x2816x1024 .f32) i := by
  unfold V hostOps0; after_results; rfl
theorem host_o : V m c main_v5 = flatO (m (c, main_arg5)) := by
  unfold V hostOps0; after_results; rfl
theorem host_wm (i : S1024x1024.Idx) : (V m c main_v8 : FVec Ideal S1024x1024 .bf16) i = projOf (m (c, main_arg6)) i := by
  unfold V hostOps0; after_results; rfl
/-! ## The blocks in the arguments -/

theorem x_at (r k : Fin 1024) : (iblk m c 0 t : Vec Ideal S1024x1024 .f32) (ix2 r k) = (m (c, main_arg0) : FVec Ideal S2x16384x1024 .f32)
    (ix3 ⟨(1024 * t.val + r.val) / 16384, by have := lt_points t; omega⟩ ⟨(1024 * t.val + r.val) % 16384, by omega⟩ k) :=
  (iblk_x m c t r k).trans ((congrFun (host_x m c) _).trans (flatX_apply _ _ _))

theorem mods_at (r : Fin 1024) (n : Fin 9) (k : Fin 1024) : (iblk m c 1 t : Vec Ideal S1x9x1024 .f32) (ix3 0 n k)
    = (m (c, main_arg1) : FVec Ideal S2x9x1024 .f32) (ix3 ⟨(1024 * t.val + r.val) / 16384, by have := lt_points t; omega⟩ n k) := by
  have ht := lt_points t
  have hr := r.isLt
  refine (iblk_mods m c t n k).trans ((congrFun (V_main_arg1 m c) _).trans ?_)
  exact congrArg (fun a => (m (c, main_arg1) : FVec Ideal S2x9x1024 .f32) (ix3 a n k)) (Fin.ext (by show t.val / 16 = (1024 * t.val + r.val) / 16384; omega))

theorem g_at (k : Fin 1024) : (iblk m c 2 t : Vec Ideal S1x1024 .f32) (ix2 0 k) = (m (c, main_arg2) : FVec Ideal S4x3x1024 .f32) (ix3 1 2 k) :=
  (iblk_g m c t k).trans ((congrFun (host_g m c) _).trans (rowOf_apply _ _))

theorem wi_at (k : Fin 1024) (f : Fin 5632) : (iblk m c 3 t : Vec Ideal S1x1x1024x5632 .bf16) (ix4 0 0 k f) = (m (c, main_arg3) : FVec Ideal S4x2x1024x5632 .f32) (ix4 1 1 k f) :=
  (iblk_wi m c t k f).trans (host_wi m c _)

theorem wo_at (f : Fin 2816) (k : Fin 1024) : (iblk m c 4 t : Vec Ideal S1x1x2816x1024 .bf16) (ix4 0 0 f k) = (m (c, main_arg4) : FVec Ideal S4x2x2816x1024 .f32) (ix4 1 1 f k) :=
  (iblk_wo m c t f k).trans (host_wo m c _)

theorem o_at (r k : Fin 1024) : (iblk m c 5 t : Vec Ideal S1024x1024 .bf16) (ix2 r k) = (m (c, main_arg5) : FVec Ideal S2x16384x1024 .bf16)
    (ix3 ⟨(1024 * t.val + r.val) / 16384, by have := lt_points t; omega⟩ ⟨(1024 * t.val + r.val) % 16384, by omega⟩ k) :=
  (iblk_o m c t r k).trans ((congrFun (host_o m c) _).trans (flatO_apply _ _ _))

theorem wm_at (k j : Fin 1024) : (iblk m c 6 t : Vec Ideal S1024x1024 .bf16) (ix2 k j) = (m (c, main_arg6) : FVec Ideal S2x1024x1024 .f32) (ix3 0 k j) :=
  (iblk_wm m c t k j).trans ((host_wm m c _).trans (projOf_apply _ _ _))

/-! ## The result -/

/-- The half step of every row of the arguments. -/
def resultOf : S32768x1024.Idx → EReal := fun i =>
  Cert.Reference4Ideal.Ffn.result (m (c, main_arg0)) (m (c, main_arg1)) (m (c, main_arg2)) (m (c, main_arg3)) (m (c, main_arg4)) (m (c, main_arg5)) (m (c, main_arg6))
    ⟨(i 0).val / 16384, by have : (i 0).val < 32768 := (i 0).isLt; omega⟩ ⟨(i 0).val % 16384, by omega⟩ (i 1)

theorem block_at (r j : Fin 1024) : blockV (iblk m c 0 t) (iblk m c 1 t) (iblk m c 2 t) (iblk m c 3 t) (iblk m c 4 t) (iblk m c 5 t) (iblk m c 6 t) (ix2 r j)
    = resultOf m c (ix2 ⟨1024 * t.val + r.val, by have := lt_points t; omega⟩ j) := by
  rw [block_apply]
  simp only [x_at, mods_at m c t r, g_at, wi_at, wo_at, o_at, wm_at]
  rfl

theorem result_eq : (dats m 0 c).arrAt 7 cfg0.N = resultOf m c := by
  refine Dat.arrAt_eq_of_cover (dats m 0 c) 7 (resultOf m c) (fun t _ => ?_) fun i => ?_
  · funext y
    obtain ⟨r, j, rfl⟩ : ∃ (r j : Fin 1024), y = (ix2 r j : S1024x1024.Idx) := ⟨y 0, y 1, funext fun a => by fin_cases a <;> rfl⟩
    refine (congrFun (Value.flushed7_A m c t) _).trans ?_
    refine (congrFun (out_eq ..) (ix2 r j)).trans ?_
    refine (block_at m c t r j).trans ?_
    exact congrArg (resultOf m c) (oblk t r j).symm
  · obtain ⟨q, j, rfl⟩ : ∃ (q : Fin 32768) (j : Fin 1024), i = (ix2 q j : S32768x1024.Idx) := ⟨i 0, i 1, funext fun a => by fin_cases a <;> rfl⟩
    have hq := q.isLt
    refine ⟨⟨q.val / 1024, by show _ < 32; omega⟩, flush0_7 _, ?_⟩
    have e := oblk ⟨q.val / 1024, by show _ < 32; omega⟩ ⟨q.val % 1024, by omega⟩ j
    have e' : (ix2 ⟨1024 * (q.val / 1024) + q.val % 1024, by omega⟩ j : S32768x1024.Idx) = ix2 q j := congrArg (fun a => (ix2 a j : S32768x1024.Idx)) (Fin.ext (by show 1024 * (q.val / 1024) + q.val % 1024 = q.val; omega))
    exact (e.trans e') ▸ View.emb_mem_set _ _

end Blocks

end Cert.Kernel4Ideal.Ffn

end
-- ==== Proof.Ffn5.lean ====
/- The half step after an even layer's output projection of two parts: what one point leaves in its block of rows. -/
module

public import proofs.«01_k».proof.Proof.Ffn3
public import proofs.«01_k».proof.Proof.Gen.Kernel5Ideal.Value

@[expose] public section

set_option maxRecDepth 16384

noncomputable section

namespace Cert.Kernel5Ideal.Ffn

open Cert.Kernel5Ideal Cert.Kernel5Ideal.Gen Cert.Ffn
open Idealize.ShloMosaic Idealize.ShloMosaic.TcCoe Idealize.ShloMosaic.Tactic
open Cert.Kernel2Ideal.Ffn (hidV chunk_eq z2 z4)
open Cert.Kernel3Ideal.Ffn (modsRow modsRow_apply)

/-! ## The body's values at a position -/

/-- The rows plus the gated projection, a product for each part. -/
theorem pay3_apply (x : Vec Ideal S1024x1024 .f32) (o : Vec Ideal S1024x512 .bf16) (w : Vec Ideal S512x1024 .bf16) (o' : Vec Ideal S1024x512 .bf16) (w' : Vec Ideal S512x1024 .bf16) (g : Vec Ideal S1x1x1024 .f32) (r k : Fin 1024) :
    k0_pay3 x o w o' w' g (ix2 r k) = x (ix2 r k) + g (ix3 0 0 k) * ((∑ l : Fin 512, o (ix2 r l) * w (ix2 l k)) + ∑ l : Fin 512, o' (ix2 r l) * w' (ix2 l k)) := by
  pointwise [k0_pay3]

/-- The modulated norm of such rows. -/
theorem pay9_apply (x : Vec Ideal S1024x1024 .f32) (o : Vec Ideal S1024x512 .bf16) (w : Vec Ideal S512x1024 .bf16) (o' : Vec Ideal S1024x512 .bf16) (w' : Vec Ideal S512x1024 .bf16) (g sh sc : Vec Ideal S1x1x1024 .f32)
    (ng : Vec Ideal S1x1024 .f32) (r k : Fin 1024) : k0_pay9 (k0_pay3 x o w o' w' g) (k0_pay4 sh) (k0_pay5 sc) (k0_pay7 ng) (k0_pay8 x o w o' w' g) (ix2 r k)
      = modulated (fun k => k0_pay3 x o w o' w' g (ix2 r k)) (fun k => ng (ix2 0 k)) (fun k => sc (ix3 0 0 k)) (fun k => sh (ix3 0 0 k)) k := by
  unfold modulated rms k0_pay8
  generalize k0_pay3 x o w o' w' g = y
  pointwise [k0_pay9, k0_pay4, k0_pay5, k0_pay7]

/-! ## The block that a point leaves -/

/-- The rows plus the projection. -/
def mixedV (x0 : Vec Ideal S1024x1024 .f32) (x1 : Vec Ideal S1x9x1024 .f32) (x5 x6 : Vec Ideal S1024x512 .bf16) (x7 x8 : Vec Ideal S512x1024 .bf16) : FVec Ideal S1024x1024 .f32 :=
  k0_pay3 x0 x5 x7 x6 x8 (modsRow x1 5 inb_S1x9x1024_S1x1x1024_0_5_0)

/-- Their modulated norm. -/
def normedV (x0 : Vec Ideal S1024x1024 .f32) (x1 : Vec Ideal S1x9x1024 .f32) (x2 : Vec Ideal S1x1024 .f32) (x5 x6 : Vec Ideal S1024x512 .bf16) (x7 x8 : Vec Ideal S512x1024 .bf16) : FVec Ideal S1024x1024 .bf16 :=
  k0_pay9 (mixedV x0 x1 x5 x6 x7 x8) (k0_pay4 (modsRow x1 6 inb_S1x9x1024_S1x1x1024_0_6_0)) (k0_pay5 (modsRow x1 7 inb_S1x9x1024_S1x1x1024_0_7_0)) (k0_pay7 x2)
    (k0_pay8 x0 x5 x7 x6 x8 (modsRow x1 5 inb_S1x9x1024_S1x1x1024_0_5_0))

def blockV (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x512 .bf16) (x7 x8 : Vec Ideal S512x1024 .bf16) : Vec Ideal S1024x1024 .f32 :=
  k0_pay2 (mixedV x0 x1 x5 x6 x7 x8) (k0_pay6 (modsRow x1 8 inb_S1x9x1024_S1x1x1024_0_8_0)) (hidV (normedV x0 x1 x2 x5 x6 x7 x8) x3) x4

set_option maxHeartbeats 4000000 in
theorem out_eq (c : Dev nD) (i : grid0.Coords) (arg1 : Memref sig .tc .vmem S1024x1024 .f32) (harg1 : arg1.IsWhole) (arg2 : Memref sig .tc .vmem S1x9x1024 .f32) (harg2 : arg2.IsWhole)
    (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16)
    (harg5 : arg5.IsWhole) (arg6 : Memref sig .tc .vmem S1024x512 .bf16) (harg6 : arg6.IsWhole) (arg7 : Memref sig .tc .vmem S1024x512 .bf16) (harg7 : arg7.IsWhole)
    (arg8 : Memref sig .tc .vmem S512x1024 .bf16) (harg8 : arg8.IsWhole) (arg9 : Memref sig .tc .vmem S512x1024 .bf16) (harg9 : arg9.IsWhole)
    (arg10 : Memref sig .tc .vmem S1024x1024 .f32) (harg10 : arg10.IsWhole) (arg11 : Memref sig .tc .vmem S1024x2816 .bf16) (harg11 : arg11.IsWhole)
    (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
    (x5 x6 : Vec Ideal S1024x512 .bf16) (x7 x8 : Vec Ideal S512x1024 .bf16) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = blockV x0 x1 x2 x3 x4 x5 x6 x7 x8 := by
  unfold out0_A_9 kernelRun0_A
  dsimp only
  sl_unfold_words
  rw [View.read_writes_junk_eq_canon]
  refine (View.canon_unit_zero z2 _ _).trans ?_
  rw [View.readCov_eq_canon']
  simp only [View.readAt_eq_ld, harg1.read_unread, harg2.read_unread, harg3.read_unread, harg4.read_unread, harg5.read_unread, harg6.read_unread, harg7.read_unread, harg8.read_unread, harg9.read_unread]
  unfold blockV
  have l0 : ∀ {e : EltTy} (x : Vec Ideal S1024x1024 e) inb, View.ld x (Rect.unit (s := S1024x1024) ![0, 0] S1024x1024.size inb) = x := fun x inb => View.ld_unit_zero z2 inb x
  have l2 : ∀ (x : Vec Ideal S1x1024 .f32) inb, View.ld x (Rect.unit (s := S1x1024) ![0, 0] S1x1024.size inb) = x := fun x inb => View.ld_unit_zero z2 inb x
  have l5 : ∀ (x : Vec Ideal S1024x512 .bf16) inb, View.ld x (Rect.unit (s := S1024x512) ![0, 0] S1024x512.size inb) = x := fun x inb => View.ld_unit_zero z2 inb x
  have l7 : ∀ (x : Vec Ideal S512x1024 .bf16) inb, View.ld x (Rect.unit (s := S512x1024) ![0, 0] S512x1024.size inb) = x := fun x inb => View.ld_unit_zero z2 inb x
  have l4 : ∀ inb, View.ld x4 (Rect.unit (s := S1x1x2816x1024) ![0, 0, 0, 0] ![1, 1, 2816, 1024] inb) = x4 := fun inb => View.ld_unit_zero z4 inb x4
  simp only [l0, l2, l4, l5, l7]
  refine congrArg (fun a => k0_pay2 _ _ a _) ?_
  funext j
  obtain ⟨r, f, rfl⟩ : ∃ (r : Fin 1024) (f : Fin 2816), j = ix2 r f := ⟨j 0, j 1, funext fun a => by fin_cases a <;> rfl⟩
  refine (View.canon_apply_of_pieces (hidV (normedV x0 x1 x2 x5 x6 x7 x8) x3) _ ?_ _ ?_).trans ?_
  · intro p hp
    simp only [List.mem_cons, List.not_mem_nil, or_false] at hp
    rcases hp with rfl | rfl | rfl | rfl | rfl | rfl | rfl | rfl | rfl | rfl | rfl
    · exact chunk_eq _ x3 2560 inb_S1024x2816_S1024x256_0_2560 inb_S1x1x1024x5632_S1x1x1024x256_0_0_0_2560 inb_S1x1x1024x5632_S1x1x1024x256_0_0_0_5376
    · exact chunk_eq _ x3 2304 inb_S1024x2816_S1024x256_0_2304 inb_S1x1x1024x5632_S1x1x1024x256_0_0_0_2304 inb_S1x1x1024x5632_S1x1x1024x256_0_0_0_5120
    · exact chunk_eq _ x3 2048 inb_S1024x2816_S1024x256_0_2048 inb_S1x1x1024x5632_S1x1x1024x256_0_0_0_2048 inb_S1x1x1024x5632_S1x1x1024x256_0_0_0_4864
    · exact chunk_eq _ x3 1792 inb_S1024x2816_S1024x256_0_1792 inb_S1x1x1024x5632_S1x1x1024x256_0_0_0_1792 inb_S1x1x1024x5632_S1x1x1024x256_0_0_0_4608
    · exact chunk_eq _ x3 1536 inb_S1024x2816_S1024x256_0_1536 inb_S1x1x1024x5632_S1x1x1024x256_0_0_0_1536 inb_S1x1x1024x5632_S1x1x1024x256_0_0_0_4352
    · exact chunk_eq _ x3 1280 inb_S1024x2816_S1024x256_0_1280 inb_S1x1x1024x5632_S1x1x1024x256_0_0_0_1280 inb_S1x1x1024x5632_S1x1x1024x256_0_0_0_4096
    · exact chunk_eq _ x3 1024 inb_S1024x2816_S1024x256_0_1024 inb_S1x1x1024x5632_S1x1x1024x256_0_0_0_1024 inb_S1x1x1024x5632_S1x1x1024x256_0_0_0_3840
    · exact chunk_eq _ x3 768 inb_S1024x2816_S1024x256_0_768 inb_S1x1x1024x5632_S1x1x1024x256_0_0_0_768 inb_S1x1x1024x5632_S1x1x1024x256_0_0_0_3584
    · exact chunk_eq _ x3 512 inb_S1024x2816_S1024x256_0_512 inb_S1x1x1024x5632_S1x1x1024x256_0_0_0_512 inb_S1x1x1024x5632_S1x1x1024x256_0_0_0_3328
    · exact chunk_eq _ x3 256 inb_S1024x2816_S1024x256_0_256 inb_S1x1x1024x5632_S1x1x1024x256_0_0_0_256 inb_S1x1x1024x5632_S1x1x1024x256_0_0_0_3072
    · exact chunk_eq _ x3 0 inb_S1024x2816_S1024x256_0_0 inb_S1x1x1024x5632_S1x1x1024x256_0_0_0_0 inb_S1x1x1024x5632_S1x1x1024x256_0_0_0_2816
  · exact View.cover_of_tiledL (s := S1024x2816) _ S1024x256.size (by sl_kernel_rfl) _
  · exact congrArg (hidV _ x3) (funext fun a => Fin.ext (by fin_cases a <;> simp [Rect.emb_apply]))

/-! ## The block at a position -/

/-- The places of the two parts' columns side by side. -/
def left (k : Fin 512) : Fin 1024 := ⟨k.val, by omega⟩
def right (k : Fin 512) : Fin 1024 := ⟨512 + k.val, by omega⟩

/-- The row plus the projection of the two parts. -/
abbrev mixedRow (x0 : Vec Ideal S1024x1024 .f32) (x1 : Vec Ideal S1x9x1024 .f32) (x5 x6 : Vec Ideal S1024x512 .bf16) (w : Fin 1024 → Fin 1024 → EReal) (r : Fin 1024) : Fin 1024 → EReal :=
  mixed (fun k => x0 (ix2 r k)) (fun k => x1 (ix3 0 5 k)) (joined (fun k => x5 (ix2 r k)) (fun k => x6 (ix2 r k))) w

section Position

variable (x0 : Vec Ideal S1024x1024 .f32) (x1 : Vec Ideal S1x9x1024 .f32) (x2 : Vec Ideal S1x1024 .f32) (x3 : Vec Ideal S1x1x1024x5632 .bf16) (x4 : Vec Ideal S1x1x2816x1024 .bf16)
  (x5 x6 : Vec Ideal S1024x512 .bf16) (x7 x8 : Vec Ideal S512x1024 .bf16) (w : Fin 1024 → Fin 1024 → EReal)
  (h7 : ∀ (k : Fin 512) (j : Fin 1024), x7 (ix2 k j) = w (left k) j) (h8 : ∀ (k : Fin 512) (j : Fin 1024), x8 (ix2 k j) = w (right k) j) (r : Fin 1024)

include h7 h8

theorem mixed_at (k : Fin 1024) : mixedV x0 x1 x5 x6 x7 x8 (ix2 r k) = mixedRow x0 x1 x5 x6 w r k := by
  unfold mixedV mixedRow mixed
  rw [pay3_apply, modsRow_apply, sum_joined _ _ fun l => w l k]
  simp only [h7, h8]
  rfl

theorem normed_at (k : Fin 1024) : normedV x0 x1 x2 x5 x6 x7 x8 (ix2 r k)
    = modulated (mixedRow x0 x1 x5 x6 w r) (fun k => x2 (ix2 0 k)) (fun k => x1 (ix3 0 7 k)) (fun k => x1 (ix3 0 6 k)) k := by
  refine (pay9_apply x0 x5 x7 x6 x8 _ _ _ x2 r k).trans ?_
  simp only [modsRow_apply]
  exact congrArg (fun z => modulated z _ _ _ k) (funext (mixed_at x0 x1 x5 x6 x7 x8 w h7 h8 r))

theorem block_apply (j : Fin 1024) : blockV x0 x1 x2 x3 x4 x5 x6 x7 x8 (ix2 r j)
      = halfStep (mixedRow x0 x1 x5 x6 w r) (fun k => x2 (ix2 0 k)) (fun k => x1 (ix3 0 7 k)) (fun k => x1 (ix3 0 6 k))
          (fun k => x1 (ix3 0 8 k)) (fun k f => x3 (ix4 0 0 k f)) (fun f k => x4 (ix4 0 0 f k)) j := by
  refine (Cert.Kernel2Ideal.Ffn.pay3_apply _ _ _ x4 r j).trans ?_
  unfold halfStep
  refine congrArg₂ (· + ·) (mixed_at x0 x1 x5 x6 x7 x8 w h7 h8 r j) (congrArg₂ (· * ·) (congrArg (_ * ·) ?_) (Finset.sum_congr rfl fun f _ => congrArg (· * _) ?_))
  · exact (Cert.Kernel2Ideal.Ffn.pay5_apply _ j).trans (modsRow_apply x1 8 _ j)
  · exact congrArg (fun h => hiddenAt h (fun k f => x3 (ix4 0 0 k f)) f) (funext (normed_at x0 x1 x2 x5 x6 x7 x8 w h7 h8 r))

end Position

end Cert.Kernel5Ideal.Ffn

end
-- ==== Proof.Ref5.lean ====
/- The reference's half step after the output projection of an even layer: every entry is the half step of the row plus its projection. -/
module

public import proofs.«01_k».proof.Proof.Ref3
public import proofs.«01_k».proof.Proof.Gen.Reference5Ideal.Run

@[expose] public section

set_option maxRecDepth 16384

noncomputable section

namespace Cert.Reference5Ideal.Ffn

open Cert.Reference5Ideal Cert.Reference5Ideal.Gen Cert.Ffn
open Idealize.ShloMosaic Idealize.ShloMosaic.TcCoe
open Cert.Reference2Ideal.Ffn (spread lift stepOf flat step_apply flat_apply)
open Cert.Reference3Ideal.Ffn (row5 row6 row7 row8 row5_apply row6_apply row7_apply row8_apply)

/-- The two parts of the mixer side by side. -/
def joinO (a b : FVec Ideal S2x16384x512 .bf16) : FVec Ideal S2x16384x1024 .f32 :=
  concatenate S2x16384x1024 2 [⟨S2x16384x512, (extf .f32 a bitsLt_bf16_f32)⟩, ⟨S2x16384x512, (extf .f32 b bitsLt_bf16_f32)⟩] concatenates_S2x16384x512_S2x16384x512_S2x16384x1024_d2

theorem join_apply (a b : FVec Ideal S2x16384x512 .bf16) (n : Fin 2) (t : Fin 16384) (k : Fin 1024) :
    joinO a b (ix3 n t k) = joined (fun k => a (ix3 n t k)) (fun k => b (ix3 n t k)) k := by
  unfold joined
  pointwise [joinO]

/-- The rows plus the gated projection. -/
def plusProj (x : FVec Ideal S2x16384x1024 .f32) (g : FVec Ideal S2x1024 .f32) (o : FVec Ideal S2x16384x1024 .f32) (w : FVec Ideal S1024x1024 .f32) : FVec Ideal S2x16384x1024 .f32 :=
  addf x (mulf (spread (lift g)) (Host.dotGeneral (φ₁ := .f32) (φ₂ := .f32) dot_S2x16384x1024_S1024x1024_S2x16384x1024_2_0_01_1_n_n none o w))

theorem proj_apply (x : FVec Ideal S2x16384x1024 .f32) (g : FVec Ideal S2x1024 .f32) (o : FVec Ideal S2x16384x1024 .f32) (w : FVec Ideal S1024x1024 .f32) (b : Fin 2) (t : Fin 16384) (j : Fin 1024) :
    plusProj x g o w (ix3 b t j) = mixed (fun k => x (ix3 b t k)) (fun k => g (ix2 b k)) (fun k => o (ix3 b t k)) (fun k j => w (ix2 k j)) j := by
  unfold mixed
  pointwise [plusProj, spread, lift]

def rowG (x : FVec Ideal S4x3x1024 .f32) : FVec Ideal S1024 .f32 := shapeCast S1024 (extractStridedSlice S1x1x1024 ![0, 2, 0] x slices_S4x3x1024_S1x1x1024_0_2_0) shapeCasts_S1x1x1024_S1024
def wiOf (x : FVec Ideal S4x2x1024x5632 .f32) : FVec Ideal S1024x5632 .f32 :=
  shapeCast S1024x5632 (extractStridedSlice S1x1x1024x5632 ![0, 1, 0, 0] x slices_S4x2x1024x5632_S1x1x1024x5632_0_1_0_0) shapeCasts_S1x1x1024x5632_S1024x5632
def woOf (x : FVec Ideal S4x2x2816x1024 .f32) : FVec Ideal S2816x1024 .f32 :=
  shapeCast S2816x1024 (extractStridedSlice S1x1x2816x1024 ![0, 1, 0, 0] x slices_S4x2x2816x1024_S1x1x2816x1024_0_1_0_0) shapeCasts_S1x1x2816x1024_S2816x1024
def wmOf (x : FVec Ideal S2x1024x1024 .f32) : FVec Ideal S1024x1024 .f32 :=
  shapeCast S1024x1024 (extractStridedSlice S1x1024x1024 ![0, 0, 0] x slices_S2x1024x1024_S1x1024x1024_0_0_0) shapeCasts_S1x1024x1024_S1024x1024

theorem result_stages (m : (ℓ : Loc nD τ sig) → Buf (Elt Ideal) ℓ) (c : Dev nD) :
    Value.res_main_v57 (F := Ideal) m c = flat (stepOf (plusProj (m (c, main_arg0)) (row5 (m (c, main_arg1))) (joinO (m (c, main_arg5)) (m (c, main_arg6))) (wmOf (m (c, main_arg7))))
      (rowG (m (c, main_arg2))) (row7 (m (c, main_arg1))) (row6 (m (c, main_arg1))) (row8 (m (c, main_arg1))) (wiOf (m (c, main_arg3))) (woOf (m (c, main_arg4)))) := by
  unfold Value.res_main_v57
  rfl

theorem rowG_apply (x : FVec Ideal S4x3x1024 .f32) (j : Fin 1024) : rowG x (ix1 j) = x (ix3 0 2 j) := by pointwise [rowG]
theorem wi_apply (x : FVec Ideal S4x2x1024x5632 .f32) (k : Fin 1024) (f : Fin 5632) : wiOf x (ix2 k f) = x (ix4 0 1 k f) := by pointwise [wiOf]
theorem wo_apply (x : FVec Ideal S4x2x2816x1024 .f32) (f : Fin 2816) (k : Fin 1024) : woOf x (ix2 f k) = x (ix4 0 1 f k) := by pointwise [woOf]
theorem wm_apply (x : FVec Ideal S2x1024x1024 .f32) (k j : Fin 1024) : wmOf x (ix2 k j) = x (ix3 0 k j) := by pointwise [wmOf]

/-- The half step, at every position. -/
def result (a0 : FVec Ideal S2x16384x1024 .f32) (a1 : FVec Ideal S2x9x1024 .f32) (a2 : FVec Ideal S4x3x1024 .f32) (a3 : FVec Ideal S4x2x1024x5632 .f32) (a4 : FVec Ideal S4x2x2816x1024 .f32)
    (a5 a6 : FVec Ideal S2x16384x512 .bf16) (a7 : FVec Ideal S2x1024x1024 .f32) (b : Fin 2) (t : Fin 16384) (j : Fin 1024) : EReal :=
  halfStep (mixed (fun k => a0 (ix3 b t k)) (fun k => a1 (ix3 b 5 k)) (joined (fun k => a5 (ix3 b t k)) (fun k => a6 (ix3 b t k))) (fun k j => a7 (ix3 0 k j))) (fun k => a2 (ix3 0 2 k)) (fun k => a1 (ix3 b 7 k)) (fun k => a1 (ix3 b 6 k))
    (fun k => a1 (ix3 b 8 k)) (fun k f => a3 (ix4 0 1 k f)) (fun f k => a4 (ix4 0 1 f k)) j

theorem result_apply (m : (ℓ : Loc nD τ sig) → Buf (Elt Ideal) ℓ) (c : Dev nD) (r : Fin 32768) (j : Fin 1024) :
    (Value.res_main_v57 (F := Ideal) m c : FVec Ideal S32768x1024 .f32) (ix2 r j)
      = result (m (c, main_arg0)) (m (c, main_arg1)) (m (c, main_arg2)) (m (c, main_arg3)) (m (c, main_arg4)) (m (c, main_arg5)) (m (c, main_arg6)) (m (c, main_arg7))
          ⟨r.val / 16384, by omega⟩ ⟨r.val % 16384, by omega⟩ j := by
  rw [result_stages, flat_apply]
  unfold result
  simp only [step_apply, proj_apply, join_apply, rowG_apply, row5_apply, row6_apply, row7_apply, row8_apply, wi_apply, wo_apply, wm_apply]

end Cert.Reference5Ideal.Ffn

end
-- ==== Proof.FfnValue5.lean ====
/- The half step after an even layer's projection of two parts: every entry of the result is the half step of its row and projection. -/
module

public import proofs.«01_k».proof.Proof.Ffn5
public import proofs.«01_k».proof.Proof.FfnValue
public import proofs.«01_k».proof.Proof.Ref5

@[expose] public section

set_option maxRecDepth 16384

noncomputable section

namespace Cert.Kernel5Ideal.Ffn

open Cert.Kernel5Ideal Cert.Kernel5Ideal.Gen Cert.Ffn
open Idealize.ShloMosaic Idealize.ShloMosaic.TcCoe Idealize.ShloMosaic.StableHlo
open Idealize.ShloMosaic.Pipeline (Dat Cfg Window)
open Cert.Kernel2Ideal.Ffn (flatX flatX_apply)

/-! ## The blocks -/

theorem index_val : ∀ t : Fin grid0.N, win0_0.index t 0 = t.val ∧ win0_0.index t 1 = 0 ∧ win0_1.index t 0 = t.val / 16 ∧ win0_1.index t 1 = 0 ∧ win0_1.index t 2 = 0
    ∧ win0_5.index t 0 = t.val ∧ win0_5.index t 1 = 0 ∧ win0_6.index t 0 = t.val ∧ win0_6.index t 1 = 0 ∧ win0_9.index t 0 = t.val ∧ win0_9.index t 1 = 0 := by decide +kernel

section Blocks

variable (m : (ℓ : Loc nD τ sig) → Buf (Elt Ideal) ℓ) (c : Dev nD) (t : Fin cfg0.N)

theorem lt_points : t.val < 32 := t.isLt

theorem iblk_x (r k : Fin 1024) : (iblk m c 0 t : Vec Ideal S1024x1024 .f32) (ix2 r k) = (V m c main_v3 : FVec Ideal S32768x1024 .f32) (ix2 ⟨1024 * t.val + r.val, by have := lt_points t; omega⟩ k) := by
  obtain ⟨h0, h1, -⟩ := index_val t
  refine congrArg (V m c main_v3) (funext fun a => Fin.ext ?_)
  refine (Window.rect_emb_val (cfg0.win 0) t (ix2 r k) a).trans ?_
  fin_cases a
  · show win0_0.index t 0 * 1024 + r.val = 1024 * t.val + r.val; rw [h0]; omega
  · show win0_0.index t 1 * 1024 + k.val = k.val; rw [h1]; omega

theorem iblk_mods (n : Fin 9) (k : Fin 1024) : (iblk m c 1 t : Vec Ideal S1x9x1024 .f32) (ix3 0 n k)
    = (V m c main_arg1 : FVec Ideal S2x9x1024 .f32) (ix3 ⟨t.val / 16, by have := lt_points t; omega⟩ n k) := by
  obtain ⟨-, -, h0, h1, h2, -⟩ := index_val t
  refine congrArg (V m c main_arg1) (funext fun a => Fin.ext ?_)
  refine (Window.rect_emb_val (cfg0.win 1) t (ix3 0 n k) a).trans ?_
  fin_cases a
  · show win0_1.index t 0 * 1 + 0 = t.val / 16; rw [h0]; omega
  · show win0_1.index t 1 * 9 + n.val = n.val; rw [h1]; omega
  · show win0_1.index t 2 * 1024 + k.val = k.val; rw [h2]; omega

theorem iblk_g (k : Fin 1024) : (iblk m c 2 t : Vec Ideal S1x1024 .f32) (ix2 0 k) = (V m c main_v12 : FVec Ideal S1x1024 .f32) (ix2 0 k) := by
  refine congrArg (V m c main_v12) (funext fun a => Fin.ext ?_)
  refine (Window.rect_emb_val (cfg0.win 2) t (ix2 0 k) a).trans ?_
  fin_cases a
  · rfl
  · show 0 * 1024 + k.val = k.val; omega

theorem iblk_wi (k : Fin 1024) (f : Fin 5632) : (iblk m c 3 t : Vec Ideal S1x1x1024x5632 .bf16) (ix4 0 0 k f) = (V m c main_v6 : FVec Ideal S4x2x1024x5632 .bf16) (ix4 0 1 k f) := by
  refine congrArg (V m c main_v6) (funext fun a => Fin.ext ?_)
  refine (Window.rect_emb_val (cfg0.win 3) t (ix4 0 0 k f) a).trans ?_
  fin_cases a
  · rfl
  · rfl
  · show 0 * 1024 + k.val = k.val; omega
  · show 0 * 5632 + f.val = f.val; omega

theorem iblk_wo (f : Fin 2816) (k : Fin 1024) : (iblk m c 4 t : Vec Ideal S1x1x2816x1024 .bf16) (ix4 0 0 f k) = (V m c main_v7 : FVec Ideal S4x2x2816x1024 .bf16) (ix4 0 1 f k) := by
  refine congrArg (V m c main_v7) (funext fun a => Fin.ext ?_)
  refine (Window.rect_emb_val (cfg0.win 4) t (ix4 0 0 f k) a).trans ?_
  fin_cases a
  · rfl
  · rfl
  · show 0 * 2816 + f.val = f.val; omega
  · show 0 * 1024 + k.val = k.val; omega

theorem iblk_a (r : Fin 1024) (k : Fin 512) : (iblk m c 5 t : Vec Ideal S1024x512 .bf16) (ix2 r k) = (V m c main_v8 : FVec Ideal S32768x512 .bf16) (ix2 ⟨1024 * t.val + r.val, by have := lt_points t; omega⟩ k) := by
  obtain ⟨-, -, -, -, -, h0, h1, -⟩ := index_val t
  refine congrArg (V m c main_v8) (funext fun a => Fin.ext ?_)
  refine (Window.rect_emb_val (cfg0.win 5) t (ix2 r k) a).trans ?_
  fin_cases a
  · show win0_5.index t 0 * 1024 + r.val = 1024 * t.val + r.val; rw [h0]; omega
  · show win0_5.index t 1 * 512 + k.val = k.val; rw [h1]; omega

theorem iblk_y (r : Fin 1024) (k : Fin 512) : (iblk m c 6 t : Vec Ideal S1024x512 .bf16) (ix2 r k) = (V m c main_v10 : FVec Ideal S32768x512 .bf16) (ix2 ⟨1024 * t.val + r.val, by have := lt_points t; omega⟩ k) := by
  obtain ⟨-, -, -, -, -, -, -, h0, h1, -⟩ := index_val t
  refine congrArg (V m c main_v10) (funext fun a => Fin.ext ?_)
  refine (Window.rect_emb_val (cfg0.win 6) t (ix2 r k) a).trans ?_
  fin_cases a
  · show win0_6.index t 0 * 1024 + r.val = 1024 * t.val + r.val; rw [h0]; omega
  · show win0_6.index t 1 * 512 + k.val = k.val; rw [h1]; omega

theorem iblk_w1 (k : Fin 512) (j : Fin 1024) : (iblk m c 7 t : Vec Ideal S512x1024 .bf16) (ix2 k j) = (V m c main_v9 : FVec Ideal S512x1024 .bf16) (ix2 k j) := by
  refine congrArg (V m c main_v9) (funext fun a => Fin.ext ?_)
  refine (Window.rect_emb_val (cfg0.win 7) t (ix2 k j) a).trans ?_
  fin_cases a
  · show 0 * 512 + k.val = k.val; omega
  · show 0 * 1024 + j.val = j.val; omega

theorem iblk_w2 (k : Fin 512) (j : Fin 1024) : (iblk m c 8 t : Vec Ideal S512x1024 .bf16) (ix2 k j) = (V m c main_v11 : FVec Ideal S512x1024 .bf16) (ix2 k j) := by
  refine congrArg (V m c main_v11) (funext fun a => Fin.ext ?_)
  refine (Window.rect_emb_val (cfg0.win 8) t (ix2 k j) a).trans ?_
  fin_cases a
  · show 0 * 512 + k.val = k.val; omega
  · show 0 * 1024 + j.val = j.val; omega

theorem oblk (r j : Fin 1024) : ((cfg0.win 9).blk t).view.emb (ix2 r j : S1024x1024.Idx) = (ix2 ⟨1024 * t.val + r.val, by have := lt_points t; omega⟩ j : S32768x1024.Idx) := by
  obtain ⟨-, -, -, -, -, -, -, -, -, h0, h1⟩ := index_val t
  refine funext fun a => Fin.ext ?_
  refine (Window.rect_emb_val (cfg0.win 9) t (ix2 r j) a).trans ?_
  fin_cases a
  · show win0_9.index t 0 * 1024 + r.val = 1024 * t.val + r.val; rw [h0]; omega
  · show win0_9.index t 1 * 1024 + j.val = j.val; rw [h1]; omega

/-! ## The operands that the host prepares -/

def rowOf (x : FVec Ideal S4x3x1024 .f32) : FVec Ideal S1x1024 .f32 :=
  shapeCast S1x1024 (shapeCast S1024 (extractStridedSlice S1x1x1024 ![0, 2, 0] x slices_S4x3x1024_S1x1x1024_0_2_0 : FVec Ideal S1x1x1024 .f32) shapeCasts_S1x1x1024_S1024 : FVec Ideal S1024 .f32) shapeCasts_S1024_S1x1024
def flatO (x : FVec Ideal S2x16384x512 .bf16) : FVec Ideal S32768x512 .bf16 := shapeCast S32768x512 x shapeCasts_S2x16384x512_S32768x512
def projOf (x : FVec Ideal S2x1024x1024 .f32) : FVec Ideal S1024x1024 .bf16 :=
  truncf .bf16 (shapeCast S1024x1024 (extractStridedSlice S1x1024x1024 ![0, 0, 0] x slices_S2x1024x1024_S1x1024x1024_0_0_0 : FVec Ideal S1x1024x1024 .f32) shapeCasts_S1x1024x1024_S1024x1024 : FVec Ideal S1024x1024 .f32) bitsLt_bf16_f32
def upper (x : FVec Ideal S1024x1024 .bf16) : FVec Ideal S512x1024 .bf16 := extractStridedSlice S512x1024 ![0, 0] x slices_S1024x1024_S512x1024_0_0
def lower (x : FVec Ideal S1024x1024 .bf16) : FVec Ideal S512x1024 .bf16 := extractStridedSlice S512x1024 ![512, 0] x slices_S1024x1024_S512x1024_512_0

theorem flatO_apply (x : FVec Ideal S2x16384x512 .bf16) (r : Fin 32768) (k : Fin 512) : flatO x (ix2 r k) = x (ix3 ⟨r.val / 16384, by omega⟩ ⟨r.val % 16384, by omega⟩ k) := by
  pointwise [flatO]
theorem upper_apply (x : FVec Ideal S1024x1024 .bf16) (k : Fin 512) (j : Fin 1024) : upper x (ix2 k j) = x (ix2 ⟨k.val, by omega⟩ j) := by pointwise [upper]
theorem lower_apply (x : FVec Ideal S1024x1024 .bf16) (k : Fin 512) (j : Fin 1024) : lower x (ix2 k j) = x (ix2 ⟨512 + k.val, by omega⟩ j) := by pointwise [lower]
theorem rowOf_apply (x : FVec Ideal S4x3x1024 .f32) (j : Fin 1024) : rowOf x (ix2 0 j) = x (ix3 0 2 j) := by pointwise [rowOf]
theorem projOf_apply (x : FVec Ideal S2x1024x1024 .f32) (k j : Fin 1024) : projOf x (ix2 k j) = x (ix3 0 k j) := by pointwise [projOf]

theorem host_x : V m c main_v3 = flatX (m (c, main_arg0)) := by
  unfold V hostOps0; after_results; rfl
theorem host_g : V m c main_v12 = rowOf (m (c, main_arg2)) := by
  unfold V hostOps0; after_results; rfl
theorem host_wi (i : S4x2x1024x5632.Idx) : (V m c main_v6 : FVec Ideal S4x2x1024x5632 .bf16) i = (m (c, main_arg3) : FVec Ideal S4x2x1024x5632 .f32) i := by
  unfold V hostOps0; after_results; rfl
theorem host_wo (i : S4x2x2816x1024.Idx) : (V m c main_v7 : FVec Ideal S4x2x2816x1024 .bf16) i = (m (c, main_arg4) : FVec Ideal S4x2x2816x1024 .f32) i := by
  unfold V hostOps0; after_results; rfl
theorem host_a : V m c main_v8 = flatO (m (c, main_arg5)) := by
  unfold V hostOps0; after_results; rfl
theorem host_y : V m c main_v10 = flatO (m (c, main_arg6)) := by
  unfold V hostOps0; after_results; rfl
theorem host_w1 : V m c main_v9 = upper (projOf (m (c, main_arg7))) := by
  unfold V hostOps0; after_results; rfl
theorem host_w2 : V m c main_v11 = lower (projOf (m (c, main_arg7))) := by
  unfold V hostOps0; after_results; rfl

/-! ## The blocks in the arguments -/

theorem x_at (r k : Fin 1024) : (iblk m c 0 t : Vec Ideal S1024x1024 .f32) (ix2 r k) = (m (c, main_arg0) : FVec Ideal S2x16384x1024 .f32)
    (ix3 ⟨(1024 * t.val + r.val) / 16384, by have := lt_points t; omega⟩ ⟨(1024 * t.val + r.val) % 16384, by omega⟩ k) :=
  (iblk_x m c t r k).trans ((congrFun (host_x m c) _).trans (flatX_apply _ _ _))

theorem mods_at (r : Fin 1024) (n : Fin 9) (k : Fin 1024) : (iblk m c 1 t : Vec Ideal S1x9x1024 .f32) (ix3 0 n k)
    = (m (c, main_arg1) : FVec Ideal S2x9x1024 .f32) (ix3 ⟨(1024 * t.val + r.val) / 16384, by have := lt_points t; omega⟩ n k) := by
  have ht := lt_points t
  have hr := r.isLt
  refine (iblk_mods m c t n k).trans ((congrFun (V_main_arg1 m c) _).trans ?_)
  exact congrArg (fun a => (m (c, main_arg1) : FVec Ideal S2x9x1024 .f32) (ix3 a n k)) (Fin.ext (by show t.val / 16 = (1024 * t.val + r.val) / 16384; omega))

theorem g_at (k : Fin 1024) : (iblk m c 2 t : Vec Ideal S1x1024 .f32) (ix2 0 k) = (m (c, main_arg2) : FVec Ideal S4x3x1024 .f32) (ix3 0 2 k) :=
  (iblk_g m c t k).trans ((congrFun (host_g m c) _).trans (rowOf_apply _ _))

theorem wi_at (k : Fin 1024) (f : Fin 5632) : (iblk m c 3 t : Vec Ideal S1x1x1024x5632 .bf16) (ix4 0 0 k f) = (m (c, main_arg3) : FVec Ideal S4x2x1024x5632 .f32) (ix4 0 1 k f) :=
  (iblk_wi m c t k f).trans (host_wi m c _)

theorem wo_at (f : Fin 2816) (k : Fin 1024) : (iblk m c 4 t : Vec Ideal S1x1x2816x1024 .bf16) (ix4 0 0 f k) = (m (c, main_arg4) : FVec Ideal S4x2x2816x1024 .f32) (ix4 0 1 f k) :=
  (iblk_wo m c t f k).trans (host_wo m c _)

theorem a_at (r : Fin 1024) (k : Fin 512) : (iblk m c 5 t : Vec Ideal S1024x512 .bf16) (ix2 r k) = (m (c, main_arg5) : FVec Ideal S2x16384x512 .bf16)
    (ix3 ⟨(1024 * t.val + r.val) / 16384, by have := lt_points t; omega⟩ ⟨(1024 * t.val + r.val) % 16384, by omega⟩ k) :=
  (iblk_a m c t r k).trans ((congrFun (host_a m c) _).trans (flatO_apply _ _ _))

theorem y_at (r : Fin 1024) (k : Fin 512) : (iblk m c 6 t : Vec Ideal S1024x512 .bf16) (ix2 r k) = (m (c, main_arg6) : FVec Ideal S2x16384x512 .bf16)
    (ix3 ⟨(1024 * t.val + r.val) / 16384, by have := lt_points t; omega⟩ ⟨(1024 * t.val + r.val) % 16384, by omega⟩ k) :=
  (iblk_y m c t r k).trans ((congrFun (host_y m c) _).trans (flatO_apply _ _ _))

theorem w1_at (k : Fin 512) (j : Fin 1024) : (iblk m c 7 t : Vec Ideal S512x1024 .bf16) (ix2 k j) = (m (c, main_arg7) : FVec Ideal S2x1024x1024 .f32) (ix3 0 ⟨k.val, by omega⟩ j) :=
  (iblk_w1 m c t k j).trans ((congrFun (host_w1 m c) _).trans ((upper_apply _ _ _).trans (projOf_apply _ _ _)))

theorem w2_at (k : Fin 512) (j : Fin 1024) : (iblk m c 8 t : Vec Ideal S512x1024 .bf16) (ix2 k j) = (m (c, main_arg7) : FVec Ideal S2x1024x1024 .f32) (ix3 0 ⟨512 + k.val, by omega⟩ j) :=
  (iblk_w2 m c t k j).trans ((congrFun (host_w2 m c) _).trans ((lower_apply _ _ _).trans (projOf_apply _ _ _)))

/-! ## The result -/

/-- The half step of every row of the arguments. -/
def resultOf : S32768x1024.Idx → EReal := fun i =>
  Cert.Reference5Ideal.Ffn.result (m (c, main_arg0)) (m (c, main_arg1)) (m (c, main_arg2)) (m (c, main_arg3)) (m (c, main_arg4)) (m (c, main_arg5)) (m (c, main_arg6)) (m (c, main_arg7))
    ⟨(i 0).val / 16384, by have : (i 0).val < 32768 := (i 0).isLt; omega⟩ ⟨(i 0).val % 16384, by omega⟩ (i 1)

theorem block_at (r j : Fin 1024) : blockV (iblk m c 0 t) (iblk m c 1 t) (iblk m c 2 t) (iblk m c 3 t) (iblk m c 4 t) (iblk m c 5 t) (iblk m c 6 t) (iblk m c 7 t) (iblk m c 8 t) (ix2 r j)
    = resultOf m c (ix2 ⟨1024 * t.val + r.val, by have := lt_points t; omega⟩ j) := by
  rw [block_apply _ _ _ _ _ _ _ _ _ (fun k j => (m (c, main_arg7) : FVec Ideal S2x1024x1024 .f32) (ix3 0 k j)) (w1_at m c t) (w2_at m c t)]
  unfold mixedRow
  simp only [x_at, mods_at m c t r, g_at, wi_at, wo_at, a_at, y_at]
  rfl

theorem result_eq : (dats m 0 c).arrAt 9 cfg0.N = resultOf m c := by
  refine Dat.arrAt_eq_of_cover (dats m 0 c) 9 (resultOf m c) (fun t _ => ?_) fun i => ?_
  · funext y
    obtain ⟨r, j, rfl⟩ : ∃ (r j : Fin 1024), y = (ix2 r j : S1024x1024.Idx) := ⟨y 0, y 1, funext fun a => by fin_cases a <;> rfl⟩
    refine (congrFun (Value.flushed9_A m c t) _).trans ?_
    refine (congrFun (out_eq ..) (ix2 r j)).trans ?_
    refine (block_at m c t r j).trans ?_
    exact congrArg (resultOf m c) (oblk t r j).symm
  · obtain ⟨q, j, rfl⟩ : ∃ (q : Fin 32768) (j : Fin 1024), i = (ix2 q j : S32768x1024.Idx) := ⟨i 0, i 1, funext fun a => by fin_cases a <;> rfl⟩
    have hq := q.isLt
    refine ⟨⟨q.val / 1024, by show _ < 32; omega⟩, flush0_9 _, ?_⟩
    have e := oblk ⟨q.val / 1024, by show _ < 32; omega⟩ ⟨q.val % 1024, by omega⟩ j
    have e' : (ix2 ⟨1024 * (q.val / 1024) + q.val % 1024, by omega⟩ j : S32768x1024.Idx) = ix2 q j := congrArg (fun a => (ix2 a j : S32768x1024.Idx)) (Fin.ext (by show 1024 * (q.val / 1024) + q.val % 1024 = q.val; omega))
    exact (e.trans e') ▸ View.emb_mem_set _ _

end Blocks

end Cert.Kernel5Ideal.Ffn

end
-- ==== Proof.lean ====
/- The claim's proof. -/
module

public import proofs.«01_k».proof.Defs
public import proofs.«01_k».proof.Proof.KRegion
public import proofs.«01_k».proof.Proof.Value
public import proofs.«01_k».proof.Proof.Ref
public import proofs.«01_k».proof.Proof.Pre
public import proofs.«01_k».proof.Proof.Gen.ReferenceIdeal.Run
public import proofs.«01_k».proof.Proof.FfnValue3
public import proofs.«01_k».proof.Proof.FfnValue4
public import proofs.«01_k».proof.Proof.FfnValue5
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame

@[expose] public section

namespace Cert.Proof

open Idealize.ShloMosaic Idealize.ShloMosaic.TcCoe

theorem frame_kernel : Cert.quiescent_Kernel := fun m ρ _ =>
  (θ_run Cert.Kernel.defs _ _).mono (fun _ h => ⟨fun c => (h.1 c).2, h.2⟩) (Cert.Kernel.Att.run_result (F := Bits) m ρ)

theorem frame_ideal : Cert.quiescent_KernelIdeal := fun m ρ _ =>
  (θ_run Cert.KernelIdeal.defs _ _).mono (fun _ h => ⟨fun c => (h.1 c).2, h.2⟩) (Cert.KernelIdeal.Att.run_result (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem named : Cert.preserves_Kernel_KernelIdeal :=
  IdealRules.named_const.statement Cert.KernelIdeal.κ "mask" .f32 0xF149F2CA#32 ⊥ rfl

/-! ## The value claim -/

section Real

variable (m : (ℓ : Loc Cert.KernelIdeal.nD Cert.KernelIdeal.τ Cert.KernelIdeal.sig) → Buf (Elt Ideal) ℓ) (c : Dev Cert.KernelIdeal.nD)

/-- The arguments' entries as real numbers. -/
noncomputable def qn (b : Fin 2) (t : Fin 16384) (h : Fin 8) (d : Fin 64) : ℝ := EReal.toReal ((m (c, Cert.KernelIdeal.main_arg0) : FVec Ideal Cert.KernelIdeal.S2x16384x8x64 .bf16) (ix4 b t h d))
noncomputable def qr (b : Fin 2) (t : Fin 16384) (h : Fin 8) (d : Fin 32) : ℝ := EReal.toReal ((m (c, Cert.KernelIdeal.main_arg1) : FVec Ideal Cert.KernelIdeal.S2x16384x8x32 .bf16) (ix4 b t h d))
noncomputable def kn (b : Fin 2) (t : Fin 16384) (h : Fin 8) (d : Fin 64) : ℝ := EReal.toReal ((m (c, Cert.KernelIdeal.main_arg2) : FVec Ideal Cert.KernelIdeal.S2x16384x8x64 .bf16) (ix4 b t h d))
noncomputable def kr (b : Fin 2) (t : Fin 16384) (d : Fin 32) : ℝ := EReal.toReal ((m (c, Cert.KernelIdeal.main_arg3) : FVec Ideal Cert.KernelIdeal.S2x16384x32 .bf16) (ix3 b t d))
noncomputable def va (b : Fin 2) (t : Fin 16384) (h : Fin 8) (d : Fin 64) : ℝ := EReal.toReal ((m (c, Cert.KernelIdeal.main_arg4) : FVec Ideal Cert.KernelIdeal.S2x16384x8x64 .bf16) (ix4 b t h d))

/-- What both programs leave: the attention of the real arguments. -/
noncomputable def common : Cert.KernelIdeal.S2x16384x512.Idx → EReal := Cert.KernelIdeal.Att.attOf (qn m c) (qr m c) (kn m c) (kr m c) (va m c)

theorem args_real (hp : Cert.Pre_KernelIdeal_finite (hPre_finite := Cert.Pre_finite.Att.facts) m) : Cert.KernelIdeal.Att.Args m c (qn m c) (qr m c) (kn m c) (kr m c) (va m c) := by
  obtain ⟨h0, h1, h2, h3, h4⟩ := @Cert.Pre_finite.Att.real_args Cert.Pre_finite.Att.facts _ _ _ _ _ (hp c)
  exact ⟨fun b t h d => h0 (ix4 b t h d), fun b t h d => h1 (ix4 b t h d), fun b t h d => h2 (ix4 b t h d), fun b t d => h3 (ix3 b t d), fun b t h d => h4 (ix4 b t h d)⟩

theorem reference_value (H : Cert.KernelIdeal.Att.Args m c (qn m c) (qr m c) (kn m c) (kr m c) (va m c))
    (m' : (ℓ : Loc Cert.ReferenceIdeal.nD Cert.ReferenceIdeal.τ Cert.ReferenceIdeal.sig) → Buf (Elt Ideal) ℓ)
    (e0 : m' (c, Cert.ReferenceIdeal.main_arg0) = m (c, Cert.KernelIdeal.main_arg0)) (e1 : m' (c, Cert.ReferenceIdeal.main_arg1) = m (c, Cert.KernelIdeal.main_arg1))
    (e2 : m' (c, Cert.ReferenceIdeal.main_arg2) = m (c, Cert.KernelIdeal.main_arg2)) (e3 : m' (c, Cert.ReferenceIdeal.main_arg3) = m (c, Cert.KernelIdeal.main_arg3))
    (e4 : m' (c, Cert.ReferenceIdeal.main_arg4) = m (c, Cert.KernelIdeal.main_arg4)) : Cert.ReferenceIdeal.Value.res_main_v33 (F := Ideal) m' c = common m c := by
  refine (Cert.ReferenceIdeal.Att.result_stages m' c).trans ?_
  funext i
  have ei : i = ix3 (i 0) (i 1) (i 2) := by
    funext a
    fin_cases a <;> rfl
  refine (congrArg _ ei).trans ?_
  exact Cert.ReferenceIdeal.Att.result_apply (fun b t h d => (congrFun e0 _).trans (H.qn b t h d)) (fun b t h d => (congrFun e1 _).trans (H.qr b t h d))
    (fun b t h d => (congrFun e2 _).trans (H.kn b t h d)) (fun b t d => (congrFun e3 _).trans (H.kr b t d)) (fun b t h d => (congrFun e4 _).trans (H.v b t h d)) (i 0) (i 1) (i 2)

end Real

theorem values : Cert.algebraic_KernelIdeal_ReferenceIdeal_pre_finite (hPre_finite := Cert.Pre_finite.Att.facts) := fun m g m' g' hp he =>
  ⟨common m,
    (θ_run Cert.KernelIdeal.defs _ _).mono (fun _ h c => ⟨(h.1 c).1.trans (Cert.KernelIdeal.Att.result_eq (args_real m c hp)), (h.1 c).2⟩)
      (Cert.KernelIdeal.Att.run_result (F := Ideal) m g),
    (θ_run Cert.ReferenceIdeal.defs _ _).mono (fun _ h c => ⟨(h c).1.trans (reference_value m c (args_real m c hp) m' (he c).1 (he c).2.1 (he c).2.2.1 (he c).2.2.2.1 (he c).2.2.2.2), (h c).2⟩)
      (Cert.ReferenceIdeal.Value.run (F := Ideal) m' g')⟩

/-! ## The feed-forward half step -/

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference_value2 (m : (ℓ : Loc Cert.Kernel2Ideal.nD Cert.Kernel2Ideal.τ Cert.Kernel2Ideal.sig) → Buf (Elt Ideal) ℓ) (c : Dev Cert.Kernel2Ideal.nD)
    (m' : (ℓ : Loc Cert.Reference2Ideal.nD Cert.Reference2Ideal.τ Cert.Reference2Ideal.sig) → Buf (Elt Ideal) ℓ)
    (e0 : m' (c, Cert.Reference2Ideal.main_arg0) = m (c, Cert.Kernel2Ideal.main_arg0)) (e1 : m' (c, Cert.Reference2Ideal.main_arg1) = m (c, Cert.Kernel2Ideal.main_arg1))
    (e2 : m' (c, Cert.Reference2Ideal.main_arg2) = m (c, Cert.Kernel2Ideal.main_arg2)) (e3 : m' (c, Cert.Reference2Ideal.main_arg3) = m (c, Cert.Kernel2Ideal.main_arg3))
    (e4 : m' (c, Cert.Reference2Ideal.main_arg4) = m (c, Cert.Kernel2Ideal.main_arg4)) :
    Cert.Reference2Ideal.Value.res_main_v45 (F := Ideal) m' c = Cert.Kernel2Ideal.Ffn.resultOf m c := by
  funext i
  obtain ⟨q, j, rfl⟩ : ∃ (q : Fin 32768) (j : Fin 1024), i = (ix2 q j : Cert.Kernel2Ideal.S32768x1024.Idx) := ⟨i 0, i 1, funext fun a => by fin_cases a <;> rfl⟩
  refine (Cert.Reference2Ideal.Ffn.result_apply m' c q j).trans ?_
  rw [e0, e1, e2, e3, e4]
  rfl

theorem values2 : Cert.algebraic_Kernel2Ideal_Reference2Ideal := fun m g m' g' _ he =>
  ⟨Cert.Kernel2Ideal.Ffn.resultOf m,
    (θ_run Cert.Kernel2Ideal.defs _ _).mono (fun _ h c => ⟨(h c).1.trans (Cert.Kernel2Ideal.Ffn.result_eq m c), (h c).2⟩) (Cert.Kernel2Ideal.Value.run_blocks (F := Ideal) m g),
    (θ_run Cert.Reference2Ideal.defs _ _).mono (fun _ h c => ⟨(h c).1.trans (reference_value2 m c m' (he c).1 (he c).2.1 (he c).2.2.1 (he c).2.2.2.1 (he c).2.2.2.2), (h c).2⟩)
      (Cert.Reference2Ideal.Value.run (F := Ideal) m' g')⟩

/-! ## The half step with the output projection and the final norm -/

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem reference_value3 (m : (ℓ : Loc Cert.Kernel3Ideal.nD Cert.Kernel3Ideal.τ Cert.Kernel3Ideal.sig) → Buf (Elt Ideal) ℓ) (c : Dev Cert.Kernel3Ideal.nD)
    (m' : (ℓ : Loc Cert.Reference3Ideal.nD Cert.Reference3Ideal.τ Cert.Reference3Ideal.sig) → Buf (Elt Ideal) ℓ)
    (e0 : m' (c, Cert.Reference3Ideal.main_arg0) = m (c, Cert.Kernel3Ideal.main_arg0)) (e1 : m' (c, Cert.Reference3Ideal.main_arg1) = m (c, Cert.Kernel3Ideal.main_arg1))
    (e2 : m' (c, Cert.Reference3Ideal.main_arg2) = m (c, Cert.Kernel3Ideal.main_arg2)) (e3 : m' (c, Cert.Reference3Ideal.main_arg3) = m (c, Cert.Kernel3Ideal.main_arg3))
    (e4 : m' (c, Cert.Reference3Ideal.main_arg4) = m (c, Cert.Kernel3Ideal.main_arg4)) (e5 : m' (c, Cert.Reference3Ideal.main_arg5) = m (c, Cert.Kernel3Ideal.main_arg5))
    (e6 : m' (c, Cert.Reference3Ideal.main_arg6) = m (c, Cert.Kernel3Ideal.main_arg6)) (e7 : m' (c, Cert.Reference3Ideal.main_arg7) = m (c, Cert.Kernel3Ideal.main_arg7)) :
    Cert.Reference3Ideal.Value.res_main_v68 (F := Ideal) m' c = Cert.Kernel3Ideal.Ffn.resultOf m c := by
  funext i
  obtain ⟨q, j, rfl⟩ : ∃ (q : Fin 32768) (j : Fin 1024), i = (ix2 q j : Cert.Kernel3Ideal.S32768x1024.Idx) := ⟨i 0, i 1, funext fun a => by fin_cases a <;> rfl⟩
  refine (Cert.Reference3Ideal.Ffn.result_apply m' c q j).trans ?_
  rw [e0, e1, e2, e3, e4, e5, e6, e7]
  rfl

theorem values3 : Cert.algebraic_Kernel3Ideal_Reference3Ideal := fun m g m' g' _ he =>
  ⟨Cert.Kernel3Ideal.Ffn.resultOf m,
    (θ_run Cert.Kernel3Ideal.defs _ _).mono (fun _ h c => ⟨(h c).1.trans (Cert.Kernel3Ideal.Ffn.result_eq m c), (h c).2⟩) (Cert.Kernel3Ideal.Value.run_blocks (F := Ideal) m g),
    (θ_run Cert.Reference3Ideal.defs _ _).mono (fun _ h c => ⟨(h c).1.trans (let e := he c
        reference_value3 m c m' e.1 e.2.1 e.2.2.1 e.2.2.2.1 e.2.2.2.2.1 e.2.2.2.2.2.1 e.2.2.2.2.2.2.1 e.2.2.2.2.2.2.2), (h c).2⟩)
      (Cert.Reference3Ideal.Value.run (F := Ideal) m' g')⟩

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem reference_value4 (m : (ℓ : Loc Cert.Kernel4Ideal.nD Cert.Kernel4Ideal.τ Cert.Kernel4Ideal.sig) → Buf (Elt Ideal) ℓ) (c : Dev Cert.Kernel4Ideal.nD)
    (m' : (ℓ : Loc Cert.Reference4Ideal.nD Cert.Reference4Ideal.τ Cert.Reference4Ideal.sig) → Buf (Elt Ideal) ℓ)
    (e0 : m' (c, Cert.Reference4Ideal.main_arg0) = m (c, Cert.Kernel4Ideal.main_arg0)) (e1 : m' (c, Cert.Reference4Ideal.main_arg1) = m (c, Cert.Kernel4Ideal.main_arg1))
    (e2 : m' (c, Cert.Reference4Ideal.main_arg2) = m (c, Cert.Kernel4Ideal.main_arg2)) (e3 : m' (c, Cert.Reference4Ideal.main_arg3) = m (c, Cert.Kernel4Ideal.main_arg3))
    (e4 : m' (c, Cert.Reference4Ideal.main_arg4) = m (c, Cert.Kernel4Ideal.main_arg4)) (e5 : m' (c, Cert.Reference4Ideal.main_arg5) = m (c, Cert.Kernel4Ideal.main_arg5))
    (e6 : m' (c, Cert.Reference4Ideal.main_arg6) = m (c, Cert.Kernel4Ideal.main_arg6)) :
    Cert.Reference4Ideal.Value.res_main_v55 (F := Ideal) m' c = Cert.Kernel4Ideal.Ffn.resultOf m c := by
  funext i
  obtain ⟨q, j, rfl⟩ : ∃ (q : Fin 32768) (j : Fin 1024), i = (ix2 q j : Cert.Kernel4Ideal.S32768x1024.Idx) := ⟨i 0, i 1, funext fun a => by fin_cases a <;> rfl⟩
  refine (Cert.Reference4Ideal.Ffn.result_apply m' c q j).trans ?_
  rw [e0, e1, e2, e3, e4, e5, e6]
  rfl

theorem values4 : Cert.algebraic_Kernel4Ideal_Reference4Ideal := fun m g m' g' _ he =>
  ⟨Cert.Kernel4Ideal.Ffn.resultOf m,
    (θ_run Cert.Kernel4Ideal.defs _ _).mono (fun _ h c => ⟨(h c).1.trans (Cert.Kernel4Ideal.Ffn.result_eq m c), (h c).2⟩) (Cert.Kernel4Ideal.Value.run_blocks (F := Ideal) m g),
    (θ_run Cert.Reference4Ideal.defs _ _).mono (fun _ h c => ⟨(h c).1.trans (let e := he c
        reference_value4 m c m' e.1 e.2.1 e.2.2.1 e.2.2.2.1 e.2.2.2.2.1 e.2.2.2.2.2.1 e.2.2.2.2.2.2), (h c).2⟩)
      (Cert.Reference4Ideal.Value.run (F := Ideal) m' g')⟩

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem reference_value5 (m : (ℓ : Loc Cert.Kernel5Ideal.nD Cert.Kernel5Ideal.τ Cert.Kernel5Ideal.sig) → Buf (Elt Ideal) ℓ) (c : Dev Cert.Kernel5Ideal.nD)
    (m' : (ℓ : Loc Cert.Reference5Ideal.nD Cert.Reference5Ideal.τ Cert.Reference5Ideal.sig) → Buf (Elt Ideal) ℓ)
    (e0 : m' (c, Cert.Reference5Ideal.main_arg0) = m (c, Cert.Kernel5Ideal.main_arg0)) (e1 : m' (c, Cert.Reference5Ideal.main_arg1) = m (c, Cert.Kernel5Ideal.main_arg1))
    (e2 : m' (c, Cert.Reference5Ideal.main_arg2) = m (c, Cert.Kernel5Ideal.main_arg2)) (e3 : m' (c, Cert.Reference5Ideal.main_arg3) = m (c, Cert.Kernel5Ideal.main_arg3))
    (e4 : m' (c, Cert.Reference5Ideal.main_arg4) = m (c, Cert.Kernel5Ideal.main_arg4)) (e5 : m' (c, Cert.Reference5Ideal.main_arg5) = m (c, Cert.Kernel5Ideal.main_arg5))
    (e6 : m' (c, Cert.Reference5Ideal.main_arg6) = m (c, Cert.Kernel5Ideal.main_arg6)) (e7 : m' (c, Cert.Reference5Ideal.main_arg7) = m (c, Cert.Kernel5Ideal.main_arg7)) :
    Cert.Reference5Ideal.Value.res_main_v57 (F := Ideal) m' c = Cert.Kernel5Ideal.Ffn.resultOf m c := by
  funext i
  obtain ⟨q, j, rfl⟩ : ∃ (q : Fin 32768) (j : Fin 1024), i = (ix2 q j : Cert.Kernel5Ideal.S32768x1024.Idx) := ⟨i 0, i 1, funext fun a => by fin_cases a <;> rfl⟩
  refine (Cert.Reference5Ideal.Ffn.result_apply m' c q j).trans ?_
  rw [e0, e1, e2, e3, e4, e5, e6, e7]
  rfl

theorem values5 : Cert.algebraic_Kernel5Ideal_Reference5Ideal := fun m g m' g' _ he =>
  ⟨Cert.Kernel5Ideal.Ffn.resultOf m,
    (θ_run Cert.Kernel5Ideal.defs _ _).mono (fun _ h c => ⟨(h c).1.trans (Cert.Kernel5Ideal.Ffn.result_eq m c), (h c).2⟩) (Cert.Kernel5Ideal.Value.run_blocks (F := Ideal) m g),
    (θ_run Cert.Reference5Ideal.defs _ _).mono (fun _ h c => ⟨(h c).1.trans (let e := he c
        reference_value5 m c m' e.1 e.2.1 e.2.2.1 e.2.2.2.1 e.2.2.2.2.1 e.2.2.2.2.2.1 e.2.2.2.2.2.2.1 e.2.2.2.2.2.2.2), (h c).2⟩)
      (Cert.Reference5Ideal.Value.run (F := Ideal) m' g')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Att.facts, frame_kernel, frame_ideal, fun m ρ _ => frame_ideal m ρ trivial,
    frame_reference, fun m ρ _ => frame_reference m ρ trivial, frame_kernel2, frame_ideal2, frame_reference2, frame_kernel3, frame_ideal3, frame_reference3, frame_kernel4, frame_ideal4, frame_reference4, frame_kernel5, frame_ideal5, frame_reference5, named, values, trivial, values2, trivial, values3, trivial, values4, trivial, values5⟩

end Cert.Proof
